-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x8192 : Shape := ⟨3, ![8, 1, 8192]⟩
abbrev S8192x7424 : Shape := ⟨2, ![8192, 7424]⟩
abbrev S7424 : Shape := ⟨1, ![7424]⟩
abbrev S3712x8192 : Shape := ⟨2, ![3712, 8192]⟩
abbrev S8192 : Shape := ⟨1, ![8192]⟩
abbrev S8x8192 : Shape := ⟨2, ![8, 8192]⟩
abbrev S58x128 : Shape := ⟨2, ![58, 128]⟩
abbrev S1x8192 : Shape := ⟨2, ![1, 8192]⟩
abbrev S1x8 : Shape := ⟨2, ![1, 8]⟩
abbrev S8x3712 : Shape := ⟨2, ![8, 3712]⟩
abbrev S8x256x7424 : Shape := ⟨3, ![8, 256, 7424]⟩
abbrev S32x32x256 : Shape := ⟨3, ![32, 32, 256]⟩
abbrev S15x32x256 : Shape := ⟨3, ![15, 32, 256]⟩
abbrev S8x7424 : Shape := ⟨2, ![8, 7424]⟩
abbrev S3 : Shape := ⟨1, ![3]⟩
abbrev S8 : Shape := ⟨1, ![8]⟩
abbrev S15 : Shape := ⟨1, ![15]⟩
abbrev S5 : Shape := ⟨1, ![5]⟩
abbrev S1 : Shape := ⟨1, ![1]⟩
abbrev S_ : Shape := ⟨0, ![]⟩
abbrev S1x256x7424 : Shape := ⟨3, ![1, 256, 7424]⟩
abbrev S256x7424 : Shape := ⟨2, ![256, 7424]⟩
abbrev S8x1 : Shape := ⟨2, ![8, 1]⟩
abbrev S8x256 : Shape := ⟨2, ![8, 256]⟩
abbrev S24x256 : Shape := ⟨2, ![24, 256]⟩
abbrev S32x256 : Shape := ⟨2, ![32, 256]⟩
abbrev S1x32x256 : Shape := ⟨3, ![1, 32, 256]⟩
abbrev S8x128 : Shape := ⟨2, ![8, 128]⟩
abbrev S128 : Shape := ⟨1, ![128]⟩
abbrev S1x128 : Shape := ⟨2, ![1, 128]⟩
abbrev S32x7424 : Shape := ⟨2, ![32, 7424]⟩
abbrev S256x8192 : Shape := ⟨2, ![256, 8192]⟩
abbrev S128x8192 : Shape := ⟨2, ![128, 8192]⟩
abbrev S8x128x1 : Shape := ⟨3, ![8, 128, 1]⟩
abbrev S24x128 : Shape := ⟨2, ![24, 128]⟩
abbrev S32x128 : Shape := ⟨2, ![32, 128]⟩
abbrev S1x32x128 : Shape := ⟨3, ![1, 32, 128]⟩
abbrev S32x8192 : Shape := ⟨2, ![32, 8192]⟩

abbrev nBuf : Space → Nat
  | .hbm => 13
  | .vmem => 15
  | .smem => 0
  | _ => 0

abbrev bufTy : (tb : Table) → Fin (tcTables nBuf tb) → BufTy
  | .hbm, ⟨0, _⟩ => ⟨S8x1x8192, .bf16⟩
  | .hbm, ⟨1, _⟩ => ⟨S8192x7424, .fp8e4m3⟩
  | .hbm, ⟨2, _⟩ => ⟨S7424, .f32⟩
  | .hbm, ⟨3, _⟩ => ⟨S3712x8192, .fp8e4m3⟩
  | .hbm, ⟨4, _⟩ => ⟨S8192, .f32⟩
  | .hbm, ⟨5, _⟩ => ⟨S8x8192, .bf16⟩
  | .hbm, ⟨6, _⟩ => ⟨S58x128, .f32⟩
  | .hbm, ⟨7, _⟩ => ⟨S1x8192, .f32⟩
  | .hbm, ⟨8, _⟩ => ⟨S8x8192, .bf16⟩
  | .hbm, ⟨9, _⟩ => ⟨S8x8192, .fp8e4m3⟩
  | .hbm, ⟨10, _⟩ => ⟨S1x8, .f32⟩
  | .hbm, ⟨11, _⟩ => ⟨S8x3712, .fp8e4m3⟩
  | .hbm, ⟨12, _⟩ => ⟨S1x8, .f32⟩
  | .local _ .vmem, ⟨0, _⟩ => ⟨S8x8192, .bf16⟩
  | .local _ .vmem, ⟨1, _⟩ => ⟨S58x128, .f32⟩
  | .local _ .vmem, ⟨2, _⟩ => ⟨S1x8192, .f32⟩
  | .local _ .vmem, ⟨3, _⟩ => ⟨S8x256x7424, .fp8e4m3⟩
  | .local _ .vmem, ⟨4, _⟩ => ⟨S3712x8192, .fp8e4m3⟩
  | .local _ .vmem, ⟨5, _⟩ => ⟨S32x32x256, .fp8e4m3⟩
  | .local _ .vmem, ⟨6, _⟩ => ⟨S15x32x256, .fp8e4m3⟩
  | .local _ .vmem, ⟨7, _⟩ => ⟨S8x7424, .f32⟩
  | .local _ .vmem, ⟨8, _⟩ => ⟨S8x8192, .f32⟩
  | .local _ .vmem, ⟨9, _⟩ => ⟨S8x3712, .f32⟩
  | .local _ .vmem, ⟨10, _⟩ => ⟨S8x8192, .bf16⟩
  | .local _ .vmem, ⟨11, _⟩ => ⟨S8x8192, .fp8e4m3⟩
  | .local _ .vmem, ⟨12, _⟩ => ⟨S1x8, .f32⟩
  | .local _ .vmem, ⟨13, _⟩ => ⟨S8x3712, .fp8e4m3⟩
  | .local _ .vmem, ⟨14, _⟩ => ⟨S1x8, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
@[reducible] def k0_t1_loop : Scf.Loop 32 :=
  let c0_i32_172 : BitVec 32 := 0#32
  let c32_i32_173 : BitVec 32 := 32#32
  let v406 : BitVec 32 := Scalar.addi c0_i32_172 c32_i32_173
  let c1_i32_174 : BitVec 32 := 1#32
  ⟨c0_i32_172, v406, c1_i32_174⟩
def k0_mult9 (k0_t1 : Fin k0_t1_loop.trips) : BitVec 32 :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c256_i32_1038 : BitVec 32 := 256#32
  let v2902 : BitVec 32 := Scalar.muli v2900 c256_i32_1038
  v2902
def k0_off1 (k0_t1 : Fin k0_t1_loop.trips) : Fin 1 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1037 : BitVec 32 := 8#32
  let v2901 : BitVec 32 := Scalar.remsi v2900 c8_i32_1037
  ![v2901.toNat]
def k0_off2 (k0_t1 : Fin k0_t1_loop.trips) : Fin 3 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1037 : BitVec 32 := 8#32
  let v2901 : BitVec 32 := Scalar.remsi v2900 c8_i32_1037
  let c0_i32_1039 : BitVec 32 := 0#32
  let c0_i32_1040 : BitVec 32 := 0#32
  ![v2901.toNat, 0, 0]
def k0_off3 (k0_t1 : Fin k0_t1_loop.trips) : Fin 2 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c256_i32_1038 : BitVec 32 := 256#32
  let v2902 : BitVec 32 := Scalar.muli v2900 c256_i32_1038
  let v2903 : BitVec 32 := v2902
  let c0_i32_1041 : BitVec 32 := 0#32
  ![v2903.toNat, 0]
def k0_off4 (k0_t1 : Fin k0_t1_loop.trips) : Fin 3 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let v2910 : Index := Scalar.indexCast v2900
  let c0_1044 : Index := 0#32
  let c0_1045 : Index := 0#32
  ![v2910.toNat, 0, 0]
def k0_off5 (k0_t1 : Fin k0_t1_loop.trips) : Fin 3 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1037 : BitVec 32 := 8#32
  let v2901 : BitVec 32 := Scalar.remsi v2900 c8_i32_1037
  let v2913 : Index := Scalar.indexCast v2901
  let c0_1046 : Index := 0#32
  let c0_1047 : Index := 0#32
  ![v2913.toNat, 0, 0]
def k0_cond1 (k0_t1 : Fin k0_t1_loop.trips) : BitVec 1 :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1051 : BitVec 32 := 8#32
  let v2922 : BitVec 32 := Scalar.addi v2900 c8_i32_1051
  let c32_i32_1052 : BitVec 32 := 32#32
  let v2923 : BitVec 1 := Scalar.cmpi .slt v2922 c32_i32_1052
  let v2924 : BitVec 32 := Scalar.extui v2923
  let c0_i32_1053 : BitVec 32 := 0#32
  let v2925 : BitVec 1 := Scalar.cmpi .ne v2924 c0_i32_1053
  v2925

def k0_mult10 (k0_t1 : Fin k0_t1_loop.trips) : BitVec 32 :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1057 : BitVec 32 := 8#32
  let v2930 : BitVec 32 := Scalar.addi v2900 c8_i32_1057
  let c256_i32_1058 : BitVec 32 := 256#32
  let v2931 : BitVec 32 := Scalar.muli v2930 c256_i32_1058
  v2931
def k0_off6 (k0_t1 : Fin k0_t1_loop.trips) : Fin 1 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1037 : BitVec 32 := 8#32
  let v2901 : BitVec 32 := Scalar.remsi v2900 c8_i32_1037
  ![v2901.toNat]
def k0_off7 (k0_t1 : Fin k0_t1_loop.trips) : Fin 3 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1037 : BitVec 32 := 8#32
  let v2901 : BitVec 32 := Scalar.remsi v2900 c8_i32_1037
  let c0_i32_1059 : BitVec 32 := 0#32
  let c0_i32_1060 : BitVec 32 := 0#32
  ![v2901.toNat, 0, 0]
def k0_off8 (k0_t1 : Fin k0_t1_loop.trips) : Fin 2 → Nat :=
  let c0_i32_1036 : BitVec 32 := 0#32
  let c0_i32_172 : BitVec 32 := 0#32
  let c1_i32_174 : BitVec 32 := 1#32
  let arg29 : BitVec 32 := Scf.iv c0_i32_172 c1_i32_174 k0_t1
  let c1_i32_1035 : BitVec 32 := 1#32
  let v2899 : BitVec 32 := Scalar.muli arg29 c1_i32_1035
  let v2900 : BitVec 32 := Scalar.addi c0_i32_1036 v2899
  let c8_i32_1057 : BitVec 32 := 8#32
  let v2930 : BitVec 32 := Scalar.addi v2900 c8_i32_1057
  let c256_i32_1058 : BitVec 32 := 256#32
  let v2931 : BitVec 32 := Scalar.muli v2930 c256_i32_1058
  let v2932 : BitVec 32 := v2931
  let c0_i32_1061 : BitVec 32 := 0#32
  ![v2932.toNat, 0]
@[reducible] def k0_t2_loop : Scf.Loop 32 :=
  let c0_i32_1009 : BitVec 32 := 0#32
  let c14_i32 : BitVec 32 := 14#32
  let v2864 : BitVec 32 := Scalar.addi c0_i32_1009 c14_i32
  let c1_i32_1010 : BitVec 32 := 1#32
  ⟨c0_i32_1009, v2864, c1_i32_1010⟩
def k0_off9 (k0_t2 : Fin k0_t2_loop.trips) : Fin 1 → Nat :=
  let c0_i32_1036 : BitVec 32 := 0#32
  let c0_i32_1009 : BitVec 32 := 0#32
  let c1_i32_1010 : BitVec 32 := 1#32
  let arg29 : BitVec 32 := Scf.iv c0_i32_1009 c1_i32_1010 k0_t2
  let c1_i32_1035 : BitVec 32 := 1#32
  let v2899 : BitVec 32 := Scalar.muli arg29 c1_i32_1035
  let v2900 : BitVec 32 := Scalar.addi c0_i32_1036 v2899
  ![v2900.toNat]
def k0_off10 (k0_t2 : Fin k0_t2_loop.trips) : Fin 2 → Nat :=
  let c0_i32_1036 : BitVec 32 := 0#32
  let c0_i32_1009 : BitVec 32 := 0#32
  let c1_i32_1010 : BitVec 32 := 1#32
  let arg29 : BitVec 32 := Scf.iv c0_i32_1009 c1_i32_1010 k0_t2
  let c1_i32_1035 : BitVec 32 := 1#32
  let v2899 : BitVec 32 := Scalar.muli arg29 c1_i32_1035
  let v2900 : BitVec 32 := Scalar.addi c0_i32_1036 v2899
  let c256_i32_1037 : BitVec 32 := 256#32
  let v2901 : BitVec 32 := Scalar.muli v2900 c256_i32_1037
  let c0_i32_1038 : BitVec 32 := 0#32
  ![v2901.toNat, 0]
def k0_mult11 (k0_t2 : Fin k0_t2_loop.trips) : BitVec 32 :=
  let c0_i32_1036 : BitVec 32 := 0#32
  let c0_i32_1009 : BitVec 32 := 0#32
  let c1_i32_1010 : BitVec 32 := 1#32
  let arg29 : BitVec 32 := Scf.iv c0_i32_1009 c1_i32_1010 k0_t2
  let c1_i32_1035 : BitVec 32 := 1#32
  let v2899 : BitVec 32 := Scalar.muli arg29 c1_i32_1035
  let v2900 : BitVec 32 := Scalar.addi c0_i32_1036 v2899
  let c256_i32_1040 : BitVec 32 := 256#32
  let v2906 : BitVec 32 := Scalar.muli v2900 c256_i32_1040
  v2906
def k0_off11 (k0_t2 : Fin k0_t2_loop.trips) : Fin 2 → Nat :=
  let c0_i32_1036 : BitVec 32 := 0#32
  let c0_i32_1009 : BitVec 32 := 0#32
  let c1_i32_1010 : BitVec 32 := 1#32
  let arg29 : BitVec 32 := Scf.iv c0_i32_1009 c1_i32_1010 k0_t2
  let c1_i32_1035 : BitVec 32 := 1#32
  let v2899 : BitVec 32 := Scalar.muli arg29 c1_i32_1035
  let v2900 : BitVec 32 := Scalar.addi c0_i32_1036 v2899
  let c256_i32_1040 : BitVec 32 := 256#32
  let v2906 : BitVec 32 := Scalar.muli v2900 c256_i32_1040
  let v2907 : BitVec 32 := v2906
  let v2908 : Index := Scalar.indexCast v2907
  let c0_1041 : Index := 0#32
  ![v2908.toNat, 0]
def k0_off12 (k0_t2 : Fin k0_t2_loop.trips) : Fin 3 → Nat :=
  let c0_i32_1036 : BitVec 32 := 0#32
  let c0_i32_1009 : BitVec 32 := 0#32
  let c1_i32_1010 : BitVec 32 := 1#32
  let arg29 : BitVec 32 := Scf.iv c0_i32_1009 c1_i32_1010 k0_t2
  let c1_i32_1035 : BitVec 32 := 1#32
  let v2899 : BitVec 32 := Scalar.muli arg29 c1_i32_1035
  let v2900 : BitVec 32 := Scalar.addi c0_i32_1036 v2899
  let v2911 : Index := Scalar.indexCast v2900
  let c0_1044 : Index := 0#32
  let c0_1045 : Index := 0#32
  ![v2911.toNat, 0, 0]
-- ==== ReferenceIdeal.lean ====
abbrev S8x1x8192 : Shape := ⟨3, ![8, 1, 8192]⟩
abbrev S8192x7424 : Shape := ⟨2, ![8192, 7424]⟩
abbrev S7424 : Shape := ⟨1, ![7424]⟩
abbrev S3712x8192 : Shape := ⟨2, ![3712, 8192]⟩
abbrev S8192 : Shape := ⟨1, ![8192]⟩
abbrev S8x8192 : Shape := ⟨2, ![8, 8192]⟩
abbrev S1x7424 : Shape := ⟨2, ![1, 7424]⟩
abbrev S1x8192 : Shape := ⟨2, ![1, 8192]⟩
abbrev S1x8 : Shape := ⟨2, ![1, 8]⟩
abbrev S8x3712 : Shape := ⟨2, ![8, 3712]⟩
abbrev S8 : Shape := ⟨1, ![8]⟩
abbrev S8x1 : Shape := ⟨2, ![8, 1]⟩
abbrev S8x7424 : Shape := ⟨2, ![8, 7424]⟩
abbrev S8x3712x2 : Shape := ⟨3, ![8, 3712, 2]⟩
abbrev S8x3712x1 : Shape := ⟨3, ![8, 3712, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x1x8192, .bf16⟩
  | .hbm, ⟨1, _⟩ => ⟨S8192x7424, .fp8e4m3⟩
  | .hbm, ⟨2, _⟩ => ⟨S7424, .f32⟩
  | .hbm, ⟨3, _⟩ => ⟨S3712x8192, .fp8e4m3⟩
  | .hbm, ⟨4, _⟩ => ⟨S8192, .f32⟩
  | .hbm, ⟨5, _⟩ => ⟨S8x8192, .bf16⟩
  | .hbm, ⟨6, _⟩ => ⟨S1x7424, .f32⟩
  | .hbm, ⟨7, _⟩ => ⟨S1x8192, .f32⟩
  | .hbm, ⟨8, _⟩ => ⟨S8x8192, .bf16⟩
  | .hbm, ⟨9, _⟩ => ⟨S8x8192, .fp8e4m3⟩
  | .hbm, ⟨10, _⟩ => ⟨S1x8, .f32⟩
  | .hbm, ⟨11, _⟩ => ⟨S8x3712, .fp8e4m3⟩
  | .hbm, ⟨12, _⟩ => ⟨S1x8, .f32⟩
  | .local _ .vmem, ⟨0, _⟩ => ⟨S8x8192, .bf16⟩
  | .local _ .vmem, ⟨1, _⟩ => ⟨S8192x7424, .fp8e4m3⟩
  | .local _ .vmem, ⟨2, _⟩ => ⟨S1x7424, .f32⟩
  | .local _ .vmem, ⟨3, _⟩ => ⟨S3712x8192, .fp8e4m3⟩
  | .local _ .vmem, ⟨4, _⟩ => ⟨S1x8192, .f32⟩
  | .local _ .vmem, ⟨5, _⟩ => ⟨S8x8192, .bf16⟩
  | .local _ .vmem, ⟨6, _⟩ => ⟨S8x8192, .fp8e4m3⟩
  | .local _ .vmem, ⟨7, _⟩ => ⟨S1x8, .f32⟩
  | .local _ .vmem, ⟨8, _⟩ => ⟨S8x3712, .fp8e4m3⟩
  | .local _ .vmem, ⟨9, _⟩ => ⟨S1x8, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7424 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7424 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3712x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x3712 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Ring.lean ====
/-
  The rings of the kernel by name: block `b` of the first weight matrix (256 of its 8192 rows), slot `s` of the
  8-slot buffer the blocks are copied into and the slot's DMA cell; window `i` of the second weight matrix (256 of its
  3712 rows, the last window 128), the same window of its resident copy, and the window's DMA cell. Each printed slice is
  one of these (`@[sl_canon]`), at the literal offsets of the prologue and at the two counted loops' offsets, whose closed
  forms are decided over the loops' 32 and 14 trips.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

/-- The input in main memory. -/
abbrev mX : Memref sig .tc .hbm S8x8192 .bf16 := Memref.whole main_v0
/-- The first weights' codes in main memory. -/
abbrev mWg : Memref sig .tc .hbm S8192x7424 .fp8e4m3 := Memref.whole main_arg1
/-- The first weights' scales in main memory, 58 rows of 128. -/
abbrev mSg : Memref sig .tc .hbm S58x128 .f32 := Memref.whole main_v1
/-- The second weights' codes in main memory. -/
abbrev mWd : Memref sig .tc .hbm S3712x8192 .fp8e4m3 := Memref.whole main_arg3
/-- The second weights' scales in main memory. -/
abbrev mSd : Memref sig .tc .hbm S1x8192 .f32 := Memref.whole main_v2
/-- The output in main memory. -/
abbrev mO : Memref sig .tc .hbm S8x8192 .bf16 := Memref.whole main_v3_0
/-- The input's codes in main memory. -/
abbrev mXc : Memref sig .tc .hbm S8x8192 .fp8e4m3 := Memref.whole main_v3_1
/-- The input's scales in main memory. -/
abbrev mXs : Memref sig .tc .hbm S1x8 .f32 := Memref.whole main_v3_2
/-- The gated product's codes in main memory. -/
abbrev mHc : Memref sig .tc .hbm S8x3712 .fp8e4m3 := Memref.whole main_v3_3
/-- The gated product's scales in main memory. -/
abbrev mHs : Memref sig .tc .hbm S1x8 .f32 := Memref.whole main_v3_4
/-- The local copy of the input. -/
abbrev vX : Memref sig .tc .vmem S8x8192 .bf16 := Memref.whole cc0_scratch0
/-- The local copy of the first weights' scales. -/
abbrev vSg : Memref sig .tc .vmem S58x128 .f32 := Memref.whole cc0_scratch1
/-- The local copy of the second weights' scales. -/
abbrev vSd : Memref sig .tc .vmem S1x8192 .f32 := Memref.whole cc0_scratch2
/-- The ring of eight slots for blocks of the first weights. -/
abbrev vWg : Memref sig .tc .vmem S8x256x7424 .fp8e4m3 := Memref.whole cc0_scratch3
/-- The local copy of the second weights. -/
abbrev vWd : Memref sig .tc .vmem S3712x8192 .fp8e4m3 := Memref.whole cc0_scratch4
/-- The chunks of the input's codes. -/
abbrev vXq : Memref sig .tc .vmem S32x32x256 .fp8e4m3 := Memref.whole cc0_scratch5
/-- The chunks of the gated product's codes. -/
abbrev vHq : Memref sig .tc .vmem S15x32x256 .fp8e4m3 := Memref.whole cc0_scratch6
/-- The first product's accumulator. -/
abbrev vA1 : Memref sig .tc .vmem S8x7424 .f32 := Memref.whole cc0_scratch7
/-- The second product's accumulator. -/
abbrev vA2 : Memref sig .tc .vmem S8x8192 .f32 := Memref.whole cc0_scratch8
/-- The gated product. -/
abbrev vH : Memref sig .tc .vmem S8x3712 .f32 := Memref.whole cc0_scratch9
/-- The output before it is copied out. -/
abbrev vO : Memref sig .tc .vmem S8x8192 .bf16 := Memref.whole cc0_scratch10
/-- The input's codes before they are copied out. -/
abbrev vXc : Memref sig .tc .vmem S8x8192 .fp8e4m3 := Memref.whole cc0_scratch11
/-- The input's scales before they are copied out. -/
abbrev vXs : Memref sig .tc .vmem S1x8 .f32 := Memref.whole cc0_scratch12
/-- The gated product's codes before they are copied out. -/
abbrev vHc : Memref sig .tc .vmem S8x3712 .fp8e4m3 := Memref.whole cc0_scratch13
/-- The gated product's scales before they are copied out. -/
abbrev vHs : Memref sig .tc .vmem S1x8 .f32 := Memref.whole cc0_scratch14

/-! ## Blocks, slots, cells -/

/-- Where block `b` of the first weights begins. -/
abbrev blkOff (b : Fin 32) : Fin 2 → Nat := ![256 * b.val, 0]
/-- Every block lies within the first weights. -/
theorem blkOff_inb (b : Fin 32) : ∀ a, blkOff b a + S256x7424.size a ≤ S8192x7424.size a := by
  have := b.isLt; intro a; fin_cases a
  · show 256 * b.val + 256 ≤ 8192; omega
  · show 0 + 7424 ≤ 7424; omega
/-- Where slot `s` of the ring begins. -/
abbrev slotOff (s : Fin 8) : Fin 3 → Nat := ![s.val, 0, 0]
/-- Every slot lies within the ring. -/
theorem slotOff_inb (s : Fin 8) : ∀ a, slotOff s a + S1x256x7424.size a ≤ S8x256x7424.size a := by
  have := s.isLt; intro a; fin_cases a
  · show s.val + 1 ≤ 8; omega
  · show 0 + 256 ≤ 256; omega
  · show 0 + 7424 ≤ 7424; omega
/-- The position of slot `s`'s DMA cell. -/
abbrev cellOff (s : Fin 8) : Fin 1 → Nat := ![s.val]
/-- It lies within the array of cells. -/
theorem cellOff_inb (s : Fin 8) : ∀ a, cellOff s a + S1.size a ≤ S8.size a := by
  have := s.isLt; intro a; fin_cases a; show s.val + 1 ≤ 8; omega
/-- Where window `i` of the second weights begins. -/
abbrev winOff (i : Fin 14) : Fin 2 → Nat := ![256 * i.val, 0]
/-- Every window lies within the second weights. -/
theorem winOff_inb (i : Fin 14) : ∀ a, winOff i a + S256x8192.size a ≤ S3712x8192.size a := by
  have := i.isLt; intro a; fin_cases a
  · show 256 * i.val + 256 ≤ 3712; omega
  · show 0 + 8192 ≤ 8192; omega
/-- Where the last, shorter window begins. -/
abbrev tailOff : Fin 2 → Nat := ![3584, 0]
/-- The position of window `i`'s DMA cell. -/
abbrev wcellOff (i : Fin 15) : Fin 1 → Nat := ![i.val]
/-- It lies within the array of cells. -/
theorem wcellOff_inb (i : Fin 15) : ∀ a, wcellOff i a + S1.size a ≤ S15.size a := by
  have := i.isLt; intro a; fin_cases a; show i.val + 1 ≤ 15; omega

/-- Block `b` of the first weight matrix. -/
def blk (b : Fin 32) : Memref sig .tc .hbm S256x7424 .fp8e4m3 :=
  mWg.slice (Rect.unit (s := S8192x7424) (blkOff b) S256x7424.size (blkOff_inb b)) (fun _ => rfl)
/-- Slot `s` of the ring the blocks are copied into. -/
def slt (s : Fin 8) : Memref sig .tc .vmem S256x7424 .fp8e4m3 :=
  (vWg.slice (Rect.unit (s := S8x256x7424) (slotOff s) S1x256x7424.size (slotOff_inb s)) (fun _ => rfl)).squeeze S256x7424 squeezes_S1x256x7424_S256x7424
/-- Slot `s`'s DMA cell. -/
def cel (s : Fin 8) : DmaSems sig S_ := (cc0_scratch16.slice (Rect.unit (s := S8) (cellOff s) S1.size (cellOff_inb s))).squeeze S_ squeezes_S1_S_
/-- Window `i` of the second weight matrix, and of its resident copy; the last, shorter window of each. -/
def win (i : Fin 14) : Memref sig .tc .hbm S256x8192 .fp8e4m3 :=
  mWd.slice (Rect.unit (s := S3712x8192) (winOff i) S256x8192.size (winOff_inb i)) (fun _ => rfl)
/-- Window `i` of the local copy of the second weights. -/
def wsl (i : Fin 14) : Memref sig .tc .vmem S256x8192 .fp8e4m3 :=
  vWd.slice (Rect.unit (s := S3712x8192) (winOff i) S256x8192.size (winOff_inb i)) (fun _ => rfl)
/-- The last, shorter window of the second weights in main memory. -/
def winT : Memref sig .tc .hbm S128x8192 .fp8e4m3 :=
  mWd.slice (Rect.unit (s := S3712x8192) tailOff S128x8192.size inb_S3712x8192_S128x8192_3584_0) (fun _ => rfl)
/-- The last, shorter window of their local copy. -/
def wslT : Memref sig .tc .vmem S128x8192 .fp8e4m3 :=
  vWd.slice (Rect.unit (s := S3712x8192) tailOff S128x8192.size inb_S3712x8192_S128x8192_3584_0) (fun _ => rfl)
/-- Window `i`'s DMA cell (the shorter window's is cell 14). -/
def wcel (i : Fin 15) : DmaSems sig S_ := (cc0_scratch17.slice (Rect.unit (s := S15) (wcellOff i) S1.size (wcellOff_inb i))).squeeze S_ squeezes_S1_S_

instance (s : Fin 8) : ClosedOff (slotOff s) := ⟨slotOff s, rfl⟩
instance (b : Fin 32) : ClosedOff (blkOff b) := ⟨blkOff b, rfl⟩
instance (i : Fin 14) : ClosedOff (winOff i) := ⟨winOff i, rfl⟩

/-! ## The loops' offsets in closed form -/

/-- The first loop makes 32 trips. -/
theorem trips1 : k0_t1_loop.trips = 32 := by decide
/-- The second loop makes 14 trips. -/
theorem trips2 : k0_t2_loop.trips = 14 := by decide
/-- A trip of the first loop is below 32. -/
theorem lt1 (k : Fin k0_t1_loop.trips) : k.val < 32 := Nat.lt_of_lt_of_eq k.isLt trips1
/-- A trip of the second loop is below 14. -/
theorem lt2 (k : Fin k0_t2_loop.trips) : k.val < 14 := Nat.lt_of_lt_of_eq k.isLt trips2

/-- Trip `k` waits on the cell of its slot. -/
theorem off1_eq : ∀ k : Fin k0_t1_loop.trips, k0_off1 k = cellOff (Ring.sl 8 k.val) := by decide +kernel
/-- It waits for its slot. -/
theorem off2_eq : ∀ k : Fin k0_t1_loop.trips, k0_off2 k = slotOff (Ring.sl 8 k.val) := by decide +kernel
/-- What it waits for is block `k`. -/
theorem off3_eq : ∀ k : Fin k0_t1_loop.trips, k0_off3 k = blkOff (Ring.bk 32 k.val) := by decide +kernel
/-- It reads chunk `k` of the input's codes. -/
theorem off4_eq : ∀ k : Fin k0_t1_loop.trips, k0_off4 k = ![k.val, 0, 0] := by decide +kernel
/-- It reads its slot. -/
theorem off5_eq : ∀ k : Fin k0_t1_loop.trips, k0_off5 k = slotOff (Ring.sl 8 k.val) := by decide +kernel
/-- It starts another copy exactly when block `k + 8` exists. -/
theorem cond1_iff : ∀ k : Fin k0_t1_loop.trips, k0_cond1 k = 1#1 ↔ k.val + 8 < 32 := by decide +kernel
/-- That copy signals the cell of the same slot. -/
theorem off6_eq : ∀ k : Fin k0_t1_loop.trips, k0_off6 k = cellOff (Ring.sl 8 k.val) := by decide +kernel
/-- It lands in the same slot. -/
theorem off7_eq : ∀ k : Fin k0_t1_loop.trips, k0_off7 k = slotOff (Ring.sl 8 k.val) := by decide +kernel
/-- It brings block `k + 8`. -/
theorem off8_eq : ∀ k : Fin k0_t1_loop.trips, k.val + 8 < 32 → k0_off8 k = blkOff (Ring.bk 32 (k.val + 8)) := by decide +kernel
/-- Trip `k` of the second loop waits on window `k`'s cell. -/
theorem off9_eq : ∀ k : Fin k0_t2_loop.trips, k0_off9 k = wcellOff (Ring.bk 14 k.val).castSucc := by decide +kernel
/-- It waits for window `k`. -/
theorem off10_eq : ∀ k : Fin k0_t2_loop.trips, k0_off10 k = winOff (Ring.bk 14 k.val) := by decide +kernel
/-- It reads window `k`. -/
theorem off11_eq : ∀ k : Fin k0_t2_loop.trips, k0_off11 k = winOff (Ring.bk 14 k.val) := by decide +kernel
/-- It reads chunk `k` of the gated product's codes. -/
theorem off12_eq : ∀ k : Fin k0_t2_loop.trips, k0_off12 k = ![k.val, 0, 0] := by decide +kernel

instance (k : Fin k0_t1_loop.trips) : ClosedOff (k0_off2 k) := ⟨slotOff (Ring.sl 8 k.val), off2_eq k⟩
instance (k : Fin k0_t1_loop.trips) : ClosedOff (k0_off4 k) := ⟨![k.val, 0, 0], off4_eq k⟩
instance (k : Fin k0_t1_loop.trips) : ClosedOff (k0_off5 k) := ⟨slotOff (Ring.sl 8 k.val), off5_eq k⟩
instance (k : Fin k0_t2_loop.trips) : ClosedOff (k0_off11 k) := ⟨winOff (Ring.bk 14 k.val), off11_eq k⟩
instance (k : Fin k0_t2_loop.trips) : ClosedOff (k0_off12 k) := ⟨![k.val, 0, 0], off12_eq k⟩

/-! ## The printed slices by name -/

/-- A cell at a slot's position is that slot's cell. -/
theorem cel_congr {off : Fin 1 → Nat} {s : Fin 8} (e : off = cellOff s) (hh) :
    (cc0_scratch16.slice (Rect.unit (s := S8) off S1.size hh)).squeeze S_ squeezes_S1_S_ = cel s :=
  congrArg (fun A : DmaSems sig S1 => A.squeeze S_ squeezes_S1_S_) (SemArray.slice_unit_congr _ e _ _)
/-- A slice of the ring at a slot's offset is that slot. -/
theorem slt_congr {off : Fin 3 → Nat} {s : Fin 8} (e : off = slotOff s) (hh hs) :
    (vWg.slice (Rect.unit (s := S8x256x7424) off S1x256x7424.size hh) hs).squeeze S256x7424 squeezes_S1x256x7424_S256x7424 = slt s :=
  congrArg (fun M : Memref sig .tc .vmem S1x256x7424 .fp8e4m3 => M.squeeze S256x7424 squeezes_S1x256x7424_S256x7424) (Memref.slice_unit_congr _ e _ _ _ _)
/-- A slice of the first weights at a block's offset is that block. -/
theorem blk_congr {off : Fin 2 → Nat} {b : Fin 32} (e : off = blkOff b) (hh hs) :
    mWg.slice (Rect.unit (s := S8192x7424) off S256x7424.size hh) hs = blk b := Memref.slice_unit_congr _ e _ _ _ (fun _ => rfl)
/-- A slice of the second weights at a window's offset is that window. -/
theorem win_congr {off : Fin 2 → Nat} {i : Fin 14} (e : off = winOff i) (hh hs) :
    mWd.slice (Rect.unit (s := S3712x8192) off S256x8192.size hh) hs = win i := Memref.slice_unit_congr _ e _ _ _ (fun _ => rfl)
/-- The same of their local copy. -/
theorem wsl_congr {off : Fin 2 → Nat} {i : Fin 14} (e : off = winOff i) (hh hs) :
    vWd.slice (Rect.unit (s := S3712x8192) off S256x8192.size hh) hs = wsl i := Memref.slice_unit_congr _ e _ _ _ (fun _ => rfl)
/-- A cell at a window's position is that window's cell. -/
theorem wcel_congr {off : Fin 1 → Nat} {i : Fin 15} (e : off = wcellOff i) (hh) :
    (cc0_scratch17.slice (Rect.unit (s := S15) off S1.size hh)).squeeze S_ squeezes_S1_S_ = wcel i :=
  congrArg (fun A : DmaSems sig S1 => A.squeeze S_ squeezes_S1_S_) (SemArray.slice_unit_congr _ e _ _)

section
variable (k : Fin k0_t1_loop.trips)
@[sl_canon] theorem celW (hh) : (cc0_scratch16.slice (Rect.unit (s := S8) (k0_off1 k) S1.size hh)).squeeze S_ squeezes_S1_S_ = cel (Ring.sl 8 k.val) := cel_congr (off1_eq k) _
@[sl_canon] theorem celI (hh) : (cc0_scratch16.slice (Rect.unit (s := S8) (k0_off6 k) S1.size hh)).squeeze S_ squeezes_S1_S_ = cel (Ring.sl 8 k.val) := cel_congr (off6_eq k) _
@[sl_canon] theorem sltW (hh hs) : (vWg.slice (Rect.unit (s := S8x256x7424) (k0_off2 k) S1x256x7424.size hh) hs).squeeze S256x7424 squeezes_S1x256x7424_S256x7424 = slt (Ring.sl 8 k.val) := slt_congr (off2_eq k) _ _
@[sl_canon] theorem sltI (hh hs) : (vWg.slice (Rect.unit (s := S8x256x7424) (k0_off7 k) S1x256x7424.size hh) hs).squeeze S256x7424 squeezes_S1x256x7424_S256x7424 = slt (Ring.sl 8 k.val) := slt_congr (off7_eq k) _ _
@[sl_canon] theorem blkW (hh hs) : mWg.slice (Rect.unit (s := S8192x7424) (k0_off3 k) S256x7424.size hh) hs = blk (Ring.bk 32 k.val) := blk_congr (off3_eq k) _ _
@[sl_canon] theorem blkI (hk : k.val + 8 < 32) (hh hs) : mWg.slice (Rect.unit (s := S8192x7424) (k0_off8 k) S256x7424.size hh) hs = blk (Ring.bk 32 (k.val + 8)) := blk_congr (off8_eq k hk) _ _
end
section
variable (k : Fin k0_t2_loop.trips)
@[sl_canon] theorem wcelW (hh) : (cc0_scratch17.slice (Rect.unit (s := S15) (k0_off9 k) S1.size hh)).squeeze S_ squeezes_S1_S_ = wcel (Ring.bk 14 k.val).castSucc := wcel_congr (off9_eq k) _
@[sl_canon] theorem winW (hh hs) : mWd.slice (Rect.unit (s := S3712x8192) (k0_off10 k) S256x8192.size hh) hs = win (Ring.bk 14 k.val) := win_congr (off10_eq k) _ _
@[sl_canon] theorem wslW (hh hs) : vWd.slice (Rect.unit (s := S3712x8192) (k0_off10 k) S256x8192.size hh) hs = wsl (Ring.bk 14 k.val) := wsl_congr (off10_eq k) _ _
end

/-! The literal slices. -/

@[sl_canon] theorem celL0 (hh) : (cc0_scratch16.slice (Rect.unit (s := S8) ![0] S1.size hh)).squeeze S_ squeezes_S1_S_ = cel 0 := cel_congr (by decide) _
@[sl_canon] theorem sltL0 (hh hs) : (vWg.slice (Rect.unit (s := S8x256x7424) ![0, 0, 0] S1x256x7424.size hh) hs).squeeze S256x7424 squeezes_S1x256x7424_S256x7424 = slt 0 := slt_congr (by decide) _ _
@[sl_canon] theorem blkL0 (hh hs) : mWg.slice (Rect.unit (s := S8192x7424) ![0, 0] S256x7424.size hh) hs = blk 0 := blk_congr (by decide) _ _
@[sl_canon] theorem celL1 (hh) : (cc0_scratch16.slice (Rect.unit (s := S8) ![1] S1.size hh)).squeeze S_ squeezes_S1_S_ = cel 1 := cel_congr (by decide) _
@[sl_canon] theorem sltL1 (hh hs) : (vWg.slice (Rect.unit (s := S8x256x7424) ![1, 0, 0] S1x256x7424.size hh) hs).squeeze S256x7424 squeezes_S1x256x7424_S256x7424 = slt 1 := slt_congr (by decide) _ _
@[sl_canon] theorem blkL1 (hh hs) : mWg.slice (Rect.unit (s := S8192x7424) ![256, 0] S256x7424.size hh) hs = blk 1 := blk_congr (by decide) _ _
@[sl_canon] theorem celL2 (hh) : (cc0_scratch16.slice (Rect.unit (s := S8) ![2] S1.size hh)).squeeze S_ squeezes_S1_S_ = cel 2 := cel_congr (by decide) _
@[sl_canon] theorem sltL2 (hh hs) : (vWg.slice (Rect.unit (s := S8x256x7424) ![2, 0, 0] S1x256x7424.size hh) hs).squeeze S256x7424 squeezes_S1x256x7424_S256x7424 = slt 2 := slt_congr (by decide) _ _
@[sl_canon] theorem blkL2 (hh hs) : mWg.slice (Rect.unit (s := S8192x7424) ![512, 0] S256x7424.size hh) hs = blk 2 := blk_congr (by decide) _ _
@[sl_canon] theorem celL3 (hh) : (cc0_scratch16.slice (Rect.unit (s := S8) ![3] S1.size hh)).squeeze S_ squeezes_S1_S_ = cel 3 := cel_congr (by decide) _
@[sl_canon] theorem sltL3 (hh hs) : (vWg.slice (Rect.unit (s := S8x256x7424) ![3, 0, 0] S1x256x7424.size hh) hs).squeeze S256x7424 squeezes_S1x256x7424_S256x7424 = slt 3 := slt_congr (by decide) _ _
@[sl_canon] theorem blkL3 (hh hs) : mWg.slice (Rect.unit (s := S8192x7424) ![768, 0] S256x7424.size hh) hs = blk 3 := blk_congr (by decide) _ _
@[sl_canon] theorem celL4 (hh) : (cc0_scratch16.slice (Rect.unit (s := S8) ![4] S1.size hh)).squeeze S_ squeezes_S1_S_ = cel 4 := cel_congr (by decide) _
@[sl_canon] theorem sltL4 (hh hs) : (vWg.slice (Rect.unit (s := S8x256x7424) ![4, 0, 0] S1x256x7424.size hh) hs).squeeze S256x7424 squeezes_S1x256x7424_S256x7424 = slt 4 := slt_congr (by decide) _ _
@[sl_canon] theorem blkL4 (hh hs) : mWg.slice (Rect.unit (s := S8192x7424) ![1024, 0] S256x7424.size hh) hs = blk 4 := blk_congr (by decide) _ _
@[sl_canon] theorem celL5 (hh) : (cc0_scratch16.slice (Rect.unit (s := S8) ![5] S1.size hh)).squeeze S_ squeezes_S1_S_ = cel 5 := cel_congr (by decide) _
@[sl_canon] theorem sltL5 (hh hs) : (vWg.slice (Rect.unit (s := S8x256x7424) ![5, 0, 0] S1x256x7424.size hh) hs).squeeze S256x7424 squeezes_S1x256x7424_S256x7424 = slt 5 := slt_congr (by decide) _ _
@[sl_canon] theorem blkL5 (hh hs) : mWg.slice (Rect.unit (s := S8192x7424) ![1280, 0] S256x7424.size hh) hs = blk 5 := blk_congr (by decide) _ _
@[sl_canon] theorem celL6 (hh) : (cc0_scratch16.slice (Rect.unit (s := S8) ![6] S1.size hh)).squeeze S_ squeezes_S1_S_ = cel 6 := cel_congr (by decide) _
@[sl_canon] theorem sltL6 (hh hs) : (vWg.slice (Rect.unit (s := S8x256x7424) ![6, 0, 0] S1x256x7424.size hh) hs).squeeze S256x7424 squeezes_S1x256x7424_S256x7424 = slt 6 := slt_congr (by decide) _ _
@[sl_canon] theorem blkL6 (hh hs) : mWg.slice (Rect.unit (s := S8192x7424) ![1536, 0] S256x7424.size hh) hs = blk 6 := blk_congr (by decide) _ _
@[sl_canon] theorem celL7 (hh) : (cc0_scratch16.slice (Rect.unit (s := S8) ![7] S1.size hh)).squeeze S_ squeezes_S1_S_ = cel 7 := cel_congr (by decide) _
@[sl_canon] theorem sltL7 (hh hs) : (vWg.slice (Rect.unit (s := S8x256x7424) ![7, 0, 0] S1x256x7424.size hh) hs).squeeze S256x7424 squeezes_S1x256x7424_S256x7424 = slt 7 := slt_congr (by decide) _ _
@[sl_canon] theorem blkL7 (hh hs) : mWg.slice (Rect.unit (s := S8192x7424) ![1792, 0] S256x7424.size hh) hs = blk 7 := blk_congr (by decide) _ _
@[sl_canon] theorem wcelL0 (hh) : (cc0_scratch17.slice (Rect.unit (s := S15) ![0] S1.size hh)).squeeze S_ squeezes_S1_S_ = wcel 0 := wcel_congr (by decide) _
@[sl_canon] theorem winL0 (hh hs) : mWd.slice (Rect.unit (s := S3712x8192) ![0, 0] S256x8192.size hh) hs = win 0 := win_congr (by decide) _ _
@[sl_canon] theorem wslL0 (hh hs) : vWd.slice (Rect.unit (s := S3712x8192) ![0, 0] S256x8192.size hh) hs = wsl 0 := wsl_congr (by decide) _ _
@[sl_canon] theorem wcelL1 (hh) : (cc0_scratch17.slice (Rect.unit (s := S15) ![1] S1.size hh)).squeeze S_ squeezes_S1_S_ = wcel 1 := wcel_congr (by decide) _
@[sl_canon] theorem winL1 (hh hs) : mWd.slice (Rect.unit (s := S3712x8192) ![256, 0] S256x8192.size hh) hs = win 1 := win_congr (by decide) _ _
@[sl_canon] theorem wslL1 (hh hs) : vWd.slice (Rect.unit (s := S3712x8192) ![256, 0] S256x8192.size hh) hs = wsl 1 := wsl_congr (by decide) _ _
@[sl_canon] theorem wcelL2 (hh) : (cc0_scratch17.slice (Rect.unit (s := S15) ![2] S1.size hh)).squeeze S_ squeezes_S1_S_ = wcel 2 := wcel_congr (by decide) _
@[sl_canon] theorem winL2 (hh hs) : mWd.slice (Rect.unit (s := S3712x8192) ![512, 0] S256x8192.size hh) hs = win 2 := win_congr (by decide) _ _
@[sl_canon] theorem wslL2 (hh hs) : vWd.slice (Rect.unit (s := S3712x8192) ![512, 0] S256x8192.size hh) hs = wsl 2 := wsl_congr (by decide) _ _
@[sl_canon] theorem wcelL3 (hh) : (cc0_scratch17.slice (Rect.unit (s := S15) ![3] S1.size hh)).squeeze S_ squeezes_S1_S_ = wcel 3 := wcel_congr (by decide) _
@[sl_canon] theorem winL3 (hh hs) : mWd.slice (Rect.unit (s := S3712x8192) ![768, 0] S256x8192.size hh) hs = win 3 := win_congr (by decide) _ _
@[sl_canon] theorem wslL3 (hh hs) : vWd.slice (Rect.unit (s := S3712x8192) ![768, 0] S256x8192.size hh) hs = wsl 3 := wsl_congr (by decide) _ _
@[sl_canon] theorem wcelL4 (hh) : (cc0_scratch17.slice (Rect.unit (s := S15) ![4] S1.size hh)).squeeze S_ squeezes_S1_S_ = wcel 4 := wcel_congr (by decide) _
@[sl_canon] theorem winL4 (hh hs) : mWd.slice (Rect.unit (s := S3712x8192) ![1024, 0] S256x8192.size hh) hs = win 4 := win_congr (by decide) _ _
@[sl_canon] theorem wslL4 (hh hs) : vWd.slice (Rect.unit (s := S3712x8192) ![1024, 0] S256x8192.size hh) hs = wsl 4 := wsl_congr (by decide) _ _
@[sl_canon] theorem wcelL5 (hh) : (cc0_scratch17.slice (Rect.unit (s := S15) ![5] S1.size hh)).squeeze S_ squeezes_S1_S_ = wcel 5 := wcel_congr (by decide) _
@[sl_canon] theorem winL5 (hh hs) : mWd.slice (Rect.unit (s := S3712x8192) ![1280, 0] S256x8192.size hh) hs = win 5 := win_congr (by decide) _ _
@[sl_canon] theorem wslL5 (hh hs) : vWd.slice (Rect.unit (s := S3712x8192) ![1280, 0] S256x8192.size hh) hs = wsl 5 := wsl_congr (by decide) _ _
@[sl_canon] theorem wcelL6 (hh) : (cc0_scratch17.slice (Rect.unit (s := S15) ![6] S1.size hh)).squeeze S_ squeezes_S1_S_ = wcel 6 := wcel_congr (by decide) _
@[sl_canon] theorem winL6 (hh hs) : mWd.slice (Rect.unit (s := S3712x8192) ![1536, 0] S256x8192.size hh) hs = win 6 := win_congr (by decide) _ _
@[sl_canon] theorem wslL6 (hh hs) : vWd.slice (Rect.unit (s := S3712x8192) ![1536, 0] S256x8192.size hh) hs = wsl 6 := wsl_congr (by decide) _ _
@[sl_canon] theorem wcelL7 (hh) : (cc0_scratch17.slice (Rect.unit (s := S15) ![7] S1.size hh)).squeeze S_ squeezes_S1_S_ = wcel 7 := wcel_congr (by decide) _
@[sl_canon] theorem winL7 (hh hs) : mWd.slice (Rect.unit (s := S3712x8192) ![1792, 0] S256x8192.size hh) hs = win 7 := win_congr (by decide) _ _
@[sl_canon] theorem wslL7 (hh hs) : vWd.slice (Rect.unit (s := S3712x8192) ![1792, 0] S256x8192.size hh) hs = wsl 7 := wsl_congr (by decide) _ _
@[sl_canon] theorem wcelL8 (hh) : (cc0_scratch17.slice (Rect.unit (s := S15) ![8] S1.size hh)).squeeze S_ squeezes_S1_S_ = wcel 8 := wcel_congr (by decide) _
@[sl_canon] theorem winL8 (hh hs) : mWd.slice (Rect.unit (s := S3712x8192) ![2048, 0] S256x8192.size hh) hs = win 8 := win_congr (by decide) _ _
@[sl_canon] theorem wslL8 (hh hs) : vWd.slice (Rect.unit (s := S3712x8192) ![2048, 0] S256x8192.size hh) hs = wsl 8 := wsl_congr (by decide) _ _
@[sl_canon] theorem wcelL9 (hh) : (cc0_scratch17.slice (Rect.unit (s := S15) ![9] S1.size hh)).squeeze S_ squeezes_S1_S_ = wcel 9 := wcel_congr (by decide) _
@[sl_canon] theorem winL9 (hh hs) : mWd.slice (Rect.unit (s := S3712x8192) ![2304, 0] S256x8192.size hh) hs = win 9 := win_congr (by decide) _ _
@[sl_canon] theorem wslL9 (hh hs) : vWd.slice (Rect.unit (s := S3712x8192) ![2304, 0] S256x8192.size hh) hs = wsl 9 := wsl_congr (by decide) _ _
@[sl_canon] theorem wcelL10 (hh) : (cc0_scratch17.slice (Rect.unit (s := S15) ![10] S1.size hh)).squeeze S_ squeezes_S1_S_ = wcel 10 := wcel_congr (by decide) _
@[sl_canon] theorem winL10 (hh hs) : mWd.slice (Rect.unit (s := S3712x8192) ![2560, 0] S256x8192.size hh) hs = win 10 := win_congr (by decide) _ _
@[sl_canon] theorem wslL10 (hh hs) : vWd.slice (Rect.unit (s := S3712x8192) ![2560, 0] S256x8192.size hh) hs = wsl 10 := wsl_congr (by decide) _ _
@[sl_canon] theorem wcelL11 (hh) : (cc0_scratch17.slice (Rect.unit (s := S15) ![11] S1.size hh)).squeeze S_ squeezes_S1_S_ = wcel 11 := wcel_congr (by decide) _
@[sl_canon] theorem winL11 (hh hs) : mWd.slice (Rect.unit (s := S3712x8192) ![2816, 0] S256x8192.size hh) hs = win 11 := win_congr (by decide) _ _
@[sl_canon] theorem wslL11 (hh hs) : vWd.slice (Rect.unit (s := S3712x8192) ![2816, 0] S256x8192.size hh) hs = wsl 11 := wsl_congr (by decide) _ _
@[sl_canon] theorem wcelL12 (hh) : (cc0_scratch17.slice (Rect.unit (s := S15) ![12] S1.size hh)).squeeze S_ squeezes_S1_S_ = wcel 12 := wcel_congr (by decide) _
@[sl_canon] theorem winL12 (hh hs) : mWd.slice (Rect.unit (s := S3712x8192) ![3072, 0] S256x8192.size hh) hs = win 12 := win_congr (by decide) _ _
@[sl_canon] theorem wslL12 (hh hs) : vWd.slice (Rect.unit (s := S3712x8192) ![3072, 0] S256x8192.size hh) hs = wsl 12 := wsl_congr (by decide) _ _
@[sl_canon] theorem wcelL13 (hh) : (cc0_scratch17.slice (Rect.unit (s := S15) ![13] S1.size hh)).squeeze S_ squeezes_S1_S_ = wcel 13 := wcel_congr (by decide) _
@[sl_canon] theorem winL13 (hh hs) : mWd.slice (Rect.unit (s := S3712x8192) ![3328, 0] S256x8192.size hh) hs = win 13 := win_congr (by decide) _ _
@[sl_canon] theorem wslL13 (hh hs) : vWd.slice (Rect.unit (s := S3712x8192) ![3328, 0] S256x8192.size hh) hs = wsl 13 := wsl_congr (by decide) _ _
@[sl_canon] theorem wcelL14 (hh) : (cc0_scratch17.slice (Rect.unit (s := S15) ![14] S1.size hh)).squeeze S_ squeezes_S1_S_ = wcel 14 := wcel_congr (by decide) _
@[sl_canon] theorem winLT (hh hs) : mWd.slice (Rect.unit (s := S3712x8192) ![3584, 0] S128x8192.size hh) hs = winT := rfl
@[sl_canon] theorem wslLT (hh hs) : vWd.slice (Rect.unit (s := S3712x8192) ![3584, 0] S128x8192.size hh) hs = wslT := rfl

end Cert.Kernel.Hand

end
-- ==== Proof.K.Loop1.lean ====
/-
  The first counted loop: 32 trips, trip `k` waiting for block `k` of the first weight matrix in slot `k % 8`, adding
  the product of the `k`-th chunk of the codes with it to the accumulator, and then copying block `k + 8` into the slot;
  trip 24 starts instead the 15 copies of the second weight matrix.
-/
module

public import proofs.«01_k».proof.Proof.K.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The pieces -/

/-- A buffer's contents, and the buffer held whole at them. -/
abbrev MBuf (c : Dev nD) {sp : Space} {S : Shape} {e : EltTy} (M : Memref sig .tc sp S e) : Type := Buf (Elt F) (M.view.loc (c : Thread nD τ))
/-- The whole of a buffer, held at contents `f`. -/
abbrev hP (c : Dev nD) {sp : Space} {S : Shape} {e : EltTy} (M : Memref sig .tc sp S e) (f : MBuf (F := F) c M) : sProp 𝕄 :=
  M.view.loc (c : Thread nD τ) ↦{fullShare} f

section Pieces
variable (c : Dev nD) (WG : MBuf (F := F) c mWg) (WD : MBuf (F := F) c mWd)

/-- A DMA cell at zero. -/
abbrev zP (s : DmaSems sig S_) : sProp 𝕄 := semVal ((c : Thread nD τ), SemLoc.dma s.sem) 0
/-- A view's elements held at contents `f` of its buffer. -/
abbrev eP {sp : Space} {S : Shape} {e : EltTy} (M : Memref sig .tc sp S e) (f : MBuf (F := F) c M) : sProp 𝕄 :=
  M.view.loc (c : Thread nD τ) ↦[M.view.set]{fullShare} f
/-- What block `b`'s copy leaves in slot `s`, window `i`'s copy in window `i`. -/
abbrev landed (s : Fin 8) (b : Fin 32) (f : MBuf (F := F) c (slt s)) : MBuf (F := F) c (slt s) :=
  (slt s).view.writes (Elt F) f [⟨Rect.whole S256x7424, ReadAs.same.apply ((blk b).view.read (Elt F) WG)⟩]
/-- What window `i` of the local copy holds once its copy has landed. -/
abbrev wlanded (i : Fin 14) (f : MBuf (F := F) c (wsl i)) : MBuf (F := F) c (wsl i) :=
  (wsl i).view.writes (Elt F) f [⟨Rect.whole S256x8192, ReadAs.same.apply ((win i).view.read (Elt F) WD)⟩]
/-- What the shorter window holds once its copy has landed. -/
abbrev wlandedT (f : MBuf (F := F) c wslT) : MBuf (F := F) c wslT :=
  wslT.view.writes (Elt F) f [⟨Rect.whole S128x8192, ReadAs.same.apply (winT.view.read (Elt F) WD)⟩]
/-- The copies in flight. -/
abbrev flightP (s : Fin 8) (b : Fin 32) (f : MBuf (F := F) c (slt s)) : sProp 𝕄 :=
  Transfers.Flight countersEmb (c : Thread nD τ) (SemLoc.dma (cel s).sem) () 59392 iprop(eP c (slt s) (landed c WG s b f) ∗ eP c (blk b) WG)
/-- The copy of window `i` in flight. -/
abbrev wflightP (i : Fin 14) (f : MBuf (F := F) c (wsl i)) : sProp 𝕄 :=
  Transfers.Flight countersEmb (c : Thread nD τ) (SemLoc.dma (wcel i.castSucc).sem) () 65536 iprop(eP c (wsl i) (wlanded c WD i f) ∗ eP c (win i) WD)
/-- The copy of the shorter window in flight. -/
abbrev wflightTP (f : MBuf (F := F) c wslT) : sProp 𝕄 :=
  Transfers.Flight countersEmb (c : Thread nD τ) (SemLoc.dma (wcel 14).sem) () 32768 iprop(eP c wslT (wlandedT c WD f) ∗ eP c winT WD)

/-- Trip `k`'s slot is `k` modulo 8. -/
theorem slv (k : ℕ) : (Ring.sl 8 k).val = k % 8 := rfl
/-- A copy into a slot that an earlier copy has filled. -/
theorem flightP_after (s : Fin 8) (b b' : Fin 32) :
    flightP c WG s b' (landed c WG s b (slt s).view.junk)
      = Transfers.Flight countersEmb (c : Thread nD τ) (SemLoc.dma (cel s).sem) () 59392
          iprop(((slt s).view.loc (c : Thread nD τ) ↦[(slt s).view.set]{fullShare}
                  (slt s).view.writes (Elt F) (slt s).view.junk [⟨Rect.whole S256x7424, ReadAs.same.apply ((blk b').view.read (Elt F) WG)⟩,
                    ⟨Rect.whole S256x7424, ReadAs.same.apply ((blk b).view.read (Elt F) WG)⟩])
                ∗ eP c (blk b') WG) := by
  simp only [flightP, landed, eP, View.writes]

/-- The next block slot `s` holds before trip `k`. -/
def nxt (k : ℕ) (s : Fin 8) : ℕ := k + (s.val + 8 - k % 8) % 8
/-- At trip `k` the block due in trip `k`'s slot is block `k`. -/
theorem nxt_sl (k : ℕ) : nxt k (Ring.sl 8 k) = k := by
  have h : (Ring.sl 8 k).val = k % 8 := slv k
  unfold nxt; rw [h]; omega
/-- After it, block `k + 8` is due there. -/
theorem nxt_succ_sl (k : ℕ) : nxt (k + 1) (Ring.sl 8 k) = k + 8 := by
  have h : (Ring.sl 8 k).val = k % 8 := slv k
  unfold nxt; rw [h]; omega
/-- In every other slot the block due does not change. -/
theorem nxt_succ {k : ℕ} {s : Fin 8} (h : s ≠ Ring.sl 8 k) : nxt (k + 1) s = nxt k s := by
  have h' : s.val ≠ k % 8 := fun e => h (Fin.ext (e.trans (slv k).symm))
  have := s.isLt
  unfold nxt; omega

/-- Slot `s` when the next block it is to hold is block `p`: in flight with it, or free past the last block. -/
def roleP (s : Fin 8) (p : ℕ) : sProp 𝕄 :=
  if p < 32 then iprop(∃ f, flightP c WG s (Ring.bk 32 p) f) else iprop((∃ f, eP c (slt s) f) ∗ zP c (cel s))
/-- A slot whose due block exists has that block's copy in flight. -/
theorem roleP_fly {s : Fin 8} {p : ℕ} (h : p < 32) : roleP c WG s p = iprop(∃ f, flightP c WG s (Ring.bk 32 p) f) := if_pos h
/-- A slot whose due block does not exist is free, its cell at zero. -/
theorem roleP_free {s : Fin 8} {p : ℕ} (h : ¬ p < 32) : roleP c WG s p = iprop((∃ f, eP c (slt s) f) ∗ zP c (cel s)) := if_neg h
/-- The slots before trip `k`: slot `k % 8` beside the rest; -/
theorem roles_here (k : ℕ) :
    bigSep Finset.univ (fun s => roleP c WG s (nxt k s))
      = iprop(roleP c WG (Ring.sl 8 k) k ∗ bigSep (Finset.univ.erase (Ring.sl 8 k)) (fun s => roleP c WG s (nxt k s))) := by
  conv_lhs => rw [← Finset.insert_erase (Finset.mem_univ (Ring.sl 8 k)), bigSep_insert (Finset.notMem_erase _ _), nxt_sl]
  rfl
/-- before the next trip: the slot with block `k + 8` next, beside the same rest. -/
theorem roles_next (k : ℕ) :
    bigSep Finset.univ (fun s => roleP c WG s (nxt (k + 1) s))
      = iprop(roleP c WG (Ring.sl 8 k) (k + 8) ∗ bigSep (Finset.univ.erase (Ring.sl 8 k)) (fun s => roleP c WG s (nxt k s))) := by
  conv_lhs => rw [← Finset.insert_erase (Finset.mem_univ (Ring.sl 8 k)), bigSep_insert (Finset.notMem_erase _ _), nxt_succ_sl]
  congr 1
  exact bigSep_congr fun s hs => by rw [nxt_succ (Finset.ne_of_mem_erase hs)]

/-- Window `i` before its copy: both ends held, its cell at zero; and the same for the shorter window. -/
def widleP (i : Fin 14) : sProp 𝕄 := iprop(eP c (win i) WD ∗ (∃ f, eP c (wsl i) f) ∗ zP c (wcel i.castSucc))
/-- The shorter window, its place in the local copy, and its cell at zero. -/
def widleTP : sProp 𝕄 := iprop(eP c winT WD ∗ (∃ f, eP c wslT f) ∗ zP c (wcel 14))
/-- Window `i`'s copy in flight. -/
def wflyP (i : Fin 14) : sProp 𝕄 := iprop(∃ f, wflightP c WD i f)
/-- The shorter window's copy in flight, at some earlier contents of its place. -/
def wflyTP : sProp 𝕄 := iprop(∃ f, wflightTP c WD f)
/-- The second weight matrix before trip `k` of the first loop. -/
def wdP (k : ℕ) : sProp 𝕄 :=
  if k ≤ 24 then iprop(bigSep Finset.univ (widleP c WD) ∗ widleTP c WD) else iprop(bigSep Finset.univ (wflyP c WD) ∗ wflyTP c WD)
/-- Up to trip 24 the second weights' windows are idle. -/
theorem wdP_idle {k : ℕ} (h : k ≤ 24) : wdP c WD k = iprop(bigSep Finset.univ (widleP c WD) ∗ widleTP c WD) := if_pos h
/-- After trip 24 all of their copies are in flight. -/
theorem wdP_fly {k : ℕ} (h : ¬ k ≤ 24) : wdP c WD k = iprop(bigSep Finset.univ (wflyP c WD) ∗ wflyTP c WD) := if_neg h

/-- A separating conjunction over fourteen, written out. -/
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) Φ

end Pieces

section Trip
variable (c : Dev nD) (WG : MBuf (F := F) c mWg) (WD : MBuf (F := F) c mWd) (XQ : MBuf (F := F) c vXq)

/-- The resources before trip `k`, the accumulator at `A`. -/
def res1 (k : ℕ) (A : MBuf (F := F) c vA1) : sProp 𝕄 :=
  iprop(hP c vA1 A ∗ hP c vXq XQ ∗ (∃ W, owes (c : Thread nD τ) 0 W) ∗ bigSep (Ring.homeSet (NB := 32) 8 k) (fun b => eP c (blk b) WG)
    ∗ bigSep Finset.univ (fun s => roleP c WG s (nxt k s)) ∗ wdP c WD k)

variable (v141 : FVec F S8x1 .f32) (v393 : FVec F S1x8 .f32)

/-- One trip of the first loop. -/
abbrev trip1 (k : Fin k0_t1_loop.trips) : Prog (TpuEff nD τ sig (Elt F) Λ₀ .tc) Unit :=
  k0_t1_body (F := F) mX (Memref.isWhole_whole _) mWg (Memref.isWhole_whole _) mSg (Memref.isWhole_whole _) mWd (Memref.isWhole_whole _) mSd (Memref.isWhole_whole _)
    mO (Memref.isWhole_whole _) mXc (Memref.isWhole_whole _) mXs (Memref.isWhole_whole _) mHc (Memref.isWhole_whole _) mHs (Memref.isWhole_whole _)
    vX (Memref.isWhole_whole _) vSg (Memref.isWhole_whole _) vSd (Memref.isWhole_whole _) vWg (Memref.isWhole_whole _) vWd (Memref.isWhole_whole _)
    vXq (Memref.isWhole_whole _) vHq (Memref.isWhole_whole _) vA1 (Memref.isWhole_whole _) vA2 (Memref.isWhole_whole _) vH (Memref.isWhole_whole _)
    vO (Memref.isWhole_whole _) vXc (Memref.isWhole_whole _) vXs (Memref.isWhole_whole _) vHc (Memref.isWhole_whole _) vHs (Memref.isWhole_whole _)
    cc0_scratch15 cc0_scratch16 cc0_scratch17 cc0_scratch18 v141 v393 k ()

/-- Chunk `k` of the codes as trip `k` reads it, block `b` as it reads it from its slot. -/
abbrev R8 : Rect S8x7424 := Rect.unit (s := S8x7424) ![0, 0] S8x7424.size inb_S8x7424_S8x7424_0_0
/-- The blocks at home before trip `k`: block `k + 8` apart from the rest. -/
theorem homes_here (k : ℕ) (hk : k + 8 < 32) :
    bigSep (Ring.homeSet (NB := 32) 8 k) (fun b => eP c (blk b) WG)
      = iprop(eP c (blk (Ring.bk 32 (k + 8))) WG ∗ bigSep ((Ring.homeSet (NB := 32) 8 k).erase (Ring.bk 32 (k + 8))) (fun b => eP c (blk b) WG)) := by
  conv_lhs => rw [Ring.homeSet_out 8 k hk, bigSep_insert (Ring.bkL_not_mem_erase 8 k)]
  rfl
/-- The blocks at home after trip `k`: block `k` apart from the rest. -/
theorem homes_next (k : ℕ) (hk : k + 8 < 32) :
    bigSep (Ring.homeSet (NB := 32) 8 (k + 1)) (fun b => eP c (blk b) WG)
      = iprop(eP c (blk (Ring.bk 32 k)) WG ∗ bigSep ((Ring.homeSet (NB := 32) 8 k).erase (Ring.bk 32 (k + 8))) (fun b => eP c (blk b) WG)) := by
  conv_lhs => rw [Ring.homeSet_succ 8 k hk, bigSep_insert (Ring.bk_not_mem_erase 8 k (by omega) (by decide))]
  rfl
/-- The same for the last eight trips, which take no block. -/
theorem homes_tail (k : ℕ) (hk : 32 ≤ k + 8) (h : k < 32) :
    bigSep (Ring.homeSet (NB := 32) 8 (k + 1)) (fun b => eP c (blk b) WG)
      = iprop(eP c (blk (Ring.bk 32 k)) WG ∗ bigSep (Ring.homeSet (NB := 32) 8 k) (fun b => eP c (blk b) WG)) := by
  conv_lhs => rw [Ring.homeSet_succ_tail 8 k hk h, bigSep_insert (Ring.bk_not_mem_homeSet 8 k h (by decide))]
  rfl

/-- Trips other than 24 do not start the second weights' copies. -/
theorem cond2_false : ∀ k : Fin k0_t1_loop.trips, k.val ≠ 24 →
    ¬ Scalar.cmpi .ne (Scalar.extui (Scalar.cmpi .eq (Scalar.addi (Scalar.addi 0#32 (Scalar.muli (Scf.iv 0#32 1#32 k.val) 1#32)) 8#32) 32#32) : BitVec 32) 0#32 = 1#1 := by
  decide +kernel
/-- Trip 24 does. -/
theorem cond2_true : ∀ k : Fin k0_t1_loop.trips, k.val = 24 →
    Scalar.cmpi .ne (Scalar.extui (Scalar.cmpi .eq (Scalar.addi (Scalar.addi 0#32 (Scalar.muli (Scf.iv 0#32 1#32 k.val) 1#32)) 8#32) 32#32) : BitVec 32) 0#32 = 1#1 := by
  decide +kernel

/-- Block `k` as trip `k` reads it, from the slot its copy landed in. -/
abbrev wrd1 (k : Fin k0_t1_loop.trips) : Vec F S1x256x7424 .fp8e4m3 :=
  View.readAt (Elt F) vWg.view (Rect.unit (s := S8x256x7424) (k0_off5 k) S1x256x7424.size (k0_off5_inb k)).toLoadRect (landed c WG (Ring.sl 8 k.val) (Ring.bk 32 k.val) (slt (Ring.sl 8 k.val)).view.junk)
/-- Chunk `k` of the codes as trip `k` reads it. -/
abbrev xrd1 (k : Fin k0_t1_loop.trips) : Vec F S1x32x256 .fp8e4m3 :=
  View.readAt (Elt F) vXq.view (Rect.unit (s := S32x32x256) (k0_off4 k) S1x32x256.size (k0_off4_inb k)).toLoadRect XQ
/-- The accumulator after trip `k` from `A` before it. -/
abbrev upd1 (k : Fin k0_t1_loop.trips) (A : MBuf (F := F) c vA1) : MBuf (F := F) c vA1 :=
  vA1.view.writes (Elt F) A [⟨R8, k0_pay53 (View.readAt (Elt F) vA1.view R8.toLoadRect A) (xrd1 c XQ k) (wrd1 c WG k)⟩]

/-- A trip before 24: it waits for its block, adds the product, and starts the copy of block `k + 8`. -/
theorem tripA (k : Fin k0_t1_loop.trips) (hk : k.val + 8 < 32) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  have hk32 : k.val < 32 := by omega
  have h1 : k0_cond1 k = 1#1 := (cond1_iff k).mpr hk
  have h2 := cond2_false k (by omega)
  unfold res1
  rw [homes_here c WG k.val hk, homes_next c WG k.val hk, roles_here, roles_next, roleP_fly c WG hk32, roleP_fly c WG hk,
    wdP_idle c WD (show k.val ≤ 24 by omega), wdP_idle c WD (show k.val + 1 ≤ 24 by omega)]
  iintro ⟨HA, HX, ⟨%W, HW⟩, ⟨Hg, Hrest⟩, ⟨⟨%f0, HF0⟩, Hroles⟩, Hwd⟩
  dsimp only [trip1]
  sl_unfold [k0_t1_body]
  sl_exec
  sl_step
  isplitl [HA]; · iexact HA
  isplitl [HX]; · iexact HX
  isplitl [HW]; · iexists _; iexact HW
  isplitl [HF0_src Hrest]
  · isplitl [HF0_src]; · iexact HF0_src
    iexact Hrest
  isplitl [HF0 Hroles]
  · isplitl [HF0]
    · iexists (landed c WG (Ring.sl 8 k.val) (Ring.bk 32 k.val) (slt (Ring.sl 8 k.val)).view.junk)
      irw [flightP_after]
      iexact HF0
    iexact Hroles
  iexact Hwd

/-- A trip after 24: it waits for its block and adds the product. -/
theorem tripC (k : Fin k0_t1_loop.trips) (hk : 24 < k.val) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  have hk32 : k.val < 32 := lt1 k
  have h1 : ¬ k0_cond1 k = 1#1 := fun h => by have := (cond1_iff k).mp h; omega
  have h2 := cond2_false k (by omega)
  unfold res1
  rw [homes_tail c WG k.val (by omega) hk32, roles_here, roles_next, roleP_fly c WG hk32, roleP_free c WG (show ¬ k.val + 8 < 32 by omega),
    wdP_fly c WD (show ¬ k.val ≤ 24 by omega), wdP_fly c WD (show ¬ k.val + 1 ≤ 24 by omega)]
  iintro ⟨HA, HX, ⟨%W, HW⟩, Hrest, ⟨⟨%f0, HF0⟩, Hroles⟩, Hwd⟩
  dsimp only [trip1]
  sl_unfold [k0_t1_body]
  sl_exec
  sl_step
  isplitl [HA]; · iexact HA
  isplitl [HX]; · iexact HX
  isplitl [HW]; · iexists _; iexact HW
  isplitl [HF0_src Hrest]
  · isplitl [HF0_src]; · iexact HF0_src
    iexact Hrest
  isplitl [HF0_dst HF0 Hroles]
  · isplitl [HF0_dst HF0]
    · isplitl [HF0_dst]; · iexists _; iexact HF0_dst
      iexact HF0
    iexact Hroles
  iexact Hwd

/-- Trip 24: it waits for its block, adds the product, and starts the copies of the second weights. -/
theorem tripB (k : Fin k0_t1_loop.trips) (hk : k.val = 24) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  have hk32 : k.val < 32 := by omega
  have h1 : ¬ k0_cond1 k = 1#1 := fun h => by have := (cond1_iff k).mp h; omega
  have h2 := cond2_true k hk
  unfold res1
  rw [homes_tail c WG k.val (by omega) hk32, roles_here, roles_next, roleP_fly c WG hk32, roleP_free c WG (show ¬ k.val + 8 < 32 by omega),
    wdP_idle c WD (show k.val ≤ 24 by omega), wdP_fly c WD (show ¬ k.val + 1 ≤ 24 by omega), bigSep_fin14, bigSep_fin14]
  unfold widleP widleTP wflyP wflyTP
  iintro ⟨HA, HX, ⟨%W, HW⟩, Hrest, ⟨⟨%f0, HF0⟩, Hroles⟩,
    ⟨⟨S0, ⟨%d0, D0⟩, C0⟩, ⟨S1, ⟨%d1, D1⟩, C1⟩, ⟨S2, ⟨%d2, D2⟩, C2⟩, ⟨S3, ⟨%d3, D3⟩, C3⟩, ⟨S4, ⟨%d4, D4⟩, C4⟩,
      ⟨S5, ⟨%d5, D5⟩, C5⟩, ⟨S6, ⟨%d6, D6⟩, C6⟩, ⟨S7, ⟨%d7, D7⟩, C7⟩, ⟨S8, ⟨%d8, D8⟩, C8⟩, ⟨S9, ⟨%d9, D9⟩, C9⟩,
      ⟨S10, ⟨%d10, D10⟩, C10⟩, ⟨S11, ⟨%d11, D11⟩, C11⟩, ⟨S12, ⟨%d12, D12⟩, C12⟩, ⟨S13, ⟨%d13, D13⟩, C13⟩⟩, ⟨S14, ⟨%d14, D14⟩, C14⟩⟩
  dsimp only [trip1]
  sl_unfold [k0_t1_body]
  sl_exec
  sl_step
  isplitl [HA]; · iexact HA
  isplitl [HX]; · iexact HX
  isplitl [HW]; · iexists _; iexact HW
  isplitl [HF0_src Hrest]
  · isplitl [HF0_src]; · iexact HF0_src
    iexact Hrest
  isplitl [HF0_dst HF0 Hroles]
  · isplitl [HF0_dst HF0]
    · isplitl [HF0_dst]; · iexists _; iexact HF0_dst
      iexact HF0
    iexact Hroles
  isplitr [C14]
  · isplitl [C0]; · iexists d0; iexact C0
    isplitl [C1]; · iexists d1; iexact C1
    isplitl [C2]; · iexists d2; iexact C2
    isplitl [C3]; · iexists d3; iexact C3
    isplitl [C4]; · iexists d4; iexact C4
    isplitl [C5]; · iexists d5; iexact C5
    isplitl [C6]; · iexists d6; iexact C6
    isplitl [C7]; · iexists d7; iexact C7
    isplitl [C8]; · iexists d8; iexact C8
    isplitl [C9]; · iexists d9; iexact C9
    isplitl [C10]; · iexists d10; iexact C10
    isplitl [C11]; · iexists d11; iexact C11
    isplitl [C12]; · iexists d12; iexact C12
    iexists d13; iexact C13
  iexists d14; iexact C14

/-- One trip, whichever. -/
theorem trip1_run (k : Fin k0_t1_loop.trips) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  rcases Nat.lt_trichotomy k.val 24 with h | h | h
  · exact tripA c WG WD XQ v141 v393 k (by omega) A
  · exact tripB c WG WD XQ v141 v393 k h A
  · exact tripC c WG WD XQ v141 v393 k h A

/-- The accumulator before trip `k`, from `A0` at the loop's entry. -/
def acc1 (A0 : MBuf (F := F) c vA1) : ℕ → MBuf (F := F) c vA1
  | 0 => A0
  | k + 1 => if h : k < k0_t1_loop.trips then upd1 c WG XQ ⟨k, h⟩ (acc1 A0 k) else acc1 A0 k
/-- The accumulator after trip `k` is the one before it with the chunk's product added. -/
theorem acc1_succ (A0 : MBuf (F := F) c vA1) (k : Fin k0_t1_loop.trips) :
    acc1 c WG XQ A0 (k.val + 1) = upd1 c WG XQ k (acc1 c WG XQ A0 k.val) := by rw [acc1, dif_pos k.isLt]

/-- The loop's invariant before trip `k`. -/
def inv1 (A0 : MBuf (F := F) c vA1) (k : ℕ) (_ : Unit) : sProp 𝕄 := res1 c WG WD XQ k (acc1 c WG XQ A0 k)
/-- One trip keeps the first loop's invariant. -/
theorem inv1_step (A0 : MBuf (F := F) c vA1) (k : Fin k0_t1_loop.trips) (u : Unit) :
    inv1 c WG WD XQ A0 k u ⊢ wp frame (wpE (defs₀ (F := F)) Variants.none (c : Thread nD τ) none) Set.univ (trip1 v141 v393 k)
        (inv1 c WG WD XQ A0 (k.val + 1)) := by
  have h := trip1_run c WG WD XQ v141 v393 k (acc1 c WG XQ A0 k.val)
  rw [← acc1_succ] at h; exact h

end Trip
end Cert.Kernel.Hand
end
-- ==== Proof.K.Loop2.lean ====
/-
  The second counted loop: 14 trips, trip `k` waiting for window `k` of the second weight matrix and adding the product
  of the `k`-th chunk of the hidden codes with it to the second accumulator.
-/
module

public import proofs.«01_k».proof.Proof.K.Loop1

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip2
variable (c : Dev nD) (WD : MBuf (F := F) c mWd) (HQ : MBuf (F := F) c vHq)

/-- Window `i` before trip `k`: landed and its cell back at zero, or its copy still in flight. -/
def role2 (k : ℕ) (i : Fin 14) : sProp 𝕄 := if i.val < k then widleP c WD i else wflyP c WD i
/-- A window not yet awaited is in flight. -/
theorem role2_fly {k : ℕ} {i : Fin 14} (h : ¬ i.val < k) : role2 c WD k i = wflyP c WD i := if_neg h
/-- A window already awaited is idle. -/
theorem role2_idle {k : ℕ} {i : Fin 14} (h : i.val < k) : role2 c WD k i = widleP c WD i := if_pos h
/-- Before the second loop all fourteen windows are in flight. -/
theorem roles2_zero : bigSep Finset.univ (role2 c WD 0) = bigSep Finset.univ (wflyP c WD) :=
  bigSep_congr fun i _ => role2_fly c WD (Nat.not_lt_zero _)
/-- After it all fourteen are idle. -/
theorem roles2_last : bigSep Finset.univ (role2 c WD 14) = bigSep Finset.univ (widleP c WD) :=
  bigSep_congr fun i _ => role2_idle c WD i.isLt
/-- Before trip `k`: window `k` in flight, apart from the rest. -/
theorem roles2_here (k : ℕ) (hk : k < 14) :
    bigSep Finset.univ (role2 c WD k)
      = iprop(wflyP c WD (Ring.bk 14 k) ∗ bigSep (Finset.univ.erase (Ring.bk 14 k)) (role2 c WD k)) := by
  conv_lhs => rw [← Finset.insert_erase (Finset.mem_univ (Ring.bk 14 k)), bigSep_insert (Finset.notMem_erase _ _),
    role2_fly c WD (show ¬ (Ring.bk 14 k).val < k by rw [Ring.bk_val hk]; omega)]
  rfl
/-- After trip `k`: window `k` idle, apart from the rest. -/
theorem roles2_next (k : ℕ) (hk : k < 14) :
    bigSep Finset.univ (role2 c WD (k + 1))
      = iprop(widleP c WD (Ring.bk 14 k) ∗ bigSep (Finset.univ.erase (Ring.bk 14 k)) (role2 c WD k)) := by
  conv_lhs => rw [← Finset.insert_erase (Finset.mem_univ (Ring.bk 14 k)), bigSep_insert (Finset.notMem_erase _ _),
    role2_idle c WD (show (Ring.bk 14 k).val < k + 1 by rw [Ring.bk_val hk]; omega)]
  congr 1
  refine bigSep_congr fun i hi => ?_
  have h : i.val ≠ k := fun e => Finset.ne_of_mem_erase hi (Fin.ext (by rw [Ring.bk_val hk]; exact e))
  unfold role2
  by_cases h' : i.val < k
  · rw [if_pos h', if_pos (by omega)]
  · rw [if_neg h', if_neg (by omega)]

/-- The resources before trip `k`, the accumulator at `A`. -/
def res2 (k : ℕ) (A : MBuf (F := F) c vA2) : sProp 𝕄 :=
  iprop(hP c vA2 A ∗ hP c vHq HQ ∗ (∃ W, owes (c : Thread nD τ) 0 W) ∗ bigSep Finset.univ (role2 c WD k))

variable (v2726 : FVec F S8x1 .f32) (v2843 : FVec F S32x128 .fp8e4m3)

/-- One trip of the second loop. -/
abbrev trip2 (k : Fin k0_t2_loop.trips) : Prog (TpuEff nD τ sig (Elt F) Λ₀ .tc) Unit :=
  k0_t2_body (F := F) mX (Memref.isWhole_whole _) mWg (Memref.isWhole_whole _) mSg (Memref.isWhole_whole _) mWd (Memref.isWhole_whole _) mSd (Memref.isWhole_whole _)
    mO (Memref.isWhole_whole _) mXc (Memref.isWhole_whole _) mXs (Memref.isWhole_whole _) mHc (Memref.isWhole_whole _) mHs (Memref.isWhole_whole _)
    vX (Memref.isWhole_whole _) vSg (Memref.isWhole_whole _) vSd (Memref.isWhole_whole _) vWg (Memref.isWhole_whole _) vWd (Memref.isWhole_whole _)
    vXq (Memref.isWhole_whole _) vHq (Memref.isWhole_whole _) vA1 (Memref.isWhole_whole _) vA2 (Memref.isWhole_whole _) vH (Memref.isWhole_whole _)
    vO (Memref.isWhole_whole _) vXc (Memref.isWhole_whole _) vXs (Memref.isWhole_whole _) vHc (Memref.isWhole_whole _) vHs (Memref.isWhole_whole _)
    cc0_scratch15 cc0_scratch16 cc0_scratch17 cc0_scratch18 v2726 v2843 k ()

/-- The whole of an 8 by 8192 buffer. -/
abbrev R8d : Rect S8x8192 := Rect.unit (s := S8x8192) ![0, 0] S8x8192.size inb_S8x8192_S8x8192_0_0

/-- Window `k` as trip `k` reads it, and chunk `k` of the hidden codes. -/
abbrev wrd2 (k : Fin k0_t2_loop.trips) : Vec F S256x8192 .fp8e4m3 :=
  View.readAt (Elt F) vWd.view (Rect.unit (s := S3712x8192) (k0_off11 k) S256x8192.size (k0_off11_inb k)).toLoadRect (wlanded c WD (Ring.bk 14 k.val) (wsl (Ring.bk 14 k.val)).view.junk)
/-- The chunk of the gated product's codes trip `k` reads. -/
abbrev xrd2 (k : Fin k0_t2_loop.trips) : Vec F S1x32x256 .fp8e4m3 :=
  View.readAt (Elt F) vHq.view (Rect.unit (s := S15x32x256) (k0_off12 k) S1x32x256.size (k0_off12_inb k)).toLoadRect HQ
/-- The accumulator after trip `k` from `A` before it. -/
abbrev upd2 (k : Fin k0_t2_loop.trips) (A : MBuf (F := F) c vA2) : MBuf (F := F) c vA2 :=
  vA2.view.writes (Elt F) A [⟨R8d, k0_pay297 (wrd2 c WD k) (View.readAt (Elt F) vA2.view R8d.toLoadRect A) (xrd2 c HQ k)⟩]

/-- One trip runs: it waits for window `k` and adds the chunk's product. -/
theorem trip2_run (k : Fin k0_t2_loop.trips) (A : MBuf (F := F) c vA2) :
    res2 c WD HQ k A ⊢ wp frame (wpE (defs₀ (F := F)) Variants.none (c : Thread nD τ) none) Set.univ (trip2 v2726 v2843 k)
        (fun _ => res2 c WD HQ (k.val + 1) (upd2 c WD HQ k A)) := by
  have hk := lt2 k
  unfold res2
  rw [roles2_here c WD k.val hk, roles2_next c WD k.val hk]
  unfold wflyP widleP
  iintro ⟨HA, HX, ⟨%W, HW⟩, ⟨⟨%f0, HF0⟩, Hroles⟩⟩
  dsimp only [trip2]
  sl_unfold [k0_t2_body]
  sl_exec
  sl_step
  isplitl [HA]; · iexact HA
  isplitl [HX]; · iexact HX
  isplitl [HW]; · iexists _; iexact HW
  isplitl [HF0_src HF0_dst HF0]
  · isplitl [HF0_src]; · iexact HF0_src
    isplitl [HF0_dst]; · iexists _; iexact HF0_dst
    iexact HF0
  iexact Hroles

/-- The accumulator before trip `k`, from `A0` at the loop's entry. -/
def acc2 (A0 : MBuf (F := F) c vA2) : ℕ → MBuf (F := F) c vA2
  | 0 => A0
  | k + 1 => if h : k < k0_t2_loop.trips then upd2 c WD HQ ⟨k, h⟩ (acc2 A0 k) else acc2 A0 k
/-- The second accumulator after trip `k` is the one before it with the chunk's product added. -/
theorem acc2_succ (A0 : MBuf (F := F) c vA2) (k : Fin k0_t2_loop.trips) :
    acc2 c WD HQ A0 (k.val + 1) = upd2 c WD HQ k (acc2 c WD HQ A0 k.val) := by rw [acc2, dif_pos k.isLt]

/-- The loop's invariant before trip `k`. -/
def inv2 (A0 : MBuf (F := F) c vA2) (k : ℕ) (_ : Unit) : sProp 𝕄 := res2 c WD HQ k (acc2 c WD HQ A0 k)
/-- One trip keeps the second loop's invariant. -/
theorem inv2_step (A0 : MBuf (F := F) c vA2) (k : Fin k0_t2_loop.trips) (u : Unit) :
    inv2 c WD HQ A0 k u ⊢ wp frame (wpE (defs₀ (F := F)) Variants.none (c : Thread nD τ) none) Set.univ (trip2 v2726 v2843 k)
        (inv2 c WD HQ A0 (k.val + 1)) := by
  have h := trip2_run c WD HQ v2726 v2843 k (acc2 c WD HQ A0 k.val)
  rw [← acc2_succ] at h; exact h

end Trip2
end Cert.Kernel.Hand
end
-- ==== Proof.K.Body.lean ====
/-
  The kernel's body as one run: from its buffers, cells and operands to its five results.
-/
module

public import proofs.«01_k».proof.Proof.K.Loop2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body
variable (c : Dev nD) (X : MBuf (F := F) c mX) (WG : MBuf (F := F) c mWg) (SG : MBuf (F := F) c mSg) (WD : MBuf (F := F) c mWd) (SD : MBuf (F := F) c mSd)

/-- The region's body at its buffers and cells. -/
abbrev bodyG : Prog (TpuEff nD τ sig (Elt F) Λ₀ .tc) PUnit :=
  cc0_fp8_gated_mlp (F := F) mX (Memref.isWhole_whole _) mWg (Memref.isWhole_whole _) mSg (Memref.isWhole_whole _) mWd (Memref.isWhole_whole _) mSd (Memref.isWhole_whole _) mO (Memref.isWhole_whole _) mXc (Memref.isWhole_whole _) mXs (Memref.isWhole_whole _) mHc (Memref.isWhole_whole _) mHs (Memref.isWhole_whole _) vX (Memref.isWhole_whole _) vSg (Memref.isWhole_whole _) vSd (Memref.isWhole_whole _) vWg (Memref.isWhole_whole _) vWd (Memref.isWhole_whole _) vXq (Memref.isWhole_whole _) vHq (Memref.isWhole_whole _) vA1 (Memref.isWhole_whole _) vA2 (Memref.isWhole_whole _) vH (Memref.isWhole_whole _) vO (Memref.isWhole_whole _) vXc (Memref.isWhole_whole _) vXs (Memref.isWhole_whole _) vHc (Memref.isWhole_whole _) vHs (Memref.isWhole_whole _)
    cc0_scratch15 cc0_scratch16 cc0_scratch17 cc0_scratch18

/-- A DMA cell by its number, at zero. -/
abbrev dP (j : Fin 31) : sProp 𝕄 := semVal ((c : Thread nD τ), SemLoc.dma j) 0
/-- A buffer held whole at some contents. -/
abbrev xP {sp : Space} {S : Shape} {e : EltTy} (M : Memref sig .tc sp S e) : sProp 𝕄 := iprop(∃ f, hP (F := F) c M f)

/-- What the body is handed. -/
abbrev PRE : sProp 𝕄 :=
  iprop(hP c mX X ∗ hP c mSg SG ∗ hP c mSd SD
    ∗ bigSep (Ring.homeSet (NB := 32) 8 0) (fun b => eP c (blk b) WG)
    ∗ bigSep Finset.univ (widleP c WD) ∗ widleTP c WD
    ∗ (eP c (blk 0) WG ∗ eP c (blk 1) WG ∗ eP c (blk 2) WG ∗ eP c (blk 3) WG ∗ eP c (blk 4) WG ∗ eP c (blk 5) WG ∗ eP c (blk 6) WG ∗ eP c (blk 7) WG)
    ∗ ((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f))
    ∗ (zP c (cel 0) ∗ zP c (cel 1) ∗ zP c (cel 2) ∗ zP c (cel 3) ∗ zP c (cel 4) ∗ zP c (cel 5) ∗ zP c (cel 6) ∗ zP c (cel 7))
    ∗ (xP c mO ∗ xP c mXc ∗ xP c mXs ∗ xP c mHc ∗ xP c mHs)
    ∗ (xP c vX ∗ xP c vSg ∗ xP c vSd ∗ xP c vXq ∗ xP c vHq ∗ xP c vA1 ∗ xP c vA2 ∗ xP c vH ∗ xP c vO ∗ xP c vXc ∗ xP c vXs ∗ xP c vHc ∗ xP c vHs)
    ∗ (dP c 0 ∗ dP c 1 ∗ dP c 2 ∗ dP c 26 ∗ dP c 27 ∗ dP c 28 ∗ dP c 29 ∗ dP c 30)
    ∗ (∃ W, owes (c : Thread nD τ) 0 W))

/-- A separating conjunction over eight, written out. -/
theorem bigSep_fin8 (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Before the first trip each slot has its first block's copy in flight. -/
theorem role_first (s : Fin 8) (b : Fin 32) (h : nxt 0 s = b.val) : roleP c WG s (nxt 0 s) = iprop(∃ f, flightP c WG s b f) := by
  rw [h, roleP_fly c WG b.isLt, show Ring.bk 32 b.val = b from Fin.ext (Ring.bk_val b.isLt)]
/-- After the last trip each slot is free. -/
theorem role_last (s : Fin 8) : roleP c WG s (nxt k0_t1_loop.trips s) = iprop((∃ f, eP c (slt s) f) ∗ zP c (cel s)) := by
  refine roleP_free c WG ?_
  rw [show k0_t1_loop.trips = 32 from by decide]; unfold nxt; omega

/-- The first loop's invariant at its entry: the eight copies of the prologue in flight. -/
theorem inv1_first (XQ : MBuf (F := F) c vXq) (A0 : MBuf (F := F) c vA1) : inv1 c WG WD XQ A0 0 ()
    = iprop(hP c vA1 A0 ∗ hP c vXq XQ ∗ (∃ W, owes (c : Thread nD τ) 0 W) ∗ bigSep (Ring.homeSet (NB := 32) 8 0) (fun b => eP c (blk b) WG)
      ∗ ((∃ f, flightP c WG 0 0 f) ∗ (∃ f, flightP c WG 1 1 f) ∗ (∃ f, flightP c WG 2 2 f) ∗ (∃ f, flightP c WG 3 3 f) ∗ (∃ f, flightP c WG 4 4 f) ∗ (∃ f, flightP c WG 5 5 f) ∗ (∃ f, flightP c WG 6 6 f) ∗ (∃ f, flightP c WG 7 7 f)) ∗ bigSep Finset.univ (widleP c WD) ∗ widleTP c WD) := by
  unfold inv1 res1
  rw [bigSep_fin8, role_first c WG 0 0 (by decide), role_first c WG 1 1 (by decide), role_first c WG 2 2 (by decide), role_first c WG 3 3 (by decide), role_first c WG 4 4 (by decide), role_first c WG 5 5 (by decide), role_first c WG 6 6 (by decide), role_first c WG 7 7 (by decide), wdP_idle c WD (Nat.zero_le _)]
  rfl
/-- The first loop's invariant at its exit: every block home, every slot free, the second matrix in flight. -/
theorem inv1_last (XQ : MBuf (F := F) c vXq) (A0 : MBuf (F := F) c vA1) (u : Unit) : inv1 c WG WD XQ A0 k0_t1_loop.trips u
    = iprop(hP c vA1 (acc1 c WG XQ A0 32) ∗ hP c vXq XQ ∗ (∃ W, owes (c : Thread nD τ) 0 W) ∗ bigSep (Ring.homeSet (NB := 32) 8 32) (fun b => eP c (blk b) WG)
      ∗ (((∃ f, eP c (slt 0) f) ∗ zP c (cel 0)) ∗ ((∃ f, eP c (slt 1) f) ∗ zP c (cel 1)) ∗ ((∃ f, eP c (slt 2) f) ∗ zP c (cel 2)) ∗ ((∃ f, eP c (slt 3) f) ∗ zP c (cel 3)) ∗ ((∃ f, eP c (slt 4) f) ∗ zP c (cel 4)) ∗ ((∃ f, eP c (slt 5) f) ∗ zP c (cel 5)) ∗ ((∃ f, eP c (slt 6) f) ∗ zP c (cel 6)) ∗ ((∃ f, eP c (slt 7) f) ∗ zP c (cel 7))) ∗ bigSep Finset.univ (wflyP c WD) ∗ wflyTP c WD) := by
  unfold inv1 res1
  rw [bigSep_fin8]
  simp only [role_last]
  rw [wdP_fly c WD (show ¬ k0_t1_loop.trips ≤ 24 by decide)]
  rfl
/-- The shorter window's copy in flight, its place's earlier contents named. -/
theorem wflyTP_open : wflyTP c WD ⊢ iprop(∃ f, wflightTP c WD f) := .rfl
/-- The second loop's invariant before its first trip. -/
theorem inv2_first (HQ : MBuf (F := F) c vHq) (A0 : MBuf (F := F) c vA2) : inv2 c WD HQ A0 0 ()
    = iprop(hP c vA2 A0 ∗ hP c vHq HQ ∗ (∃ W, owes (c : Thread nD τ) 0 W) ∗ bigSep Finset.univ (wflyP c WD)) := by
  unfold inv2 res2; rw [roles2_zero]; rfl
/-- The second loop's invariant after its last trip. -/
theorem inv2_last (HQ : MBuf (F := F) c vHq) (A0 : MBuf (F := F) c vA2) (u : Unit) : inv2 c WD HQ A0 k0_t2_loop.trips u
    = iprop(hP c vA2 (acc2 c WD HQ A0 14) ∗ hP c vHq HQ ∗ (∃ W, owes (c : Thread nD τ) 0 W) ∗ bigSep Finset.univ (widleP c WD)) := by
  unfold inv2 res2; rw [show k0_t2_loop.trips = 14 from by decide, roles2_last]

/-- What the body gives back, its five results at the given contents. -/
abbrev POST (gO : MBuf (F := F) c mO) (gXc : MBuf (F := F) c mXc) (gXs : MBuf (F := F) c mXs) (gHc : MBuf (F := F) c mHc) (gHs : MBuf (F := F) c mHs) : sProp 𝕄 :=
  iprop(hP c mX X ∗ hP c mSg SG ∗ hP c mSd SD
    ∗ bigSep (Ring.homeSet (NB := 32) 8 32) (fun b => eP c (blk b) WG)
    ∗ bigSep Finset.univ (widleP c WD) ∗ widleTP c WD
    ∗ ((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f))
    ∗ (zP c (cel 0) ∗ zP c (cel 1) ∗ zP c (cel 2) ∗ zP c (cel 3) ∗ zP c (cel 4) ∗ zP c (cel 5) ∗ zP c (cel 6) ∗ zP c (cel 7))
    ∗ (hP c mO gO ∗ hP c mXc gXc ∗ hP c mXs gXs ∗ hP c mHc gHc ∗ hP c mHs gHs)
    ∗ (xP c vX ∗ xP c vSg ∗ xP c vSd ∗ xP c vXq ∗ xP c vHq ∗ xP c vA1 ∗ xP c vA2 ∗ xP c vH ∗ xP c vO ∗ xP c vXc ∗ xP c vXs ∗ xP c vHc ∗ xP c vHs)
    ∗ (dP c 0 ∗ dP c 1 ∗ dP c 2 ∗ dP c 26 ∗ dP c 27 ∗ dP c 28 ∗ dP c 29 ∗ dP c 30)
    ∗ (∃ W, owes (c : Thread nD τ) 0 W))

/-- The run: from `PRE` to `POST` at these results. -/
def RunP (rO : MBuf (F := F) c vX → MBuf (F := F) c vSg → MBuf (F := F) c vSd → MBuf (F := F) c vHq → MBuf (F := F) c vO → MBuf (F := F) c mO → MBuf (F := F) c mO) (rXc : MBuf (F := F) c vX → MBuf (F := F) c vXc → MBuf (F := F) c mXc → MBuf (F := F) c mXc) (rXs : MBuf (F := F) c vX → MBuf (F := F) c vXs → MBuf (F := F) c mXs → MBuf (F := F) c mXs) (rHc : MBuf (F := F) c vX → MBuf (F := F) c vSg → MBuf (F := F) c vHc → MBuf (F := F) c mHc → MBuf (F := F) c mHc) (rHs : MBuf (F := F) c vX → MBuf (F := F) c vSg → MBuf (F := F) c vHs → MBuf (F := F) c mHs → MBuf (F := F) c mHs) : Prop :=
  ∀ Q : PUnit → sProp 𝕄, iprop(PRE c X WG SG WD SD ∗ (∀ fvX : MBuf (F := F) c vX, ∀ fvSg : MBuf (F := F) c vSg, ∀ fvSd : MBuf (F := F) c vSd, ∀ fvHq : MBuf (F := F) c vHq, ∀ fvO : MBuf (F := F) c vO, ∀ fvXc : MBuf (F := F) c vXc, ∀ fvXs : MBuf (F := F) c vXs, ∀ fvHc : MBuf (F := F) c vHc, ∀ fvHs : MBuf (F := F) c vHs, ∀ o0 : MBuf (F := F) c mO, ∀ o1 : MBuf (F := F) c mXc, ∀ o2 : MBuf (F := F) c mXs, ∀ o3 : MBuf (F := F) c mHc, ∀ o4 : MBuf (F := F) c mHs,
      POST c X WG SG WD SD (rO fvX fvSg fvSd fvHq fvO o0) (rXc fvX fvXc o1) (rXs fvX fvXs o2) (rHc fvX fvSg fvHc o3) (rHs fvX fvSg fvHs o4) -∗ Q ⟨⟩))
    ⊢ wp frame (wpE (defs₀ (F := F)) Variants.none (c : Thread nD τ) none) Set.univ (bodyG (F := F)) Q

/-- The body's run: its five results, as functions of its operands and of what it found in the buffers it overwrites, and
    the run itself. -/
def Run : Type :=
  { r : (MBuf (F := F) c vX → MBuf (F := F) c vSg → MBuf (F := F) c vSd → MBuf (F := F) c vHq → MBuf (F := F) c vO → MBuf (F := F) c mO → MBuf (F := F) c mO) × (MBuf (F := F) c vX → MBuf (F := F) c vXc → MBuf (F := F) c mXc → MBuf (F := F) c mXc) × (MBuf (F := F) c vX → MBuf (F := F) c vXs → MBuf (F := F) c mXs → MBuf (F := F) c mXs) × (MBuf (F := F) c vX → MBuf (F := F) c vSg → MBuf (F := F) c vHc → MBuf (F := F) c mHc → MBuf (F := F) c mHc) × (MBuf (F := F) c vX → MBuf (F := F) c vSg → MBuf (F := F) c vHs → MBuf (F := F) c mHs → MBuf (F := F) c mHs) //
    RunP c X WG SG WD SD r.1 r.2.1 r.2.2.1 r.2.2.2.1 r.2.2.2.2 }
/-- A run from its five results and its proof. -/
def mkRun (rO : MBuf (F := F) c vX → MBuf (F := F) c vSg → MBuf (F := F) c vSd → MBuf (F := F) c vHq → MBuf (F := F) c vO → MBuf (F := F) c mO → MBuf (F := F) c mO) (rXc : MBuf (F := F) c vX → MBuf (F := F) c vXc → MBuf (F := F) c mXc → MBuf (F := F) c mXc) (rXs : MBuf (F := F) c vX → MBuf (F := F) c vXs → MBuf (F := F) c mXs → MBuf (F := F) c mXs) (rHc : MBuf (F := F) c vX → MBuf (F := F) c vSg → MBuf (F := F) c vHc → MBuf (F := F) c mHc → MBuf (F := F) c mHc) (rHs : MBuf (F := F) c vX → MBuf (F := F) c vSg → MBuf (F := F) c vHs → MBuf (F := F) c mHs → MBuf (F := F) c mHs) (h : RunP c X WG SG WD SD rO rXc rXs rHc rHs) : Run c X WG SG WD SD :=
  ⟨(rO, rXc, rXs, rHc, rHs), h⟩

set_option maxHeartbeats 2000000 in
set_option sl_exec.resultNames true in
/-- The body runs: to the first counted loop (the codes of `x`, its copies), through it by its invariant, to the second
    (the 29 groups of the gated product, its codes), through it, and to the end (the last window, the result, five waits). -/
def bodyRun : Run c X WG SG WD SD := by
  refine mkRun c X WG SG WD SD ?_ ?_ ?_ ?_ ?_ ?run
  case run =>
    unfold RunP
    intro Q
    iintro ⟨⟨HX, HSG, HSD, Hrest, HD, HDT, ⟨G0, G1, G2, G3, G4, G5, G6, G7⟩, ⟨⟨%s0, S0⟩, ⟨%s1, S1⟩, ⟨%s2, S2⟩, ⟨%s3, S3⟩, ⟨%s4, S4⟩, ⟨%s5, S5⟩, ⟨%s6, S6⟩, ⟨%s7, S7⟩⟩, ⟨C0, C1, C2, C3, C4, C5, C6, C7⟩, ⟨⟨%o0, O0⟩, ⟨%o1, O1⟩, ⟨%o2, O2⟩, ⟨%o3, O3⟩, ⟨%o4, O4⟩⟩, ⟨⟨%fvX, HvX⟩, ⟨%fvSg, HvSg⟩, ⟨%fvSd, HvSd⟩, ⟨%fvXq, HvXq⟩, ⟨%fvHq, HvHq⟩, ⟨%fvA1, HvA1⟩, ⟨%fvA2, HvA2⟩, ⟨%fvH, HvH⟩, ⟨%fvO, HvO⟩, ⟨%fvXc, HvXc⟩, ⟨%fvXs, HvXs⟩, ⟨%fvHc, HvHc⟩, ⟨%fvHs, HvHs⟩⟩, ⟨D0, D1, D2, D3, D4, D5, D6, D7⟩, ⟨%W, HW⟩⟩, Hk⟩
    dsimp only [bodyG]
    sl_unfold [cc0_fp8_gated_mlp]
    sl_exec_parts
    sl_for (inv1 c WG WD (vXq.view.writes (Elt F) vXq.view.junk (bodyRun.sl.HvXq_32 c X fvX)) (vA1.view.writes (Elt F) vA1.view.junk bodyRun.sl.HvA1_1)) $$ [HvA1 HvXq HW Hrest HD HDT C0 C1 C2 C3 C4 C5 C6 C7]
    · intro k acc; exact inv1_step c WG WD _ _ _ _ k acc
    · irw [inv1_first]
      isplitl [HvA1]; · iexact HvA1
      isplitl [HvXq]; · iexact HvXq
      isplitl [HW]; · iexists _; iexact HW
      isplitl [Hrest]; · iexact Hrest
      isplitr [HD HDT]
      · isplitl [C0]; · iexists s0; iexact C0
        isplitl [C1]; · iexists s1; iexact C1
        isplitl [C2]; · iexists s2; iexact C2
        isplitl [C3]; · iexists s3; iexact C3
        isplitl [C4]; · iexists s4; iexact C4
        isplitl [C5]; · iexists s5; iexact C5
        isplitl [C6]; · iexists s6; iexact C6
        iexists s7; iexact C7
      isplitl [HD]; · iexact HD
      iexact HDT
    iintro %acc HI
    ihave HI' := (Entails.of_eq (inv1_last c WG WD _ _ acc)) $$ HI
    icases HI' with ⟨HvA1, HvXq, ⟨%W1, HW⟩, Hrest, ⟨⟨⟨%t0, S0⟩, C0⟩, ⟨⟨%t1, S1⟩, C1⟩, ⟨⟨%t2, S2⟩, C2⟩, ⟨⟨%t3, S3⟩, C3⟩, ⟨⟨%t4, S4⟩, C4⟩, ⟨⟨%t5, S5⟩, C5⟩, ⟨⟨%t6, S6⟩, C6⟩, ⟨⟨%t7, S7⟩, C7⟩⟩, HD, HDT⟩
    sl_exec_parts
    sl_for (inv2 c WD (vHq.view.writes (Elt F) fvHq (⟨Rect.unit ![14, 0, 0] S1x32x128.size inb_S15x32x256_S1x32x128_14_0_0, k0_pay295 (bodyRun.sl.v2843 c X WG SG fvX fvSg)⟩ :: bodyRun.sl.HvHq_14 c X WG SG fvX fvSg))
        (vA2.view.writes (Elt F) vA2.view.junk bodyRun.sl.HvA2_1)) $$ [HvA2 HvHq HW HD]
    · intro k acc; exact inv2_step c WD _ _ _ _ k acc
    · irw [inv2_first]
      isplitl [HvA2]; · iexact HvA2
      isplitl [HvHq]; · iexact HvHq
      isplitl [HW]; · iexists _; iexact HW
      iexact HD
    iintro %acc2 HI
    ihave HI' := (Entails.of_eq (inv2_last c WD _ _ acc2)) $$ HI
    icases HI' with ⟨HvA2, HvHq, ⟨%W2, HW⟩, HD⟩
    ihave HDT' := (wflyTP_open c WD) $$ HDT
    icases HDT' with ⟨%dT, HT⟩
    sl_exec_parts
    sl_step
    iapply Hk $$ %fvX %fvSg %fvSd %fvHq %fvO %fvXc %fvXs %fvHc %fvHs %o0 %o1 %o2 %o3 %o4
    isplitl [HX]; · iexact HX
    isplitl [HSG]; · iexact HSG
    isplitl [HSD]; · iexact HSD
    isplitl [Hrest]; · iexact Hrest
    isplitl [HD]; · iexact HD
    isplitl [HT_src HT_dst HT]
    · unfold widleTP
      isplitl [HT_src]; · iexact HT_src
      isplitl [HT_dst]; · iexists _; iexact HT_dst
      iexact HT
    isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [O0 O1 O2 O3 O4]
    · isplitl [O0]; · iexact O0
      isplitl [O1]; · iexact O1
      isplitl [O2]; · iexact O2
      isplitl [O3]; · iexact O3
      iexact O4
    isplitl [HvX HvSg HvSd HvXq HvHq HvA1 HvA2 HvH HvO HvXc HvXs HvHc HvHs]
    · isplitl [HvX]; · iexists _; iexact HvX
      isplitl [HvSg]; · iexists _; iexact HvSg
      isplitl [HvSd]; · iexists _; iexact HvSd
      isplitl [HvXq]; · iexists _; iexact HvXq
      isplitl [HvHq]; · iexists _; iexact HvHq
      isplitl [HvA1]; · iexists _; iexact HvA1
      isplitl [HvA2]; · iexists _; iexact HvA2
      isplitl [HvH]; · iexists _; iexact HvH
      isplitl [HvO]; · iexists _; iexact HvO
      isplitl [HvXc]; · iexists _; iexact HvXc
      isplitl [HvXs]; · iexists _; iexact HvXs
      isplitl [HvHc]; · iexists _; iexact HvHc
      iexists _; iexact HvHs
    isplitl [D0 D1 D2 D3 D4 D5 D6 D7]
    · isplitl [D0]; · iexact D0
      isplitl [D1]; · iexact D1
      isplitl [D2]; · iexact D2
      isplitl [D3]; · iexact D3
      isplitl [D4]; · iexact D4
      isplitl [D5]; · iexact D5
      isplitl [D6]; · iexact D6
      iexact D7
    iexists _; iexact HW
end Body
end Cert.Kernel.Hand
end
-- ==== Proof.K.Split.lean ====
/-
  The launch: the buffers of the kernel split into the blocks, slots and windows the body's run takes, and joined again
  afterwards; the body obligation of the one grid point; the run of the whole program. Its conclusion says that the
  arguments are unchanged, that every semaphore ends at zero, and that the five results are those of the body's run.
-/
module

public import proofs.«01_k».proof.Proof.K.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Split
variable (c : Dev nD)

/-! ## Element sets, by row -/

/-- The rows of block `b` of the first matrix; of slot `s`; of window `i` of the second matrix, the last one shorter. -/
abbrev GB (b : Fin 32) : Finset S8192x7424.Idx := Finset.univ.filter fun y => (y 0).val / 256 = b.val
/-- The ring's indices in slot `s`. -/
abbrev GS (s : Fin 8) : Finset S8x256x7424.Idx := Finset.univ.filter fun y => (y 0).val = s.val
/-- The second weights' indices in window `i`. -/
abbrev GW (i : Fin 15) : Finset S3712x8192.Idx := Finset.univ.filter fun y => (y 0).val / 256 = i.val

/-- Different blocks share no index. -/
theorem GB_disjoint : ∀ b b' : Fin 32, b ≠ b' → Disjoint (GB b) (GB b') := by
  intro b b' hne; rw [Finset.disjoint_left]; intro y hy hy'
  simp only [Finset.mem_filter, Finset.mem_univ, true_and] at hy hy'; exact hne (Fin.ext (hy.symm.trans hy'))
/-- The blocks cover the first weights. -/
theorem GB_cover : (Finset.univ : Finset (Fin 32)).biUnion GB = Finset.univ := by
  ext y
  simp only [Finset.mem_biUnion, Finset.mem_filter, Finset.mem_univ, true_and, iff_true]
  have h : (y 0).val < 8192 := (y 0).isLt
  exact ⟨⟨(y 0).val / 256, by omega⟩, rfl⟩
/-- Different slots share no index. -/
theorem GS_disjoint : ∀ b b' : Fin 8, b ≠ b' → Disjoint (GS b) (GS b') := by
  intro b b' hne; rw [Finset.disjoint_left]; intro y hy hy'
  simp only [Finset.mem_filter, Finset.mem_univ, true_and] at hy hy'; exact hne (Fin.ext (hy.symm.trans hy'))
/-- The slots cover the ring. -/
theorem GS_cover : (Finset.univ : Finset (Fin 8)).biUnion GS = Finset.univ := by
  ext y
  simp only [Finset.mem_biUnion, Finset.mem_filter, Finset.mem_univ, true_and, iff_true]
  have h : (y 0).val < 8 := (y 0).isLt
  exact ⟨⟨(y 0).val, h⟩, rfl⟩
/-- Different windows share no index. -/
theorem GW_disjoint : ∀ b b' : Fin 15, b ≠ b' → Disjoint (GW b) (GW b') := by
  intro b b' hne; rw [Finset.disjoint_left]; intro y hy hy'
  simp only [Finset.mem_filter, Finset.mem_univ, true_and] at hy hy'; exact hne (Fin.ext (hy.symm.trans hy'))
/-- The windows cover the second weights. -/
theorem GW_cover : (Finset.univ : Finset (Fin 15)).biUnion GW = Finset.univ := by
  ext y
  simp only [Finset.mem_biUnion, Finset.mem_filter, Finset.mem_univ, true_and, iff_true]
  have h : (y 0).val < 3712 := (y 0).isLt
  exact ⟨⟨(y 0).val / 256, by omega⟩, rfl⟩

/-- Block `b` occupies its indices. -/
theorem blk_set (b : Fin 32) : (blk b).view.set = GB b := by
  refine (View.set_slice_whole _ _).trans ?_
  ext y
  rw [Rect.mem_set_unit]
  simp only [Finset.mem_filter, Finset.mem_univ, true_and]
  have h1 : (y 1).val < 7424 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 7424; omega
/-- Slot `s` occupies its indices. -/
theorem slt_set (s : Fin 8) : (slt s).view.set = GS s := by
  refine ((View.set_reshape _ _).trans (View.set_slice_whole _ _)).trans ?_
  ext y
  rw [Rect.mem_set_unit]
  simp only [Finset.mem_filter, Finset.mem_univ, true_and]
  have h1 : (y 1).val < 256 := (y 1).isLt
  have h2 : (y 2).val < 7424 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 7424; omega
/-- Window `i`'s rectangle is its indices. -/
theorem rectW_set (i : Fin 14) : (Rect.unit (s := S3712x8192) (winOff i) S256x8192.size (winOff_inb i)).set = GW i.castSucc := by
  ext y
  rw [Rect.mem_set_unit]
  simp only [Finset.mem_filter, Finset.mem_univ, true_and, Fin.val_castSucc]
  have h1 : (y 1).val < 8192 := (y 1).isLt
  constructor
  · intro H; have a0 : 256 * i.val ≤ (y 0).val ∧ (y 0).val < 256 * i.val + 256 := H 0; omega
  · intro H a; fin_cases a
    · show 256 * i.val ≤ (y 0).val ∧ (y 0).val < 256 * i.val + 256; omega
    · show 0 ≤ (y 1).val ∧ (y 1).val < 0 + 8192; omega
/-- The shorter window's rectangle is its indices. -/
theorem rectT_set : (Rect.unit (s := S3712x8192) tailOff S128x8192.size inb_S3712x8192_S128x8192_3584_0).set = GW 14 := by
  ext y
  rw [Rect.mem_set_unit]
  simp only [Finset.mem_filter, Finset.mem_univ, true_and]
  have h0 : (y 0).val < 3712 := (y 0).isLt
  have h1 : (y 1).val < 8192 := (y 1).isLt
  have h14 : ((14 : Fin 15) : ℕ) = 14 := rfl
  constructor
  · intro H; have a0 : 3584 ≤ (y 0).val ∧ (y 0).val < 3584 + 128 := H 0; omega
  · intro H a; fin_cases a
    · show 3584 ≤ (y 0).val ∧ (y 0).val < 3584 + 128; omega
    · show 0 ≤ (y 1).val ∧ (y 1).val < 0 + 8192; omega
/-- Window `i` in main memory occupies its indices. -/
theorem win_set (i : Fin 14) : (win i).view.set = GW i.castSucc := (View.set_slice_whole _ _).trans (rectW_set i)
/-- Window `i` of the local copy occupies its indices. -/
theorem wsl_set (i : Fin 14) : (wsl i).view.set = GW i.castSucc := (View.set_slice_whole _ _).trans (rectW_set i)
/-- The shorter window in main memory occupies its indices. -/
theorem winT_set : winT.view.set = GW 14 := (View.set_slice_whole _ _).trans rectT_set
/-- The shorter window of the local copy occupies its indices. -/
theorem wslT_set : wslT.view.set = GW 14 := (View.set_slice_whole _ _).trans rectT_set

/-! ## The first matrix and its ring -/

/-- Holding block `b` is holding its indices of the first weights. -/
theorem blkP_eq (b : Fin 32) (f : MBuf (F := F) c mWg) : (eP c (blk b) f : sProp 𝕄) = (((c : Thread nD τ).loc main_arg1) ↦[GB b]{fullShare} f : sProp 𝕄) :=
  congrArg (fun S => (_ ↦[S]{fullShare} f : sProp 𝕄)) (blk_set b)
/-- Holding slot `s` is holding its indices of the ring. -/
theorem sltP_eq (s : Fin 8) (f : MBuf (F := F) c vWg) : (eP c (slt s) f : sProp 𝕄) = (((c : Thread nD τ).loc cc0_scratch3) ↦[GS s]{fullShare} f : sProp 𝕄) :=
  congrArg (fun S => (_ ↦[S]{fullShare} f : sProp 𝕄)) (slt_set s)

/-- The first matrix whole is its 32 blocks; -/
theorem wg_all (f : MBuf (F := F) c mWg) : (hP c mWg f : sProp 𝕄) = bigSep Finset.univ (fun b => eP c (blk b) f) := by
  refine (Ring.pointsTo_blocks (Ix := Unit) (Name := ℕ) (U := Pipeline.UD sig nD τ) (Lvl := ℕ) (q := fullShare) (ℓ := (c : Thread nD τ).loc main_arg1) GB GB_disjoint GB_cover f).trans ?_
  exact bigSep_congr fun b _ => (blkP_eq c b f).symm
/-- after the run (all 32 home), -/
theorem wg_home (f : MBuf (F := F) c mWg) : (bigSep (Ring.homeSet (NB := 32) 8 32) (fun b => eP c (blk b) f) : sProp 𝕄) = hP c mWg f := by
  rw [wg_all, show (Ring.homeSet (NB := 32) 8 32) = Finset.univ from by decide]
/-- and before it, the first eight apart. -/
theorem wg_split (f : MBuf (F := F) c mWg) : (hP c mWg f : sProp 𝕄)
    = iprop(eP c (blk 0) f ∗ eP c (blk 1) f ∗ eP c (blk 2) f ∗ eP c (blk 3) f ∗ eP c (blk 4) f ∗ eP c (blk 5) f ∗ eP c (blk 6) f ∗ eP c (blk 7) f ∗ bigSep (Ring.homeSet (NB := 32) 8 0) (fun b => eP c (blk b) f)) := by
  have e : (Finset.univ : Finset (Fin 32)) = insert 0 (insert 1 (insert 2 (insert 3 (insert 4 (insert 5 (insert 6 (insert 7 (Ring.homeSet (NB := 32) 8 0)))))))) := by decide
  rw [wg_all, e, bigSep_insert (by decide), bigSep_insert (by decide), bigSep_insert (by decide), bigSep_insert (by decide), bigSep_insert (by decide), bigSep_insert (by decide), bigSep_insert (by decide), bigSep_insert (by decide)]
  rfl

/-- The ring's buffer whole is its eight slots, and back. -/
theorem vwg_split : (xP (F := F) c vWg : sProp 𝕄) ⊢ iprop((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f)) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch3) GS GS_disjoint GS_cover f).trans (bigSep_fin8 _))) $$ H
  icases H2 with ⟨H0, H1, H2, H3, H4, H5, H6, H7⟩
  isplitl [H0]
  · iexists f; iapply (Entails.of_eq (sltP_eq c 0 f).symm); iexact H0
  isplitl [H1]
  · iexists f; iapply (Entails.of_eq (sltP_eq c 1 f).symm); iexact H1
  isplitl [H2]
  · iexists f; iapply (Entails.of_eq (sltP_eq c 2 f).symm); iexact H2
  isplitl [H3]
  · iexists f; iapply (Entails.of_eq (sltP_eq c 3 f).symm); iexact H3
  isplitl [H4]
  · iexists f; iapply (Entails.of_eq (sltP_eq c 4 f).symm); iexact H4
  isplitl [H5]
  · iexists f; iapply (Entails.of_eq (sltP_eq c 5 f).symm); iexact H5
  isplitl [H6]
  · iexists f; iapply (Entails.of_eq (sltP_eq c 6 f).symm); iexact H6
  iexists f; iapply (Entails.of_eq (sltP_eq c 7 f).symm); iexact H7
/-- The eight slots make up the ring. -/
theorem vwg_join : iprop((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f)) ⊢ (xP (F := F) c vWg : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch3) GS GS_disjoint GS_cover f0)
  irw [bigSep_fin8]
  isplitl [H0]
  · iexists f0; iapply (Entails.of_eq (sltP_eq c 0 f0)); iexact H0
  isplitl [H1]
  · iexists f1; iapply (Entails.of_eq (sltP_eq c 1 f1)); iexact H1
  isplitl [H2]
  · iexists f2; iapply (Entails.of_eq (sltP_eq c 2 f2)); iexact H2
  isplitl [H3]
  · iexists f3; iapply (Entails.of_eq (sltP_eq c 3 f3)); iexact H3
  isplitl [H4]
  · iexists f4; iapply (Entails.of_eq (sltP_eq c 4 f4)); iexact H4
  isplitl [H5]
  · iexists f5; iapply (Entails.of_eq (sltP_eq c 5 f5)); iexact H5
  isplitl [H6]
  · iexists f6; iapply (Entails.of_eq (sltP_eq c 6 f6)); iexact H6
  iexists f7; iapply (Entails.of_eq (sltP_eq c 7 f7)); iexact H7

/-! ## The second matrix and its resident copy -/

/-- A separating conjunction over fifteen: the last apart from the fourteen. -/
theorem bigSep_fin15 (Φ : Fin 15 → sProp 𝕄) : bigSep Finset.univ Φ = iprop(Φ 14 ∗ bigSep Finset.univ (fun i : Fin 14 => Φ i.castSucc)) := by
  rw [bigSep_univ_eq_bigSepL [(14 : Fin 15), 0, 1, 2, 3, 4, 5, 6, 7, 8, 9, 10, 11, 12, 13] (by decide) (by decide) Φ,
    bigSep_univ_eq_bigSepL [(0 : Fin 14), 1, 2, 3, 4, 5, 6, 7, 8, 9, 10, 11, 12, 13] (by decide) (by decide)]
  rfl
/-- The second matrix whole is its last window and the 14 others. -/
theorem wd_all (f : MBuf (F := F) c mWd) : (hP c mWd f : sProp 𝕄) = iprop(eP c winT f ∗ bigSep Finset.univ (fun i => eP c (win i) f)) := by
  refine ((Ring.pointsTo_blocks (Ix := Unit) (Name := ℕ) (U := Pipeline.UD sig nD τ) (Lvl := ℕ) (q := fullShare) (ℓ := (c : Thread nD τ).loc main_arg3) GW GW_disjoint GW_cover f).trans (bigSep_fin15 _)).trans ?_
  exact congrArg₂ (fun P Q : sProp 𝕄 => iprop(P ∗ Q)) (congrArg (fun S => (_ ↦[S]{fullShare} f : sProp 𝕄)) winT_set.symm)
    (bigSep_congr fun i _ => congrArg (fun S => (_ ↦[S]{fullShare} f : sProp 𝕄)) (win_set i).symm)
/-- A window's indices of the local copy are that window, at some contents. -/
theorem wsl_intro (i : Fin 14) (f : MBuf (F := F) c vWd) : (((c : Thread nD τ).loc cc0_scratch4) ↦[GW i.castSucc]{fullShare} f : sProp 𝕄) ⊢ iprop(∃ f, eP c (wsl i) f) := by
  iintro H; iexists f; iapply (Entails.of_eq (congrArg (fun S => (_ ↦[S]{fullShare} f : sProp 𝕄)) (wsl_set i).symm)); iexact H
/-- And back. -/
theorem wsl_elim (i : Fin 14) : (iprop(∃ f, eP c (wsl i) f) : sProp 𝕄) ⊢ iprop(∃ f : MBuf (F := F) c vWd, ((c : Thread nD τ).loc cc0_scratch4) ↦[GW i.castSucc]{fullShare} f) := by
  iintro ⟨%f, H⟩; iexists f; iapply (Entails.of_eq (congrArg (fun S => (_ ↦[S]{fullShare} f : sProp 𝕄)) (wsl_set i))); iexact H
/-- The local copy of the second weights is its fifteen windows. -/
theorem vwd_split : (xP (F := F) c vWd : sProp 𝕄) ⊢ iprop((∃ f, eP c wslT f) ∗ bigSep Finset.univ (fun i => iprop(∃ f, eP c (wsl i) f))) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch4) GW GW_disjoint GW_cover f).trans (bigSep_fin15 _))) $$ H
  icases H2 with ⟨HT, H⟩
  isplitl [HT]
  · iexists f; iapply (Entails.of_eq (congrArg (fun S => (_ ↦[S]{fullShare} f : sProp 𝕄)) wslT_set.symm)); iexact HT
  have h : (bigSep Finset.univ (fun i : Fin 14 => (((c : Thread nD τ).loc cc0_scratch4) ↦[GW i.castSucc]{fullShare} f : sProp 𝕄)) : sProp 𝕄)
      ⊢ (bigSep Finset.univ (fun i => iprop(∃ f, eP c (wsl i) f)) : sProp 𝕄) := bigSep_mono fun i _ => wsl_intro c i f
  iapply h; iexact H
/-- The fifteen windows make up the local copy. -/
theorem vwd_join : iprop((∃ f, eP c wslT f) ∗ bigSep Finset.univ (fun i => iprop(∃ f, eP c (wsl i) f))) ⊢ (xP (F := F) c vWd : sProp 𝕄) := by
  iintro ⟨⟨%f, HT⟩, H⟩
  iapply (Ring.pointsTo_blocks_join_exists (ℓ := (c : Thread nD τ).loc cc0_scratch4) GW GW_disjoint GW_cover f)
  irw [bigSep_fin15]
  isplitl [HT]
  · iexists f; iapply (Entails.of_eq (congrArg (fun S => (_ ↦[S]{fullShare} f : sProp 𝕄)) wslT_set)); iexact HT
  have h : (bigSep Finset.univ (fun i => iprop(∃ f, eP c (wsl i) f)) : sProp 𝕄)
      ⊢ (bigSep Finset.univ (fun i : Fin 14 => iprop(∃ f, (((c : Thread nD τ).loc cc0_scratch4) ↦[GW i.castSucc]{fullShare} f : sProp 𝕄))) : sProp 𝕄) := bigSep_mono fun i _ => wsl_elim c i
  iapply h; iexact H

/-- The windows of the second matrix, those of its copy and their cells, as the body takes them. -/
theorem widle_all (WD : MBuf (F := F) c mWd) : (bigSep Finset.univ (widleP c WD) : sProp 𝕄)
    = iprop(bigSep Finset.univ (fun i => eP c (win i) WD) ∗ bigSep Finset.univ (fun i => iprop(∃ f, eP c (wsl i) f)) ∗ bigSep Finset.univ (fun i : Fin 14 => zP c (wcel i.castSucc))) := by
  exact (bigSep_sep _ _ _).trans (congrArg (fun Q : sProp 𝕄 => iprop(bigSep Finset.univ (fun i => eP c (win i) WD) ∗ Q)) (bigSep_sep _ _ _))
/-- The fourteen windows' cells, written out. -/
theorem wcells (c : Dev nD) : (bigSep Finset.univ (fun i : Fin 14 => zP (F := F) c (wcel i.castSucc)) : sProp 𝕄)
    = iprop(dP c 11 ∗ dP c 12 ∗ dP c 13 ∗ dP c 14 ∗ dP c 15 ∗ dP c 16 ∗ dP c 17 ∗ dP c 18 ∗ dP c 19 ∗ dP c 20 ∗ dP c 21 ∗ dP c 22 ∗ dP c 23 ∗ dP c 24) := by
  rw [bigSep_univ_eq_bigSepL [(0 : Fin 14), 1, 2, 3, 4, 5, 6, 7, 8, 9, 10, 11, 12, 13] (by decide) (by decide)]; rfl

end Split

end Cert.Kernel.Hand

end
-- ==== Proof.Sat.lean ====
/-
  The launch theorem for a kernel that writes its results by copies of its own, in the form this proof uses: no table is
  prefetched, and the results are taken back at some contents that satisfy a given predicate.
-/
module

public import Idealize.ShloMosaic.Lib.Pipeline.FrameValue

@[expose] public section

noncomputable section

namespace Cert.Sat

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)] {K : Type} [Fintype K]
variable (cfgs : P → Pipeline.Cfg sig Λ₀)
  (dats : (p : P) → (c : Dev nD) → Pipeline.Dat τ Val Unit ℕ (UD sig nD τ) ℕ (cfgs p) c) (p : P) (kit : LaunchFacts (nD := nD) (τ := τ) cfgs p)
  (osem : K → SemLoc sig) (defs₀ : Defs nD τ sig Val Λ₀) (𝒱₀ : Variants)

include kit in
/-- The run of a program that is host operations and one region: from an invariant entered with the buffers `H` and `R` at
    their launch contents and left with `R` at some contents satisfying `PG`, every other buffer ends as the region found
    it, those of `R` end at contents satisfying `PG`, and every counter ends at zero. -/
theorem θ_run_frame_dmaRSat (ho : OwnSemFacts (cfgs p).spec osem) (H R : Finset (Ref sig .tc)) (hH : H ⊆ restRefs sig (cfgs p).spec)
    (hR : R ⊆ restRefs sig (cfgs p).spec \ H)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hshare : ∀ c w, (dats p c).share w = fullShare) (howed : ∀ c t, (dats p c).owed t = 0)
    (V : (c : Dev nD) → (b : Ref sig .tc) → Buf Val ((c.tc : Thread nD τ).loc b))
    (hmain : HMain (Ix := Unit) (Name := ℕ) (U := UD sig nD τ) (Lvl := ℕ) cfgs p defs₀ 𝒱₀ m main V)
    (hA : ∀ c w, (dats p c).A w = V c (arrRef (cfgs p).spec w))
    (PG : (c : Dev nD) → ((b : Ref sig .tc) → Buf Val ((c.tc : Thread nD τ).loc b)) → Prop)
    (hin : ∀ c, ΦDRG osem (cfgs p).spec H R V V c ⊢ (dats p c).Φ 0)
    (hout : ∀ c, (dats p c).Φ (Fin.last (cfgs p).N) ⊢ iprop(ΦD osem (cfgs p).spec H V c ∗ routedSat R c (PG c))) :
    θ_run (Pipeline.defs (fun q => Cfg.toPCfg (Val := Val) (cfgs q)) defs₀) (onTc main) (s₀ m g) (fun r => (∀ c : Dev nD, ∀ b ∈ restRefs sig (cfgs p).spec \ R, r.2.mem ((c.tc : Thread nD τ).loc b) = V c b)
      ∧ (∀ c : Dev nD, ∃ W : (b : Ref sig .tc) → Buf Val ((c.tc : Thread nD τ).loc b), PG c W ∧ ∀ b ∈ R, r.2.mem ((c.tc : Thread nD τ).loc b) = W b)
      ∧ r.2.sem = fun _ => 0) :=
  have hrest : restRefs sig (cfgs p).spec ⊆ restRefsP sig Prefetch.none (cfgs p).spec :=
    fun b hb => Finset.mem_sdiff.mpr ⟨hb, fun h => ((Finset.mem_image.mp h).elim fun k _ => k.elim0)⟩
  RDat.θ_run_frameP_dmaRSat_shared (fun q => (cfgs q).toPCfg (Val := Val)) (fun q => (cfgs q).toPCfg_adm) p kit.toP.to₀ osem defs₀ 𝒱₀
    (fun c => (dats p c).toR) ho H R (hH.trans hrest) (hR.trans (Finset.sdiff_subset_sdiff hrest subset_rfl))
    m g main (fun c => (hbody c).toR) (fun c w hw => ((dats p c).toR).q_eq_shareOf_of_share_full (kit.toP (Val := Val)).win.arr_inj (hshare c) w hw)
    howed V hmain hA (fun _ k => k.elim0) PG
    (fun c => (show _ ⊢ ΦDRG osem (cfgs p).spec H R V V c from by iintro ⟨H, -⟩; iexact H).trans (hin c)) hout
    _ (fun r h => ⟨fun c => (h.1.1 c).2, h.1.2, h.2⟩)

end Cert.Sat

end
-- ==== Proof.K.Launch.lean ====
/-
  The launch: the body obligation of the kernel's one grid point, from the buffers split (Split.lean) to the body's run
  (Body.lean) and back, and the run of the whole program. Its conclusion says that the arguments are unchanged, that every
  semaphore ends at zero, and that the five results are those of the body's run.
-/
module

public import proofs.«01_k».proof.Proof.K.Split
public import proofs.«01_k».proof.Proof.Sat

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at this algebra -/

/-- The region's operands: the arguments, three of them reshaped. -/
abbrev Vh (c : Dev nD) (b : Ref sig .tc) : Buf (Elt F) ((c : Thread nD τ).loc b) := StableHlo.after hostOps0 (fun b => m (c, b)) b

set_option maxHeartbeats 800000 in
theorem hmain_ud (𝒱₀ : Variants) : Pipeline.HMain (Ix := Unit) (Name := ℕ) (U := Pipeline.UD sig nD τ) (Lvl := ℕ) cfgs 0 defs₀ 𝒱₀ m (main (F := F)) (Vh m) :=
  Pipeline.hmain_prefix cfgs 0 defs₀ 𝒱₀ m main hostOps0 hostOps0_sub hostOps0_fresh main_chain

/-! ## The buffers and cells the region's invariant names -/

/-- The kernel's own DMA cells, all 31. -/
abbrev osem0 : Fin 31 → SemLoc sig := fun j => SemLoc.dma j
/-- The cells are distinct and belong to no window. -/
theorem ownSemFacts0 : Pipeline.OwnSemFacts (cfg0.spec) osem0 := by decide
/-- The buffers the body reads by its own copies; the five results, which it writes by its own copies. -/
def H0 : Finset (Ref sig .tc) := {main_v0, main_arg1, main_v1, main_arg3, main_v2}
/-- The five results. -/
def R0 : Finset (Ref sig .tc) := {main_v3_0, main_v3_1, main_v3_2, main_v3_3, main_v3_4}
/-- The operands are unscoped buffers outside the windows. -/
theorem H0_sub : H0 ⊆ Pipeline.restRefs sig (cfg0.spec) := by decide
/-- So are the results, and none is an operand. -/
theorem R0_sub : R0 ⊆ Pipeline.restRefs sig (cfg0.spec) \ H0 := by decide

/-- The cells at zero, written out. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(dP c 0 ∗ dP c 1 ∗ dP c 2 ∗ dP c 26 ∗ dP c 27 ∗ dP c 28 ∗ dP c 29 ∗ dP c 30 ∗ dP c 3 ∗ dP c 4 ∗ dP c 5 ∗ dP c 6 ∗ dP c 7 ∗ dP c 8 ∗ dP c 9 ∗ dP c 10 ∗ dP c 25 ∗ dP c 11 ∗ dP c 12 ∗ dP c 13 ∗ dP c 14 ∗ dP c 15 ∗ dP c 16 ∗ dP c 17 ∗ dP c 18 ∗ dP c 19 ∗ dP c 20 ∗ dP c 21 ∗ dP c 22 ∗ dP c 23 ∗ dP c 24) := by
  rw [Pipeline.ownSems0_eq_of_list c osem0 [0, 1, 2, 26, 27, 28, 29, 30, 3, 4, 5, 6, 7, 8, 9, 10, 25, 11, 12, 13, 14, 15, 16, 17, 18, 19, 20, 21, 22, 23, 24] (by decide) (by decide)]; rfl
/-- The operands held, written out. -/
theorem hbmPts0_eq (c : Dev nD) (W : (b : Ref sig .tc) → Buf (Elt F) ((c : Thread nD τ).loc b)) :
    (bigSep H0 (fun b => ((c : Thread nD τ).loc b) ↦{fullShare} W b) : sProp 𝕄)
      = iprop(hP c mX (W main_v0) ∗ hP c mWg (W main_arg1) ∗ hP c mSg (W main_v1) ∗ hP c mWd (W main_arg3) ∗ hP c mSd (W main_v2)) := by
  rw [BI.bigSep_eq_bigSepL_of_eq [main_v0, main_arg1, main_v1, main_arg3, main_v2] (by decide) (by decide)]; rfl
/-- The results held, written out. -/
theorem routed0_eq (c : Dev nD) (W : (b : Ref sig .tc) → Buf (Elt F) ((c : Thread nD τ).loc b)) :
    (Pipeline.routed R0 c W : sProp 𝕄)
      = iprop(hP c mO (W main_v3_0) ∗ hP c mXc (W main_v3_1) ∗ hP c mXs (W main_v3_2) ∗ hP c mHc (W main_v3_3) ∗ hP c mHs (W main_v3_4)) := by
  unfold Pipeline.routed
  rw [BI.bigSep_eq_bigSepL_of_eq [main_v3_0, main_v3_1, main_v3_2, main_v3_3, main_v3_4] (by decide) (by decide)]; rfl
/-- The body's own buffers, written out. -/
theorem scoped0_eq (c : Dev nD) :
    (Pipeline.scopedRest (Ix := Unit) (Name := ℕ) (U := Pipeline.UD sig nD τ) (Lvl := ℕ) (Val := Elt F) (cfg0.spec) c : sProp 𝕄)
      = iprop(xP c vX ∗ xP c vSg ∗ xP c vSd ∗ xP c vWg ∗ xP c vWd ∗ xP c vXq ∗ xP c vHq ∗ xP c vA1 ∗ xP c vA2 ∗ xP c vH ∗ xP c vO ∗ xP c vXc ∗ xP c vXs ∗ xP c vHc ∗ xP c vHs) := scopedRest0_eq c

/-- The region's invariant, written out. -/
theorem PhiD_eq (c : Dev nD) : (Pipeline.ΦD osem0 (cfg0.spec) H0 (Vh m) c : sProp 𝕄)
    = iprop(iprop(xP c vX ∗ xP c vSg ∗ xP c vSd ∗ xP c vWg ∗ xP c vWd ∗ xP c vXq ∗ xP c vHq ∗ xP c vA1 ∗ xP c vA2 ∗ xP c vH ∗ xP c vO ∗ xP c vXc ∗ xP c vXs ∗ xP c vHc ∗ xP c vHs) ∗ (∃ r, prngReg c r)
        ∗ iprop(dP c 0 ∗ dP c 1 ∗ dP c 2 ∗ dP c 26 ∗ dP c 27 ∗ dP c 28 ∗ dP c 29 ∗ dP c 30 ∗ dP c 3 ∗ dP c 4 ∗ dP c 5 ∗ dP c 6 ∗ dP c 7 ∗ dP c 8 ∗ dP c 9 ∗ dP c 10 ∗ dP c 25 ∗ dP c 11 ∗ dP c 12 ∗ dP c 13 ∗ dP c 14 ∗ dP c 15 ∗ dP c 16 ∗ dP c 17 ∗ dP c 18 ∗ dP c 19 ∗ dP c 20 ∗ dP c 21 ∗ dP c 22 ∗ dP c 23 ∗ dP c 24)
        ∗ iprop(hP c mX (Vh m c main_v0) ∗ hP c mWg (Vh m c main_arg1) ∗ hP c mSg (Vh m c main_v1) ∗ hP c mWd (Vh m c main_arg3) ∗ hP c mSd (Vh m c main_v2))) := by
  rw [Pipeline.ΦD_eq, scoped0_eq, ownSems00_eq, hbmPts0_eq c (Vh m c)]

/-! ## Into the body and out of it -/

section Ends
variable (c : Dev nD)

/-- The body's run at the region's operands. -/
abbrev theRun : Run (F := F) c (Vh m c main_v0) (Vh m c main_arg1) (Vh m c main_v1) (Vh m c main_arg3) (Vh m c main_v2) :=
  bodyRun c (Vh m c main_v0) (Vh m c main_arg1) (Vh m c main_v1) (Vh m c main_arg3) (Vh m c main_v2)

/-- What the program leaves in its results: the body's results, at some contents of the buffers it overwrites. -/
def PG (W : (b : Ref sig .tc) → Buf (Elt F) ((c.tc : Thread nD τ).loc b)) : Prop :=
  ∃ (fvX : MBuf (F := F) c vX) (fvSg : MBuf (F := F) c vSg) (fvSd : MBuf (F := F) c vSd) (fvHq : MBuf (F := F) c vHq) (fvO : MBuf (F := F) c vO)
    (fvXc : MBuf (F := F) c vXc) (fvXs : MBuf (F := F) c vXs) (fvHc : MBuf (F := F) c vHc) (fvHs : MBuf (F := F) c vHs)
    (o0 : MBuf (F := F) c mO) (o1 : MBuf (F := F) c mXc) (o2 : MBuf (F := F) c mXs) (o3 : MBuf (F := F) c mHc) (o4 : MBuf (F := F) c mHs),
    W main_v3_0 = (theRun m c).1.1 fvX fvSg fvSd fvHq fvO o0 ∧ W main_v3_1 = (theRun m c).1.2.1 fvX fvXc o1
    ∧ W main_v3_2 = (theRun m c).1.2.2.1 fvX fvXs o2 ∧ W main_v3_3 = (theRun m c).1.2.2.2.1 fvX fvSg fvHc o3
    ∧ W main_v3_4 = (theRun m c).1.2.2.2.2 fvX fvSg fvHs o4

/-- The region's buffers with the results at given contents. -/
def upd5 (gO : MBuf (F := F) c mO) (gXc : MBuf (F := F) c mXc) (gXs : MBuf (F := F) c mXs) (gHc : MBuf (F := F) c mHc) (gHs : MBuf (F := F) c mHs) :
    (b : Ref sig .tc) → Buf (Elt F) ((c.tc : Thread nD τ).loc b) :=
  Function.update (Function.update (Function.update (Function.update (Function.update (Vh m c) main_v3_0 gO) main_v3_1 gXc) main_v3_2 gXs) main_v3_3 gHc) main_v3_4 gHs
section
variable (gO : MBuf (F := F) c mO) (gXc : MBuf (F := F) c mXc) (gXs : MBuf (F := F) c mXs) (gHc : MBuf (F := F) c mHc) (gHs : MBuf (F := F) c mHs)
/-- The output's contents. -/
theorem upd5_0 : upd5 m c gO gXc gXs gHc gHs main_v3_0 = gO := by
  unfold upd5
  rw [Function.update_of_ne (by decide), Function.update_of_ne (by decide), Function.update_of_ne (by decide), Function.update_of_ne (by decide), Function.update_self]
/-- The input's codes' contents. -/
theorem upd5_1 : upd5 m c gO gXc gXs gHc gHs main_v3_1 = gXc := by
  unfold upd5
  rw [Function.update_of_ne (by decide), Function.update_of_ne (by decide), Function.update_of_ne (by decide), Function.update_self]
/-- The input's scales' contents. -/
theorem upd5_2 : upd5 m c gO gXc gXs gHc gHs main_v3_2 = gXs := by
  unfold upd5
  rw [Function.update_of_ne (by decide), Function.update_of_ne (by decide), Function.update_self]
/-- The gated product's codes' contents. -/
theorem upd5_3 : upd5 m c gO gXc gXs gHc gHs main_v3_3 = gHc := by
  unfold upd5
  rw [Function.update_of_ne (by decide), Function.update_self]
/-- The gated product's scales' contents. -/
theorem upd5_4 : upd5 m c gO gXc gXs gHc gHs main_v3_4 = gHs := by
  unfold upd5
  rw [Function.update_self]
end

/-- From the region's invariant to what the body takes. -/
theorem enter : iprop(iprop(Pipeline.ΦD osem0 (cfg0.spec) H0 (Vh m) c ∗ Pipeline.routed R0 c (Vh m c)) ∗ (∃ W, owes (c : Thread nD τ) 0 W))
    ⊢ (iprop((∃ r, prngReg c r) ∗ PRE c (Vh m c main_v0) (Vh m c main_arg1) (Vh m c main_v1) (Vh m c main_arg3) (Vh m c main_v2)) : sProp 𝕄) := by
  rw [PhiD_eq, routed0_eq]
  iintro ⟨⟨⟨⟨vX, vSg, vSd, vWg, vWd, vXq, vHq, vA1, vA2, vH, vO, vXc, vXs, vHc, vHs⟩, HP, ⟨D0, D1, D2, D26, D27, D28, D29, D30, D3, D4, D5, D6, D7, D8, D9, D10, D25, D11, D12, D13, D14, D15, D16, D17, D18, D19, D20, D21, D22, D23, D24⟩, ⟨HX, HWG, HSG, HWD, HSD⟩⟩, ⟨O0, O1, O2, O3, O4⟩⟩, HW⟩
  isplitl [HP]; · iexact HP
  ihave HWG' := (Entails.of_eq (wg_split c (Vh m c main_arg1))) $$ HWG
  icases HWG' with ⟨B0, B1, B2, B3, B4, B5, B6, B7, Hrest⟩
  ihave HWD' := (Entails.of_eq (wd_all c (Vh m c main_arg3))) $$ HWD
  icases HWD' with ⟨HWDT, HWD⟩
  ihave HS := (vwg_split c) $$ vWg
  ihave HvWd := (vwd_split c) $$ vWd
  icases HvWd with ⟨HvT, HvW⟩
  isplitl [HX]; · iexact HX
  isplitl [HSG]; · iexact HSG
  isplitl [HSD]; · iexact HSD
  isplitl [Hrest]; · iexact Hrest
  isplitl [HWD HvW D11 D12 D13 D14 D15 D16 D17 D18 D19 D20 D21 D22 D23 D24]
  · irw [widle_all, wcells]
    isplitl [HWD]; · iexact HWD
    isplitl [HvW]; · iexact HvW
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    isplitl [D22]; · iexact D22
    isplitl [D23]; · iexact D23
    iexact D24
  isplitl [HWDT HvT D25]
  · unfold widleTP
    isplitl [HWDT]; · iexact HWDT
    isplitl [HvT]; · iexact HvT
    iexact D25
  isplitl [B0 B1 B2 B3 B4 B5 B6 B7]
  · skip
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HS]; · iexact HS
  isplitl [D3 D4 D5 D6 D7 D8 D9 D10]
  · skip
    isplitl [D3]; · iexact D3
    isplitl [D4]; · iexact D4
    isplitl [D5]; · iexact D5
    isplitl [D6]; · iexact D6
    isplitl [D7]; · iexact D7
    isplitl [D8]; · iexact D8
    isplitl [D9]; · iexact D9
    iexact D10
  isplitl [O0 O1 O2 O3 O4]
  · isplitl [O0]; · iexists _; iexact O0
    isplitl [O1]; · iexists _; iexact O1
    isplitl [O2]; · iexists _; iexact O2
    isplitl [O3]; · iexists _; iexact O3
    iexists _; iexact O4
  isplitl [vX vSg vSd vXq vHq vA1 vA2 vH vO vXc vXs vHc vHs]
  · skip
    isplitl [vX]; · iexact vX
    isplitl [vSg]; · iexact vSg
    isplitl [vSd]; · iexact vSd
    isplitl [vXq]; · iexact vXq
    isplitl [vHq]; · iexact vHq
    isplitl [vA1]; · iexact vA1
    isplitl [vA2]; · iexact vA2
    isplitl [vH]; · iexact vH
    isplitl [vO]; · iexact vO
    isplitl [vXc]; · iexact vXc
    isplitl [vXs]; · iexact vXs
    isplitl [vHc]; · iexact vHc
    iexact vHs
  isplitl [D0 D1 D2 D26 D27 D28 D29 D30]
  · skip
    isplitl [D0]; · iexact D0
    isplitl [D1]; · iexact D1
    isplitl [D2]; · iexact D2
    isplitl [D26]; · iexact D26
    isplitl [D27]; · iexact D27
    isplitl [D28]; · iexact D28
    isplitl [D29]; · iexact D29
    iexact D30
  iexact HW

/-- From what the body gives back to the region's invariant. -/
theorem leave (fvX : MBuf (F := F) c vX) (fvSg : MBuf (F := F) c vSg) (fvSd : MBuf (F := F) c vSd) (fvHq : MBuf (F := F) c vHq) (fvO : MBuf (F := F) c vO)
    (fvXc : MBuf (F := F) c vXc) (fvXs : MBuf (F := F) c vXs) (fvHc : MBuf (F := F) c vHc) (fvHs : MBuf (F := F) c vHs)
    (o0 : MBuf (F := F) c mO) (o1 : MBuf (F := F) c mXc) (o2 : MBuf (F := F) c mXs) (o3 : MBuf (F := F) c mHc) (o4 : MBuf (F := F) c mHs) :
    iprop((∃ r, prngReg c r) ∗ POST c (Vh m c main_v0) (Vh m c main_arg1) (Vh m c main_v1) (Vh m c main_arg3) (Vh m c main_v2)
        ((theRun m c).1.1 fvX fvSg fvSd fvHq fvO o0) ((theRun m c).1.2.1 fvX fvXc o1) ((theRun m c).1.2.2.1 fvX fvXs o2)
        ((theRun m c).1.2.2.2.1 fvX fvSg fvHc o3) ((theRun m c).1.2.2.2.2 fvX fvSg fvHs o4))
      ⊢ (iprop(iprop(Pipeline.ΦD osem0 (cfg0.spec) H0 (Vh m) c ∗ Pipeline.routedSat R0 c (PG m c)) ∗ (∃ W, owes (c : Thread nD τ) 0 W)) : sProp 𝕄) := by
  rw [PhiD_eq]
  generalize hgO : (theRun m c).1.1 fvX fvSg fvSd fvHq fvO o0 = gO
  generalize hgXc : (theRun m c).1.2.1 fvX fvXc o1 = gXc
  generalize hgXs : (theRun m c).1.2.2.1 fvX fvXs o2 = gXs
  generalize hgHc : (theRun m c).1.2.2.2.1 fvX fvSg fvHc o3 = gHc
  generalize hgHs : (theRun m c).1.2.2.2.2 fvX fvSg fvHs o4 = gHs
  have hPG : PG m c (upd5 m c gO gXc gXs gHc gHs) :=
    ⟨fvX, fvSg, fvSd, fvHq, fvO, fvXc, fvXs, fvHc, fvHs, o0, o1, o2, o3, o4, (upd5_0 ..).trans hgO.symm, (upd5_1 ..).trans hgXc.symm,
      (upd5_2 ..).trans hgXs.symm, (upd5_3 ..).trans hgHc.symm, (upd5_4 ..).trans hgHs.symm⟩
  clear hgO hgXc hgXs hgHc hgHs
  iintro ⟨HP, HX, HSG, HSD, Hrest, HD, HDT, HS, ⟨D3, D4, D5, D6, D7, D8, D9, D10⟩, ⟨O0, O1, O2, O3, O4⟩, ⟨vX, vSg, vSd, vXq, vHq, vA1, vA2, vH, vO, vXc, vXs, vHc, vHs⟩, ⟨D0, D1, D2, D26, D27, D28, D29, D30⟩, HW⟩
  ihave HDT' := (Entails.of_eq (show widleTP c (Vh m c main_arg3) = iprop(eP c winT (Vh m c main_arg3) ∗ (∃ f, eP c wslT f) ∗ dP c 25) from rfl)) $$ HDT
  icases HDT' with ⟨HWDT, HvT, D25⟩
  ihave HD' := (Entails.of_eq (widle_all c (Vh m c main_arg3))) $$ HD
  icases HD' with ⟨HWD, HvW, HC⟩
  ihave HC' := (Entails.of_eq (wcells c)) $$ HC
  icases HC' with ⟨D11, D12, D13, D14, D15, D16, D17, D18, D19, D20, D21, D22, D23, D24⟩
  ihave vWg := (vwg_join c) $$ HS
  ihave vWd := (vwd_join c) $$ [HvT HvW]
  · isplitl [HvT] <;> iassumption
  ihave HWG := (Entails.of_eq (wg_home c (Vh m c main_arg1))) $$ Hrest
  isplitr [HW]
  · isplitr [O0 O1 O2 O3 O4]
    · isplitl [vX vSg vSd vWg vWd vXq vHq vA1 vA2 vH vO vXc vXs vHc vHs]
      · skip
        isplitl [vX]; · iexact vX
        isplitl [vSg]; · iexact vSg
        isplitl [vSd]; · iexact vSd
        isplitl [vWg]; · iexact vWg
        isplitl [vWd]; · iexact vWd
        isplitl [vXq]; · iexact vXq
        isplitl [vHq]; · iexact vHq
        isplitl [vA1]; · iexact vA1
        isplitl [vA2]; · iexact vA2
        isplitl [vH]; · iexact vH
        isplitl [vO]; · iexact vO
        isplitl [vXc]; · iexact vXc
        isplitl [vXs]; · iexact vXs
        isplitl [vHc]; · iexact vHc
        iexact vHs
      isplitl [HP]; · iexact HP
      isplitl [D0 D1 D2 D26 D27 D28 D29 D30 D3 D4 D5 D6 D7 D8 D9 D10 D25 D11 D12 D13 D14 D15 D16 D17 D18 D19 D20 D21 D22 D23 D24]
      · skip
        isplitl [D0]; · iexact D0
        isplitl [D1]; · iexact D1
        isplitl [D2]; · iexact D2
        isplitl [D26]; · iexact D26
        isplitl [D27]; · iexact D27
        isplitl [D28]; · iexact D28
        isplitl [D29]; · iexact D29
        isplitl [D30]; · iexact D30
        isplitl [D3]; · iexact D3
        isplitl [D4]; · iexact D4
        isplitl [D5]; · iexact D5
        isplitl [D6]; · iexact D6
        isplitl [D7]; · iexact D7
        isplitl [D8]; · iexact D8
        isplitl [D9]; · iexact D9
        isplitl [D10]; · iexact D10
        isplitl [D25]; · iexact D25
        isplitl [D11]; · iexact D11
        isplitl [D12]; · iexact D12
        isplitl [D13]; · iexact D13
        isplitl [D14]; · iexact D14
        isplitl [D15]; · iexact D15
        isplitl [D16]; · iexact D16
        isplitl [D17]; · iexact D17
        isplitl [D18]; · iexact D18
        isplitl [D19]; · iexact D19
        isplitl [D20]; · iexact D20
        isplitl [D21]; · iexact D21
        isplitl [D22]; · iexact D22
        isplitl [D23]; · iexact D23
        iexact D24
      isplitl [HX]; · iexact HX
      isplitl [HWG]; · iexact HWG
      isplitl [HSG]; · iexact HSG
      isplitr [HSD]
      · irw [wd_all]
        isplitl [HWDT] <;> iassumption
      iexact HSD
    unfold Pipeline.routedSat
    iexists (upd5 m c gO gXc gXs gHc gHs)
    isplitr
    · ipureintro; exact hPG
    irw [routed0_eq, upd5_0, upd5_1, upd5_2, upd5_3, upd5_4]
    isplitl [O0]; · iexact O0
    isplitl [O1]; · iexact O1
    isplitl [O2]; · iexact O2
    isplitl [O3]; · iexact O3
    iexact O4
  iexact HW
end Ends

/-! ## The region -/

/-- The region's proof data: no windows; the invariant before the one point, and after it. -/
def dats (_ : Fin 1) (c : Dev nD) : Dat τ (Elt F) Unit ℕ (Pipeline.UD sig nD τ) ℕ cfg0 c where
  A w := w.elim0
  after w _ := w.elim0
  Φ t := if t.val = 0 then iprop(Pipeline.ΦD osem0 (cfg0.spec) H0 (Vh m) c ∗ Pipeline.routed R0 c (Vh m c))
    else iprop(Pipeline.ΦD osem0 (cfg0.spec) H0 (Vh m) c ∗ Pipeline.routedSat R0 c (PG m c))
  q _ := fullShare
  owed _ := 0

/-- The invariant before the one grid point. -/
theorem Phi_first (c : Dev nD) (t : Fin cfg0.N) : (dats m 0 c).Φ t.castSucc = iprop(Pipeline.ΦD osem0 (cfg0.spec) H0 (Vh m) c ∗ Pipeline.routed R0 c (Vh m c)) := by
  rw [fin_N0 t]; rfl
/-- The invariant after it: the results are those of the body's run. -/
theorem Phi_last (c : Dev nD) (t : Fin cfg0.N) : (dats m 0 c).Φ t.succ = iprop(Pipeline.ΦD osem0 (cfg0.spec) H0 (Vh m) c ∗ Pipeline.routedSat R0 c (PG m c)) := by
  rw [fin_N0 t]; rfl

/-- The body, from the invariant before its point to the one after. -/
theorem sound_body (c : Dev nD) (t : Fin cfg0.N) :
    iprop((dats m 0 c).Φ t.castSucc ∗ (dats m 0 c).owesAt () t.castSucc)
      ⊢ wp frame (wpE (defs₀ (F := F)) Variants.none (c : Thread nD τ) none) Set.univ (bodyG (F := F))
          (fun _ => iprop((dats m 0 c).Φ t.succ ∗ (dats m 0 c).owesAt () t.succ)) := by
  rw [Phi_first, Phi_last]
  unfold Dat.owesAt Pipeline.owesWithin
  rw [show (dats m 0 c).owed t.castSucc = 0 from rfl, show (dats m 0 c).owed t.succ = 0 from rfl]
  iintro ⟨HΦ, ⟨%W, -, HW⟩⟩
  ihave HE := (enter m c) $$ [HΦ HW]
  · isplitl [HΦ]; · iexact HΦ
    iexists W; iexact HW
  icases HE with ⟨HP, HE⟩
  iapply ((theRun m c).2 _)
  isplitl [HE]; · iexact HE
  iintro %fvX %fvSg %fvSd %fvHq %fvO %fvXc %fvXs %fvHc %fvHs %o0 %o1 %o2 %o3 %o4 HPOST
  ihave HL := (leave m c fvX fvSg fvSd fvHq fvO fvXc fvXs fvHc fvHs o0 o1 o2 o3 o4) $$ [HP HPOST]
  · isplitl [HP]; · iexact HP
    iexact HPOST
  icases HL with ⟨HΦ', ⟨%W', HW'⟩⟩
  isplitl [HΦ']; · iexact HΦ'
  iexists W'
  isplitr
  · ipureintro; exact fun _ _ => Or.inl trivial
  iexact HW'

/-- The body table's row is the body. -/
theorem defs₀_row (t : Fin cfg0.N) :
    defs₀ (F := F) .tc cfg0.body (cfg0.bodyArgs t (cfg0.slots t)) = bodyG (F := F) := by
  unfold defs₀; rw [Defs.onTc_tc]

/-- There are no windows, so a separating conjunction over them is empty. -/
theorem no_windows (Ψ : Fin cfg0.W → sProp 𝕄) : (BI.emp : sProp 𝕄) ⊢ bigSep Finset.univ Ψ := by
  rw [show (Finset.univ : Finset (Fin cfg0.W)) = ∅ from rfl, bigSep_empty]

/-- The body meets the region's obligation at the one grid point. -/
theorem body_obligation (c : Dev nD) : BodyObligation (dats (F := F) m 0 c) (defs₀ (F := F)) Variants.none () Set.univ := fun t => by
  rw [defs₀_row]
  refine triple_restated (sound_body m c t) rfl ?_ fun _ => ?_
  · iintro ⟨HΦ, HW, -⟩
    isplitl [HΦ] <;> iassumption
  · iintro ⟨HΦ, HW⟩
    isplitl [HΦ]; · iexact HΦ
    isplitl [HW]; · iexact HW
    iapply (no_windows _)
    iempintro

/-! ## The run -/

/-- What a run ends with: the arguments unchanged, the results those of the body's run, every counter at zero. -/
def EndPost (r : PUnit × MemSt nD τ sig (Elt F)) : Prop :=
  (∀ c : Dev nD, ∀ b ∈ Pipeline.restRefs sig (cfg0.spec) \ R0, r.2.mem ((c.tc : Thread nD τ).loc b) = Vh m c b)
  ∧ (∀ c : Dev nD, ∃ W : (b : Ref sig .tc) → Buf (Elt F) ((c.tc : Thread nD τ).loc b), PG m c W ∧ ∀ b ∈ R0, r.2.mem ((c.tc : Thread nD τ).loc b) = W b)
  ∧ r.2.sem = fun _ => 0

set_option backward.isDefEq.respectTransparency.types false in
theorem run_main : θ_run defs (onTc (τ := τ) (main (F := F))) (s₀ m ρ) (EndPost m) :=
  Cert.Sat.θ_run_frame_dmaRSat cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := Vh m) (hmain := hmain_ud m Variants.none) (hA := fun c w => w.elim0)
    (PG := fun c => PG m c) (hin := fun _ => .rfl) (hout := fun _ => .rfl)

/-- THE FRAME: the program runs to the end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0 (Finset.mem_sdiff.mpr ⟨Pipeline.mem_restRefs_of main_arg0 (by decide) (by decide), by decide⟩)).trans (V_main_arg0 m c),
      (h.1 c main_arg1 (Finset.mem_sdiff.mpr ⟨Pipeline.mem_restRefs_of main_arg1 (by decide) (by decide), by decide⟩)).trans (V_main_arg1 m c),
      (h.1 c main_arg2 (Finset.mem_sdiff.mpr ⟨Pipeline.mem_restRefs_of main_arg2 (by decide) (by decide), by decide⟩)).trans (V_main_arg2 m c),
      (h.1 c main_arg3 (Finset.mem_sdiff.mpr ⟨Pipeline.mem_restRefs_of main_arg3 (by decide) (by decide), by decide⟩)).trans (V_main_arg3 m c),
      (h.1 c main_arg4 (Finset.mem_sdiff.mpr ⟨Pipeline.mem_restRefs_of main_arg4 (by decide) (by decide), by decide⟩)).trans (V_main_arg4 m c)⟩, h.2.2⟩) (run_main m ρ)

end Cert.Kernel.Hand

end
-- ==== Proof.KI.Ring.lean ====
/-
  The rings of the kernel by name: block `b` of the first weight matrix (256 of its 8192 rows), slot `s` of the
  8-slot buffer the blocks are copied into and the slot's DMA cell; window `i` of the second weight matrix (256 of its
  3712 rows, the last window 128), the same window of its resident copy, and the window's DMA cell. Each printed slice is
  one of these (`@[sl_canon]`), at the literal offsets of the prologue and at the two counted loops' offsets, whose closed
  forms are decided over the loops' 32 and 14 trips.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

/-- The input in main memory. -/
abbrev mX : Memref sig .tc .hbm S8x8192 .bf16 := Memref.whole main_v0
/-- The first weights' codes in main memory. -/
abbrev mWg : Memref sig .tc .hbm S8192x7424 .fp8e4m3 := Memref.whole main_arg1
/-- The first weights' scales in main memory, 58 rows of 128. -/
abbrev mSg : Memref sig .tc .hbm S58x128 .f32 := Memref.whole main_v1
/-- The second weights' codes in main memory. -/
abbrev mWd : Memref sig .tc .hbm S3712x8192 .fp8e4m3 := Memref.whole main_arg3
/-- The second weights' scales in main memory. -/
abbrev mSd : Memref sig .tc .hbm S1x8192 .f32 := Memref.whole main_v2
/-- The output in main memory. -/
abbrev mO : Memref sig .tc .hbm S8x8192 .bf16 := Memref.whole main_v3_0
/-- The input's codes in main memory. -/
abbrev mXc : Memref sig .tc .hbm S8x8192 .fp8e4m3 := Memref.whole main_v3_1
/-- The input's scales in main memory. -/
abbrev mXs : Memref sig .tc .hbm S1x8 .f32 := Memref.whole main_v3_2
/-- The gated product's codes in main memory. -/
abbrev mHc : Memref sig .tc .hbm S8x3712 .fp8e4m3 := Memref.whole main_v3_3
/-- The gated product's scales in main memory. -/
abbrev mHs : Memref sig .tc .hbm S1x8 .f32 := Memref.whole main_v3_4
/-- The local copy of the input. -/
abbrev vX : Memref sig .tc .vmem S8x8192 .bf16 := Memref.whole cc0_scratch0
/-- The local copy of the first weights' scales. -/
abbrev vSg : Memref sig .tc .vmem S58x128 .f32 := Memref.whole cc0_scratch1
/-- The local copy of the second weights' scales. -/
abbrev vSd : Memref sig .tc .vmem S1x8192 .f32 := Memref.whole cc0_scratch2
/-- The ring of eight slots for blocks of the first weights. -/
abbrev vWg : Memref sig .tc .vmem S8x256x7424 .fp8e4m3 := Memref.whole cc0_scratch3
/-- The local copy of the second weights. -/
abbrev vWd : Memref sig .tc .vmem S3712x8192 .fp8e4m3 := Memref.whole cc0_scratch4
/-- The chunks of the input's codes. -/
abbrev vXq : Memref sig .tc .vmem S32x32x256 .fp8e4m3 := Memref.whole cc0_scratch5
/-- The chunks of the gated product's codes. -/
abbrev vHq : Memref sig .tc .vmem S15x32x256 .fp8e4m3 := Memref.whole cc0_scratch6
/-- The first product's accumulator. -/
abbrev vA1 : Memref sig .tc .vmem S8x7424 .f32 := Memref.whole cc0_scratch7
/-- The second product's accumulator. -/
abbrev vA2 : Memref sig .tc .vmem S8x8192 .f32 := Memref.whole cc0_scratch8
/-- The gated product. -/
abbrev vH : Memref sig .tc .vmem S8x3712 .f32 := Memref.whole cc0_scratch9
/-- The output before it is copied out. -/
abbrev vO : Memref sig .tc .vmem S8x8192 .bf16 := Memref.whole cc0_scratch10
/-- The input's codes before they are copied out. -/
abbrev vXc : Memref sig .tc .vmem S8x8192 .fp8e4m3 := Memref.whole cc0_scratch11
/-- The input's scales before they are copied out. -/
abbrev vXs : Memref sig .tc .vmem S1x8 .f32 := Memref.whole cc0_scratch12
/-- The gated product's codes before they are copied out. -/
abbrev vHc : Memref sig .tc .vmem S8x3712 .fp8e4m3 := Memref.whole cc0_scratch13
/-- The gated product's scales before they are copied out. -/
abbrev vHs : Memref sig .tc .vmem S1x8 .f32 := Memref.whole cc0_scratch14

/-! ## Blocks, slots, cells -/

/-- Where block `b` of the first weights begins. -/
abbrev blkOff (b : Fin 32) : Fin 2 → Nat := ![256 * b.val, 0]
/-- Every block lies within the first weights. -/
theorem blkOff_inb (b : Fin 32) : ∀ a, blkOff b a + S256x7424.size a ≤ S8192x7424.size a := by
  have := b.isLt; intro a; fin_cases a
  · show 256 * b.val + 256 ≤ 8192; omega
  · show 0 + 7424 ≤ 7424; omega
/-- Where slot `s` of the ring begins. -/
abbrev slotOff (s : Fin 8) : Fin 3 → Nat := ![s.val, 0, 0]
/-- Every slot lies within the ring. -/
theorem slotOff_inb (s : Fin 8) : ∀ a, slotOff s a + S1x256x7424.size a ≤ S8x256x7424.size a := by
  have := s.isLt; intro a; fin_cases a
  · show s.val + 1 ≤ 8; omega
  · show 0 + 256 ≤ 256; omega
  · show 0 + 7424 ≤ 7424; omega
/-- The position of slot `s`'s DMA cell. -/
abbrev cellOff (s : Fin 8) : Fin 1 → Nat := ![s.val]
/-- It lies within the array of cells. -/
theorem cellOff_inb (s : Fin 8) : ∀ a, cellOff s a + S1.size a ≤ S8.size a := by
  have := s.isLt; intro a; fin_cases a; show s.val + 1 ≤ 8; omega
/-- Where window `i` of the second weights begins. -/
abbrev winOff (i : Fin 14) : Fin 2 → Nat := ![256 * i.val, 0]
/-- Every window lies within the second weights. -/
theorem winOff_inb (i : Fin 14) : ∀ a, winOff i a + S256x8192.size a ≤ S3712x8192.size a := by
  have := i.isLt; intro a; fin_cases a
  · show 256 * i.val + 256 ≤ 3712; omega
  · show 0 + 8192 ≤ 8192; omega
/-- Where the last, shorter window begins. -/
abbrev tailOff : Fin 2 → Nat := ![3584, 0]
/-- The position of window `i`'s DMA cell. -/
abbrev wcellOff (i : Fin 15) : Fin 1 → Nat := ![i.val]
/-- It lies within the array of cells. -/
theorem wcellOff_inb (i : Fin 15) : ∀ a, wcellOff i a + S1.size a ≤ S15.size a := by
  have := i.isLt; intro a; fin_cases a; show i.val + 1 ≤ 15; omega

/-- Block `b` of the first weight matrix. -/
def blk (b : Fin 32) : Memref sig .tc .hbm S256x7424 .fp8e4m3 :=
  mWg.slice (Rect.unit (s := S8192x7424) (blkOff b) S256x7424.size (blkOff_inb b)) (fun _ => rfl)
/-- Slot `s` of the ring the blocks are copied into. -/
def slt (s : Fin 8) : Memref sig .tc .vmem S256x7424 .fp8e4m3 :=
  (vWg.slice (Rect.unit (s := S8x256x7424) (slotOff s) S1x256x7424.size (slotOff_inb s)) (fun _ => rfl)).squeeze S256x7424 squeezes_S1x256x7424_S256x7424
/-- Slot `s`'s DMA cell. -/
def cel (s : Fin 8) : DmaSems sig S_ := (cc0_scratch16.slice (Rect.unit (s := S8) (cellOff s) S1.size (cellOff_inb s))).squeeze S_ squeezes_S1_S_
/-- Window `i` of the second weight matrix, and of its resident copy; the last, shorter window of each. -/
def win (i : Fin 14) : Memref sig .tc .hbm S256x8192 .fp8e4m3 :=
  mWd.slice (Rect.unit (s := S3712x8192) (winOff i) S256x8192.size (winOff_inb i)) (fun _ => rfl)
/-- Window `i` of the local copy of the second weights. -/
def wsl (i : Fin 14) : Memref sig .tc .vmem S256x8192 .fp8e4m3 :=
  vWd.slice (Rect.unit (s := S3712x8192) (winOff i) S256x8192.size (winOff_inb i)) (fun _ => rfl)
/-- The last, shorter window of the second weights in main memory. -/
def winT : Memref sig .tc .hbm S128x8192 .fp8e4m3 :=
  mWd.slice (Rect.unit (s := S3712x8192) tailOff S128x8192.size inb_S3712x8192_S128x8192_3584_0) (fun _ => rfl)
/-- The last, shorter window of their local copy. -/
def wslT : Memref sig .tc .vmem S128x8192 .fp8e4m3 :=
  vWd.slice (Rect.unit (s := S3712x8192) tailOff S128x8192.size inb_S3712x8192_S128x8192_3584_0) (fun _ => rfl)
/-- Window `i`'s DMA cell (the shorter window's is cell 14). -/
def wcel (i : Fin 15) : DmaSems sig S_ := (cc0_scratch17.slice (Rect.unit (s := S15) (wcellOff i) S1.size (wcellOff_inb i))).squeeze S_ squeezes_S1_S_

instance (s : Fin 8) : ClosedOff (slotOff s) := ⟨slotOff s, rfl⟩
instance (b : Fin 32) : ClosedOff (blkOff b) := ⟨blkOff b, rfl⟩
instance (i : Fin 14) : ClosedOff (winOff i) := ⟨winOff i, rfl⟩

/-! ## The loops' offsets in closed form -/

/-- The first loop makes 32 trips. -/
theorem trips1 : k0_t1_loop.trips = 32 := by decide
/-- The second loop makes 14 trips. -/
theorem trips2 : k0_t2_loop.trips = 14 := by decide
/-- A trip of the first loop is below 32. -/
theorem lt1 (k : Fin k0_t1_loop.trips) : k.val < 32 := Nat.lt_of_lt_of_eq k.isLt trips1
/-- A trip of the second loop is below 14. -/
theorem lt2 (k : Fin k0_t2_loop.trips) : k.val < 14 := Nat.lt_of_lt_of_eq k.isLt trips2

/-- Trip `k` waits on the cell of its slot. -/
theorem off1_eq : ∀ k : Fin k0_t1_loop.trips, k0_off1 k = cellOff (Ring.sl 8 k.val) := by decide +kernel
/-- It waits for its slot. -/
theorem off2_eq : ∀ k : Fin k0_t1_loop.trips, k0_off2 k = slotOff (Ring.sl 8 k.val) := by decide +kernel
/-- What it waits for is block `k`. -/
theorem off3_eq : ∀ k : Fin k0_t1_loop.trips, k0_off3 k = blkOff (Ring.bk 32 k.val) := by decide +kernel
/-- It reads chunk `k` of the input's codes. -/
theorem off4_eq : ∀ k : Fin k0_t1_loop.trips, k0_off4 k = ![k.val, 0, 0] := by decide +kernel
/-- It reads its slot. -/
theorem off5_eq : ∀ k : Fin k0_t1_loop.trips, k0_off5 k = slotOff (Ring.sl 8 k.val) := by decide +kernel
/-- It starts another copy exactly when block `k + 8` exists. -/
theorem cond1_iff : ∀ k : Fin k0_t1_loop.trips, k0_cond1 k = 1#1 ↔ k.val + 8 < 32 := by decide +kernel
/-- That copy signals the cell of the same slot. -/
theorem off6_eq : ∀ k : Fin k0_t1_loop.trips, k0_off6 k = cellOff (Ring.sl 8 k.val) := by decide +kernel
/-- It lands in the same slot. -/
theorem off7_eq : ∀ k : Fin k0_t1_loop.trips, k0_off7 k = slotOff (Ring.sl 8 k.val) := by decide +kernel
/-- It brings block `k + 8`. -/
theorem off8_eq : ∀ k : Fin k0_t1_loop.trips, k.val + 8 < 32 → k0_off8 k = blkOff (Ring.bk 32 (k.val + 8)) := by decide +kernel
/-- Trip `k` of the second loop waits on window `k`'s cell. -/
theorem off9_eq : ∀ k : Fin k0_t2_loop.trips, k0_off9 k = wcellOff (Ring.bk 14 k.val).castSucc := by decide +kernel
/-- It waits for window `k`. -/
theorem off10_eq : ∀ k : Fin k0_t2_loop.trips, k0_off10 k = winOff (Ring.bk 14 k.val) := by decide +kernel
/-- It reads window `k`. -/
theorem off11_eq : ∀ k : Fin k0_t2_loop.trips, k0_off11 k = winOff (Ring.bk 14 k.val) := by decide +kernel
/-- It reads chunk `k` of the gated product's codes. -/
theorem off12_eq : ∀ k : Fin k0_t2_loop.trips, k0_off12 k = ![k.val, 0, 0] := by decide +kernel

instance (k : Fin k0_t1_loop.trips) : ClosedOff (k0_off2 k) := ⟨slotOff (Ring.sl 8 k.val), off2_eq k⟩
instance (k : Fin k0_t1_loop.trips) : ClosedOff (k0_off4 k) := ⟨![k.val, 0, 0], off4_eq k⟩
instance (k : Fin k0_t1_loop.trips) : ClosedOff (k0_off5 k) := ⟨slotOff (Ring.sl 8 k.val), off5_eq k⟩
instance (k : Fin k0_t2_loop.trips) : ClosedOff (k0_off11 k) := ⟨winOff (Ring.bk 14 k.val), off11_eq k⟩
instance (k : Fin k0_t2_loop.trips) : ClosedOff (k0_off12 k) := ⟨![k.val, 0, 0], off12_eq k⟩

/-! ## The printed slices by name -/

/-- A cell at a slot's position is that slot's cell. -/
theorem cel_congr {off : Fin 1 → Nat} {s : Fin 8} (e : off = cellOff s) (hh) :
    (cc0_scratch16.slice (Rect.unit (s := S8) off S1.size hh)).squeeze S_ squeezes_S1_S_ = cel s :=
  congrArg (fun A : DmaSems sig S1 => A.squeeze S_ squeezes_S1_S_) (SemArray.slice_unit_congr _ e _ _)
/-- A slice of the ring at a slot's offset is that slot. -/
theorem slt_congr {off : Fin 3 → Nat} {s : Fin 8} (e : off = slotOff s) (hh hs) :
    (vWg.slice (Rect.unit (s := S8x256x7424) off S1x256x7424.size hh) hs).squeeze S256x7424 squeezes_S1x256x7424_S256x7424 = slt s :=
  congrArg (fun M : Memref sig .tc .vmem S1x256x7424 .fp8e4m3 => M.squeeze S256x7424 squeezes_S1x256x7424_S256x7424) (Memref.slice_unit_congr _ e _ _ _ _)
/-- A slice of the first weights at a block's offset is that block. -/
theorem blk_congr {off : Fin 2 → Nat} {b : Fin 32} (e : off = blkOff b) (hh hs) :
    mWg.slice (Rect.unit (s := S8192x7424) off S256x7424.size hh) hs = blk b := Memref.slice_unit_congr _ e _ _ _ (fun _ => rfl)
/-- A slice of the second weights at a window's offset is that window. -/
theorem win_congr {off : Fin 2 → Nat} {i : Fin 14} (e : off = winOff i) (hh hs) :
    mWd.slice (Rect.unit (s := S3712x8192) off S256x8192.size hh) hs = win i := Memref.slice_unit_congr _ e _ _ _ (fun _ => rfl)
/-- The same of their local copy. -/
theorem wsl_congr {off : Fin 2 → Nat} {i : Fin 14} (e : off = winOff i) (hh hs) :
    vWd.slice (Rect.unit (s := S3712x8192) off S256x8192.size hh) hs = wsl i := Memref.slice_unit_congr _ e _ _ _ (fun _ => rfl)
/-- A cell at a window's position is that window's cell. -/
theorem wcel_congr {off : Fin 1 → Nat} {i : Fin 15} (e : off = wcellOff i) (hh) :
    (cc0_scratch17.slice (Rect.unit (s := S15) off S1.size hh)).squeeze S_ squeezes_S1_S_ = wcel i :=
  congrArg (fun A : DmaSems sig S1 => A.squeeze S_ squeezes_S1_S_) (SemArray.slice_unit_congr _ e _ _)

section
variable (k : Fin k0_t1_loop.trips)
@[sl_canon] theorem celW (hh) : (cc0_scratch16.slice (Rect.unit (s := S8) (k0_off1 k) S1.size hh)).squeeze S_ squeezes_S1_S_ = cel (Ring.sl 8 k.val) := cel_congr (off1_eq k) _
@[sl_canon] theorem celI (hh) : (cc0_scratch16.slice (Rect.unit (s := S8) (k0_off6 k) S1.size hh)).squeeze S_ squeezes_S1_S_ = cel (Ring.sl 8 k.val) := cel_congr (off6_eq k) _
@[sl_canon] theorem sltW (hh hs) : (vWg.slice (Rect.unit (s := S8x256x7424) (k0_off2 k) S1x256x7424.size hh) hs).squeeze S256x7424 squeezes_S1x256x7424_S256x7424 = slt (Ring.sl 8 k.val) := slt_congr (off2_eq k) _ _
@[sl_canon] theorem sltI (hh hs) : (vWg.slice (Rect.unit (s := S8x256x7424) (k0_off7 k) S1x256x7424.size hh) hs).squeeze S256x7424 squeezes_S1x256x7424_S256x7424 = slt (Ring.sl 8 k.val) := slt_congr (off7_eq k) _ _
@[sl_canon] theorem blkW (hh hs) : mWg.slice (Rect.unit (s := S8192x7424) (k0_off3 k) S256x7424.size hh) hs = blk (Ring.bk 32 k.val) := blk_congr (off3_eq k) _ _
@[sl_canon] theorem blkI (hk : k.val + 8 < 32) (hh hs) : mWg.slice (Rect.unit (s := S8192x7424) (k0_off8 k) S256x7424.size hh) hs = blk (Ring.bk 32 (k.val + 8)) := blk_congr (off8_eq k hk) _ _
end
section
variable (k : Fin k0_t2_loop.trips)
@[sl_canon] theorem wcelW (hh) : (cc0_scratch17.slice (Rect.unit (s := S15) (k0_off9 k) S1.size hh)).squeeze S_ squeezes_S1_S_ = wcel (Ring.bk 14 k.val).castSucc := wcel_congr (off9_eq k) _
@[sl_canon] theorem winW (hh hs) : mWd.slice (Rect.unit (s := S3712x8192) (k0_off10 k) S256x8192.size hh) hs = win (Ring.bk 14 k.val) := win_congr (off10_eq k) _ _
@[sl_canon] theorem wslW (hh hs) : vWd.slice (Rect.unit (s := S3712x8192) (k0_off10 k) S256x8192.size hh) hs = wsl (Ring.bk 14 k.val) := wsl_congr (off10_eq k) _ _
end

/-! The literal slices. -/

@[sl_canon] theorem celL0 (hh) : (cc0_scratch16.slice (Rect.unit (s := S8) ![0] S1.size hh)).squeeze S_ squeezes_S1_S_ = cel 0 := cel_congr (by decide) _
@[sl_canon] theorem sltL0 (hh hs) : (vWg.slice (Rect.unit (s := S8x256x7424) ![0, 0, 0] S1x256x7424.size hh) hs).squeeze S256x7424 squeezes_S1x256x7424_S256x7424 = slt 0 := slt_congr (by decide) _ _
@[sl_canon] theorem blkL0 (hh hs) : mWg.slice (Rect.unit (s := S8192x7424) ![0, 0] S256x7424.size hh) hs = blk 0 := blk_congr (by decide) _ _
@[sl_canon] theorem celL1 (hh) : (cc0_scratch16.slice (Rect.unit (s := S8) ![1] S1.size hh)).squeeze S_ squeezes_S1_S_ = cel 1 := cel_congr (by decide) _
@[sl_canon] theorem sltL1 (hh hs) : (vWg.slice (Rect.unit (s := S8x256x7424) ![1, 0, 0] S1x256x7424.size hh) hs).squeeze S256x7424 squeezes_S1x256x7424_S256x7424 = slt 1 := slt_congr (by decide) _ _
@[sl_canon] theorem blkL1 (hh hs) : mWg.slice (Rect.unit (s := S8192x7424) ![256, 0] S256x7424.size hh) hs = blk 1 := blk_congr (by decide) _ _
@[sl_canon] theorem celL2 (hh) : (cc0_scratch16.slice (Rect.unit (s := S8) ![2] S1.size hh)).squeeze S_ squeezes_S1_S_ = cel 2 := cel_congr (by decide) _
@[sl_canon] theorem sltL2 (hh hs) : (vWg.slice (Rect.unit (s := S8x256x7424) ![2, 0, 0] S1x256x7424.size hh) hs).squeeze S256x7424 squeezes_S1x256x7424_S256x7424 = slt 2 := slt_congr (by decide) _ _
@[sl_canon] theorem blkL2 (hh hs) : mWg.slice (Rect.unit (s := S8192x7424) ![512, 0] S256x7424.size hh) hs = blk 2 := blk_congr (by decide) _ _
@[sl_canon] theorem celL3 (hh) : (cc0_scratch16.slice (Rect.unit (s := S8) ![3] S1.size hh)).squeeze S_ squeezes_S1_S_ = cel 3 := cel_congr (by decide) _
@[sl_canon] theorem sltL3 (hh hs) : (vWg.slice (Rect.unit (s := S8x256x7424) ![3, 0, 0] S1x256x7424.size hh) hs).squeeze S256x7424 squeezes_S1x256x7424_S256x7424 = slt 3 := slt_congr (by decide) _ _
@[sl_canon] theorem blkL3 (hh hs) : mWg.slice (Rect.unit (s := S8192x7424) ![768, 0] S256x7424.size hh) hs = blk 3 := blk_congr (by decide) _ _
@[sl_canon] theorem celL4 (hh) : (cc0_scratch16.slice (Rect.unit (s := S8) ![4] S1.size hh)).squeeze S_ squeezes_S1_S_ = cel 4 := cel_congr (by decide) _
@[sl_canon] theorem sltL4 (hh hs) : (vWg.slice (Rect.unit (s := S8x256x7424) ![4, 0, 0] S1x256x7424.size hh) hs).squeeze S256x7424 squeezes_S1x256x7424_S256x7424 = slt 4 := slt_congr (by decide) _ _
@[sl_canon] theorem blkL4 (hh hs) : mWg.slice (Rect.unit (s := S8192x7424) ![1024, 0] S256x7424.size hh) hs = blk 4 := blk_congr (by decide) _ _
@[sl_canon] theorem celL5 (hh) : (cc0_scratch16.slice (Rect.unit (s := S8) ![5] S1.size hh)).squeeze S_ squeezes_S1_S_ = cel 5 := cel_congr (by decide) _
@[sl_canon] theorem sltL5 (hh hs) : (vWg.slice (Rect.unit (s := S8x256x7424) ![5, 0, 0] S1x256x7424.size hh) hs).squeeze S256x7424 squeezes_S1x256x7424_S256x7424 = slt 5 := slt_congr (by decide) _ _
@[sl_canon] theorem blkL5 (hh hs) : mWg.slice (Rect.unit (s := S8192x7424) ![1280, 0] S256x7424.size hh) hs = blk 5 := blk_congr (by decide) _ _
@[sl_canon] theorem celL6 (hh) : (cc0_scratch16.slice (Rect.unit (s := S8) ![6] S1.size hh)).squeeze S_ squeezes_S1_S_ = cel 6 := cel_congr (by decide) _
@[sl_canon] theorem sltL6 (hh hs) : (vWg.slice (Rect.unit (s := S8x256x7424) ![6, 0, 0] S1x256x7424.size hh) hs).squeeze S256x7424 squeezes_S1x256x7424_S256x7424 = slt 6 := slt_congr (by decide) _ _
@[sl_canon] theorem blkL6 (hh hs) : mWg.slice (Rect.unit (s := S8192x7424) ![1536, 0] S256x7424.size hh) hs = blk 6 := blk_congr (by decide) _ _
@[sl_canon] theorem celL7 (hh) : (cc0_scratch16.slice (Rect.unit (s := S8) ![7] S1.size hh)).squeeze S_ squeezes_S1_S_ = cel 7 := cel_congr (by decide) _
@[sl_canon] theorem sltL7 (hh hs) : (vWg.slice (Rect.unit (s := S8x256x7424) ![7, 0, 0] S1x256x7424.size hh) hs).squeeze S256x7424 squeezes_S1x256x7424_S256x7424 = slt 7 := slt_congr (by decide) _ _
@[sl_canon] theorem blkL7 (hh hs) : mWg.slice (Rect.unit (s := S8192x7424) ![1792, 0] S256x7424.size hh) hs = blk 7 := blk_congr (by decide) _ _
@[sl_canon] theorem wcelL0 (hh) : (cc0_scratch17.slice (Rect.unit (s := S15) ![0] S1.size hh)).squeeze S_ squeezes_S1_S_ = wcel 0 := wcel_congr (by decide) _
@[sl_canon] theorem winL0 (hh hs) : mWd.slice (Rect.unit (s := S3712x8192) ![0, 0] S256x8192.size hh) hs = win 0 := win_congr (by decide) _ _
@[sl_canon] theorem wslL0 (hh hs) : vWd.slice (Rect.unit (s := S3712x8192) ![0, 0] S256x8192.size hh) hs = wsl 0 := wsl_congr (by decide) _ _
@[sl_canon] theorem wcelL1 (hh) : (cc0_scratch17.slice (Rect.unit (s := S15) ![1] S1.size hh)).squeeze S_ squeezes_S1_S_ = wcel 1 := wcel_congr (by decide) _
@[sl_canon] theorem winL1 (hh hs) : mWd.slice (Rect.unit (s := S3712x8192) ![256, 0] S256x8192.size hh) hs = win 1 := win_congr (by decide) _ _
@[sl_canon] theorem wslL1 (hh hs) : vWd.slice (Rect.unit (s := S3712x8192) ![256, 0] S256x8192.size hh) hs = wsl 1 := wsl_congr (by decide) _ _
@[sl_canon] theorem wcelL2 (hh) : (cc0_scratch17.slice (Rect.unit (s := S15) ![2] S1.size hh)).squeeze S_ squeezes_S1_S_ = wcel 2 := wcel_congr (by decide) _
@[sl_canon] theorem winL2 (hh hs) : mWd.slice (Rect.unit (s := S3712x8192) ![512, 0] S256x8192.size hh) hs = win 2 := win_congr (by decide) _ _
@[sl_canon] theorem wslL2 (hh hs) : vWd.slice (Rect.unit (s := S3712x8192) ![512, 0] S256x8192.size hh) hs = wsl 2 := wsl_congr (by decide) _ _
@[sl_canon] theorem wcelL3 (hh) : (cc0_scratch17.slice (Rect.unit (s := S15) ![3] S1.size hh)).squeeze S_ squeezes_S1_S_ = wcel 3 := wcel_congr (by decide) _
@[sl_canon] theorem winL3 (hh hs) : mWd.slice (Rect.unit (s := S3712x8192) ![768, 0] S256x8192.size hh) hs = win 3 := win_congr (by decide) _ _
@[sl_canon] theorem wslL3 (hh hs) : vWd.slice (Rect.unit (s := S3712x8192) ![768, 0] S256x8192.size hh) hs = wsl 3 := wsl_congr (by decide) _ _
@[sl_canon] theorem wcelL4 (hh) : (cc0_scratch17.slice (Rect.unit (s := S15) ![4] S1.size hh)).squeeze S_ squeezes_S1_S_ = wcel 4 := wcel_congr (by decide) _
@[sl_canon] theorem winL4 (hh hs) : mWd.slice (Rect.unit (s := S3712x8192) ![1024, 0] S256x8192.size hh) hs = win 4 := win_congr (by decide) _ _
@[sl_canon] theorem wslL4 (hh hs) : vWd.slice (Rect.unit (s := S3712x8192) ![1024, 0] S256x8192.size hh) hs = wsl 4 := wsl_congr (by decide) _ _
@[sl_canon] theorem wcelL5 (hh) : (cc0_scratch17.slice (Rect.unit (s := S15) ![5] S1.size hh)).squeeze S_ squeezes_S1_S_ = wcel 5 := wcel_congr (by decide) _
@[sl_canon] theorem winL5 (hh hs) : mWd.slice (Rect.unit (s := S3712x8192) ![1280, 0] S256x8192.size hh) hs = win 5 := win_congr (by decide) _ _
@[sl_canon] theorem wslL5 (hh hs) : vWd.slice (Rect.unit (s := S3712x8192) ![1280, 0] S256x8192.size hh) hs = wsl 5 := wsl_congr (by decide) _ _
@[sl_canon] theorem wcelL6 (hh) : (cc0_scratch17.slice (Rect.unit (s := S15) ![6] S1.size hh)).squeeze S_ squeezes_S1_S_ = wcel 6 := wcel_congr (by decide) _
@[sl_canon] theorem winL6 (hh hs) : mWd.slice (Rect.unit (s := S3712x8192) ![1536, 0] S256x8192.size hh) hs = win 6 := win_congr (by decide) _ _
@[sl_canon] theorem wslL6 (hh hs) : vWd.slice (Rect.unit (s := S3712x8192) ![1536, 0] S256x8192.size hh) hs = wsl 6 := wsl_congr (by decide) _ _
@[sl_canon] theorem wcelL7 (hh) : (cc0_scratch17.slice (Rect.unit (s := S15) ![7] S1.size hh)).squeeze S_ squeezes_S1_S_ = wcel 7 := wcel_congr (by decide) _
@[sl_canon] theorem winL7 (hh hs) : mWd.slice (Rect.unit (s := S3712x8192) ![1792, 0] S256x8192.size hh) hs = win 7 := win_congr (by decide) _ _
@[sl_canon] theorem wslL7 (hh hs) : vWd.slice (Rect.unit (s := S3712x8192) ![1792, 0] S256x8192.size hh) hs = wsl 7 := wsl_congr (by decide) _ _
@[sl_canon] theorem wcelL8 (hh) : (cc0_scratch17.slice (Rect.unit (s := S15) ![8] S1.size hh)).squeeze S_ squeezes_S1_S_ = wcel 8 := wcel_congr (by decide) _
@[sl_canon] theorem winL8 (hh hs) : mWd.slice (Rect.unit (s := S3712x8192) ![2048, 0] S256x8192.size hh) hs = win 8 := win_congr (by decide) _ _
@[sl_canon] theorem wslL8 (hh hs) : vWd.slice (Rect.unit (s := S3712x8192) ![2048, 0] S256x8192.size hh) hs = wsl 8 := wsl_congr (by decide) _ _
@[sl_canon] theorem wcelL9 (hh) : (cc0_scratch17.slice (Rect.unit (s := S15) ![9] S1.size hh)).squeeze S_ squeezes_S1_S_ = wcel 9 := wcel_congr (by decide) _
@[sl_canon] theorem winL9 (hh hs) : mWd.slice (Rect.unit (s := S3712x8192) ![2304, 0] S256x8192.size hh) hs = win 9 := win_congr (by decide) _ _
@[sl_canon] theorem wslL9 (hh hs) : vWd.slice (Rect.unit (s := S3712x8192) ![2304, 0] S256x8192.size hh) hs = wsl 9 := wsl_congr (by decide) _ _
@[sl_canon] theorem wcelL10 (hh) : (cc0_scratch17.slice (Rect.unit (s := S15) ![10] S1.size hh)).squeeze S_ squeezes_S1_S_ = wcel 10 := wcel_congr (by decide) _
@[sl_canon] theorem winL10 (hh hs) : mWd.slice (Rect.unit (s := S3712x8192) ![2560, 0] S256x8192.size hh) hs = win 10 := win_congr (by decide) _ _
@[sl_canon] theorem wslL10 (hh hs) : vWd.slice (Rect.unit (s := S3712x8192) ![2560, 0] S256x8192.size hh) hs = wsl 10 := wsl_congr (by decide) _ _
@[sl_canon] theorem wcelL11 (hh) : (cc0_scratch17.slice (Rect.unit (s := S15) ![11] S1.size hh)).squeeze S_ squeezes_S1_S_ = wcel 11 := wcel_congr (by decide) _
@[sl_canon] theorem winL11 (hh hs) : mWd.slice (Rect.unit (s := S3712x8192) ![2816, 0] S256x8192.size hh) hs = win 11 := win_congr (by decide) _ _
@[sl_canon] theorem wslL11 (hh hs) : vWd.slice (Rect.unit (s := S3712x8192) ![2816, 0] S256x8192.size hh) hs = wsl 11 := wsl_congr (by decide) _ _
@[sl_canon] theorem wcelL12 (hh) : (cc0_scratch17.slice (Rect.unit (s := S15) ![12] S1.size hh)).squeeze S_ squeezes_S1_S_ = wcel 12 := wcel_congr (by decide) _
@[sl_canon] theorem winL12 (hh hs) : mWd.slice (Rect.unit (s := S3712x8192) ![3072, 0] S256x8192.size hh) hs = win 12 := win_congr (by decide) _ _
@[sl_canon] theorem wslL12 (hh hs) : vWd.slice (Rect.unit (s := S3712x8192) ![3072, 0] S256x8192.size hh) hs = wsl 12 := wsl_congr (by decide) _ _
@[sl_canon] theorem wcelL13 (hh) : (cc0_scratch17.slice (Rect.unit (s := S15) ![13] S1.size hh)).squeeze S_ squeezes_S1_S_ = wcel 13 := wcel_congr (by decide) _
@[sl_canon] theorem winL13 (hh hs) : mWd.slice (Rect.unit (s := S3712x8192) ![3328, 0] S256x8192.size hh) hs = win 13 := win_congr (by decide) _ _
@[sl_canon] theorem wslL13 (hh hs) : vWd.slice (Rect.unit (s := S3712x8192) ![3328, 0] S256x8192.size hh) hs = wsl 13 := wsl_congr (by decide) _ _
@[sl_canon] theorem wcelL14 (hh) : (cc0_scratch17.slice (Rect.unit (s := S15) ![14] S1.size hh)).squeeze S_ squeezes_S1_S_ = wcel 14 := wcel_congr (by decide) _
@[sl_canon] theorem winLT (hh hs) : mWd.slice (Rect.unit (s := S3712x8192) ![3584, 0] S128x8192.size hh) hs = winT := rfl
@[sl_canon] theorem wslLT (hh hs) : vWd.slice (Rect.unit (s := S3712x8192) ![3584, 0] S128x8192.size hh) hs = wslT := rfl

end Cert.KernelIdeal.Hand

end
-- ==== Proof.KI.Loop1.lean ====
/-
  The first counted loop: 32 trips, trip `k` waiting for block `k` of the first weight matrix in slot `k % 8`, adding
  the product of the `k`-th chunk of the codes with it to the accumulator, and then copying block `k + 8` into the slot;
  trip 24 starts instead the 15 copies of the second weight matrix.
-/
module

public import proofs.«01_k».proof.Proof.KI.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The pieces -/

/-- A buffer's contents, and the buffer held whole at them. -/
abbrev MBuf (c : Dev nD) {sp : Space} {S : Shape} {e : EltTy} (M : Memref sig .tc sp S e) : Type := Buf (Elt F) (M.view.loc (c : Thread nD τ))
/-- The whole of a buffer, held at contents `f`. -/
abbrev hP (c : Dev nD) {sp : Space} {S : Shape} {e : EltTy} (M : Memref sig .tc sp S e) (f : MBuf (F := F) c M) : sProp 𝕄 :=
  M.view.loc (c : Thread nD τ) ↦{fullShare} f

section Pieces
variable (c : Dev nD) (WG : MBuf (F := F) c mWg) (WD : MBuf (F := F) c mWd)

/-- A DMA cell at zero. -/
abbrev zP (s : DmaSems sig S_) : sProp 𝕄 := semVal ((c : Thread nD τ), SemLoc.dma s.sem) 0
/-- A view's elements held at contents `f` of its buffer. -/
abbrev eP {sp : Space} {S : Shape} {e : EltTy} (M : Memref sig .tc sp S e) (f : MBuf (F := F) c M) : sProp 𝕄 :=
  M.view.loc (c : Thread nD τ) ↦[M.view.set]{fullShare} f
/-- What block `b`'s copy leaves in slot `s`, window `i`'s copy in window `i`. -/
abbrev landed (s : Fin 8) (b : Fin 32) (f : MBuf (F := F) c (slt s)) : MBuf (F := F) c (slt s) :=
  (slt s).view.writes (Elt F) f [⟨Rect.whole S256x7424, ReadAs.same.apply ((blk b).view.read (Elt F) WG)⟩]
/-- What window `i` of the local copy holds once its copy has landed. -/
abbrev wlanded (i : Fin 14) (f : MBuf (F := F) c (wsl i)) : MBuf (F := F) c (wsl i) :=
  (wsl i).view.writes (Elt F) f [⟨Rect.whole S256x8192, ReadAs.same.apply ((win i).view.read (Elt F) WD)⟩]
/-- What the shorter window holds once its copy has landed. -/
abbrev wlandedT (f : MBuf (F := F) c wslT) : MBuf (F := F) c wslT :=
  wslT.view.writes (Elt F) f [⟨Rect.whole S128x8192, ReadAs.same.apply (winT.view.read (Elt F) WD)⟩]
/-- The copies in flight. -/
abbrev flightP (s : Fin 8) (b : Fin 32) (f : MBuf (F := F) c (slt s)) : sProp 𝕄 :=
  Transfers.Flight countersEmb (c : Thread nD τ) (SemLoc.dma (cel s).sem) () 59392 iprop(eP c (slt s) (landed c WG s b f) ∗ eP c (blk b) WG)
/-- The copy of window `i` in flight. -/
abbrev wflightP (i : Fin 14) (f : MBuf (F := F) c (wsl i)) : sProp 𝕄 :=
  Transfers.Flight countersEmb (c : Thread nD τ) (SemLoc.dma (wcel i.castSucc).sem) () 65536 iprop(eP c (wsl i) (wlanded c WD i f) ∗ eP c (win i) WD)
/-- The copy of the shorter window in flight. -/
abbrev wflightTP (f : MBuf (F := F) c wslT) : sProp 𝕄 :=
  Transfers.Flight countersEmb (c : Thread nD τ) (SemLoc.dma (wcel 14).sem) () 32768 iprop(eP c wslT (wlandedT c WD f) ∗ eP c winT WD)

/-- Trip `k`'s slot is `k` modulo 8. -/
theorem slv (k : ℕ) : (Ring.sl 8 k).val = k % 8 := rfl
/-- A copy into a slot that an earlier copy has filled. -/
theorem flightP_after (s : Fin 8) (b b' : Fin 32) :
    flightP c WG s b' (landed c WG s b (slt s).view.junk)
      = Transfers.Flight countersEmb (c : Thread nD τ) (SemLoc.dma (cel s).sem) () 59392
          iprop(((slt s).view.loc (c : Thread nD τ) ↦[(slt s).view.set]{fullShare}
                  (slt s).view.writes (Elt F) (slt s).view.junk [⟨Rect.whole S256x7424, ReadAs.same.apply ((blk b').view.read (Elt F) WG)⟩,
                    ⟨Rect.whole S256x7424, ReadAs.same.apply ((blk b).view.read (Elt F) WG)⟩])
                ∗ eP c (blk b') WG) := by
  simp only [flightP, landed, eP, View.writes]

/-- The next block slot `s` holds before trip `k`. -/
def nxt (k : ℕ) (s : Fin 8) : ℕ := k + (s.val + 8 - k % 8) % 8
/-- At trip `k` the block due in trip `k`'s slot is block `k`. -/
theorem nxt_sl (k : ℕ) : nxt k (Ring.sl 8 k) = k := by
  have h : (Ring.sl 8 k).val = k % 8 := slv k
  unfold nxt; rw [h]; omega
/-- After it, block `k + 8` is due there. -/
theorem nxt_succ_sl (k : ℕ) : nxt (k + 1) (Ring.sl 8 k) = k + 8 := by
  have h : (Ring.sl 8 k).val = k % 8 := slv k
  unfold nxt; rw [h]; omega
/-- In every other slot the block due does not change. -/
theorem nxt_succ {k : ℕ} {s : Fin 8} (h : s ≠ Ring.sl 8 k) : nxt (k + 1) s = nxt k s := by
  have h' : s.val ≠ k % 8 := fun e => h (Fin.ext (e.trans (slv k).symm))
  have := s.isLt
  unfold nxt; omega

/-- Slot `s` when the next block it is to hold is block `p`: in flight with it, or free past the last block. -/
def roleP (s : Fin 8) (p : ℕ) : sProp 𝕄 :=
  if p < 32 then iprop(∃ f, flightP c WG s (Ring.bk 32 p) f) else iprop((∃ f, eP c (slt s) f) ∗ zP c (cel s))
/-- A slot whose due block exists has that block's copy in flight. -/
theorem roleP_fly {s : Fin 8} {p : ℕ} (h : p < 32) : roleP c WG s p = iprop(∃ f, flightP c WG s (Ring.bk 32 p) f) := if_pos h
/-- A slot whose due block does not exist is free, its cell at zero. -/
theorem roleP_free {s : Fin 8} {p : ℕ} (h : ¬ p < 32) : roleP c WG s p = iprop((∃ f, eP c (slt s) f) ∗ zP c (cel s)) := if_neg h
/-- The slots before trip `k`: slot `k % 8` beside the rest; -/
theorem roles_here (k : ℕ) :
    bigSep Finset.univ (fun s => roleP c WG s (nxt k s))
      = iprop(roleP c WG (Ring.sl 8 k) k ∗ bigSep (Finset.univ.erase (Ring.sl 8 k)) (fun s => roleP c WG s (nxt k s))) := by
  conv_lhs => rw [← Finset.insert_erase (Finset.mem_univ (Ring.sl 8 k)), bigSep_insert (Finset.notMem_erase _ _), nxt_sl]
  rfl
/-- before the next trip: the slot with block `k + 8` next, beside the same rest. -/
theorem roles_next (k : ℕ) :
    bigSep Finset.univ (fun s => roleP c WG s (nxt (k + 1) s))
      = iprop(roleP c WG (Ring.sl 8 k) (k + 8) ∗ bigSep (Finset.univ.erase (Ring.sl 8 k)) (fun s => roleP c WG s (nxt k s))) := by
  conv_lhs => rw [← Finset.insert_erase (Finset.mem_univ (Ring.sl 8 k)), bigSep_insert (Finset.notMem_erase _ _), nxt_succ_sl]
  congr 1
  exact bigSep_congr fun s hs => by rw [nxt_succ (Finset.ne_of_mem_erase hs)]

/-- Window `i` before its copy: both ends held, its cell at zero; and the same for the shorter window. -/
def widleP (i : Fin 14) : sProp 𝕄 := iprop(eP c (win i) WD ∗ (∃ f, eP c (wsl i) f) ∗ zP c (wcel i.castSucc))
/-- The shorter window, its place in the local copy, and its cell at zero. -/
def widleTP : sProp 𝕄 := iprop(eP c winT WD ∗ (∃ f, eP c wslT f) ∗ zP c (wcel 14))
/-- Window `i`'s copy in flight. -/
def wflyP (i : Fin 14) : sProp 𝕄 := iprop(∃ f, wflightP c WD i f)
/-- The shorter window's copy in flight, at some earlier contents of its place. -/
def wflyTP : sProp 𝕄 := iprop(∃ f, wflightTP c WD f)
/-- The second weight matrix before trip `k` of the first loop. -/
def wdP (k : ℕ) : sProp 𝕄 :=
  if k ≤ 24 then iprop(bigSep Finset.univ (widleP c WD) ∗ widleTP c WD) else iprop(bigSep Finset.univ (wflyP c WD) ∗ wflyTP c WD)
/-- Up to trip 24 the second weights' windows are idle. -/
theorem wdP_idle {k : ℕ} (h : k ≤ 24) : wdP c WD k = iprop(bigSep Finset.univ (widleP c WD) ∗ widleTP c WD) := if_pos h
/-- After trip 24 all of their copies are in flight. -/
theorem wdP_fly {k : ℕ} (h : ¬ k ≤ 24) : wdP c WD k = iprop(bigSep Finset.univ (wflyP c WD) ∗ wflyTP c WD) := if_neg h

/-- A separating conjunction over fourteen, written out. -/
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) Φ

end Pieces

section Trip
variable (c : Dev nD) (WG : MBuf (F := F) c mWg) (WD : MBuf (F := F) c mWd) (XQ : MBuf (F := F) c vXq)

/-- The resources before trip `k`, the accumulator at `A`. -/
def res1 (k : ℕ) (A : MBuf (F := F) c vA1) : sProp 𝕄 :=
  iprop(hP c vA1 A ∗ hP c vXq XQ ∗ (∃ W, owes (c : Thread nD τ) 0 W) ∗ bigSep (Ring.homeSet (NB := 32) 8 k) (fun b => eP c (blk b) WG)
    ∗ bigSep Finset.univ (fun s => roleP c WG s (nxt k s)) ∗ wdP c WD k)

variable (v141 : FVec F S8x1 .f32) (v393 : FVec F S1x8 .f32)

/-- One trip of the first loop. -/
abbrev trip1 (k : Fin k0_t1_loop.trips) : Prog (TpuEff nD τ sig (Elt F) Λ₀ .tc) Unit :=
  k0_t1_body (F := F) mX (Memref.isWhole_whole _) mWg (Memref.isWhole_whole _) mSg (Memref.isWhole_whole _) mWd (Memref.isWhole_whole _) mSd (Memref.isWhole_whole _)
    mO (Memref.isWhole_whole _) mXc (Memref.isWhole_whole _) mXs (Memref.isWhole_whole _) mHc (Memref.isWhole_whole _) mHs (Memref.isWhole_whole _)
    vX (Memref.isWhole_whole _) vSg (Memref.isWhole_whole _) vSd (Memref.isWhole_whole _) vWg (Memref.isWhole_whole _) vWd (Memref.isWhole_whole _)
    vXq (Memref.isWhole_whole _) vHq (Memref.isWhole_whole _) vA1 (Memref.isWhole_whole _) vA2 (Memref.isWhole_whole _) vH (Memref.isWhole_whole _)
    vO (Memref.isWhole_whole _) vXc (Memref.isWhole_whole _) vXs (Memref.isWhole_whole _) vHc (Memref.isWhole_whole _) vHs (Memref.isWhole_whole _)
    cc0_scratch15 cc0_scratch16 cc0_scratch17 cc0_scratch18 v141 v393 k ()

/-- Chunk `k` of the codes as trip `k` reads it, block `b` as it reads it from its slot. -/
abbrev R8 : Rect S8x7424 := Rect.unit (s := S8x7424) ![0, 0] S8x7424.size inb_S8x7424_S8x7424_0_0
/-- The blocks at home before trip `k`: block `k + 8` apart from the rest. -/
theorem homes_here (k : ℕ) (hk : k + 8 < 32) :
    bigSep (Ring.homeSet (NB := 32) 8 k) (fun b => eP c (blk b) WG)
      = iprop(eP c (blk (Ring.bk 32 (k + 8))) WG ∗ bigSep ((Ring.homeSet (NB := 32) 8 k).erase (Ring.bk 32 (k + 8))) (fun b => eP c (blk b) WG)) := by
  conv_lhs => rw [Ring.homeSet_out 8 k hk, bigSep_insert (Ring.bkL_not_mem_erase 8 k)]
  rfl
/-- The blocks at home after trip `k`: block `k` apart from the rest. -/
theorem homes_next (k : ℕ) (hk : k + 8 < 32) :
    bigSep (Ring.homeSet (NB := 32) 8 (k + 1)) (fun b => eP c (blk b) WG)
      = iprop(eP c (blk (Ring.bk 32 k)) WG ∗ bigSep ((Ring.homeSet (NB := 32) 8 k).erase (Ring.bk 32 (k + 8))) (fun b => eP c (blk b) WG)) := by
  conv_lhs => rw [Ring.homeSet_succ 8 k hk, bigSep_insert (Ring.bk_not_mem_erase 8 k (by omega) (by decide))]
  rfl
/-- The same for the last eight trips, which take no block. -/
theorem homes_tail (k : ℕ) (hk : 32 ≤ k + 8) (h : k < 32) :
    bigSep (Ring.homeSet (NB := 32) 8 (k + 1)) (fun b => eP c (blk b) WG)
      = iprop(eP c (blk (Ring.bk 32 k)) WG ∗ bigSep (Ring.homeSet (NB := 32) 8 k) (fun b => eP c (blk b) WG)) := by
  conv_lhs => rw [Ring.homeSet_succ_tail 8 k hk h, bigSep_insert (Ring.bk_not_mem_homeSet 8 k h (by decide))]
  rfl

/-- Trips other than 24 do not start the second weights' copies. -/
theorem cond2_false : ∀ k : Fin k0_t1_loop.trips, k.val ≠ 24 →
    ¬ Scalar.cmpi .ne (Scalar.extui (Scalar.cmpi .eq (Scalar.addi (Scalar.addi 0#32 (Scalar.muli (Scf.iv 0#32 1#32 k.val) 1#32)) 8#32) 32#32) : BitVec 32) 0#32 = 1#1 := by
  decide +kernel
/-- Trip 24 does. -/
theorem cond2_true : ∀ k : Fin k0_t1_loop.trips, k.val = 24 →
    Scalar.cmpi .ne (Scalar.extui (Scalar.cmpi .eq (Scalar.addi (Scalar.addi 0#32 (Scalar.muli (Scf.iv 0#32 1#32 k.val) 1#32)) 8#32) 32#32) : BitVec 32) 0#32 = 1#1 := by
  decide +kernel

/-- Block `k` as trip `k` reads it, from the slot its copy landed in. -/
abbrev wrd1 (k : Fin k0_t1_loop.trips) : Vec F S1x256x7424 .fp8e4m3 :=
  View.readAt (Elt F) vWg.view (Rect.unit (s := S8x256x7424) (k0_off5 k) S1x256x7424.size (k0_off5_inb k)).toLoadRect (landed c WG (Ring.sl 8 k.val) (Ring.bk 32 k.val) (slt (Ring.sl 8 k.val)).view.junk)
/-- Chunk `k` of the codes as trip `k` reads it. -/
abbrev xrd1 (k : Fin k0_t1_loop.trips) : Vec F S1x32x256 .fp8e4m3 :=
  View.readAt (Elt F) vXq.view (Rect.unit (s := S32x32x256) (k0_off4 k) S1x32x256.size (k0_off4_inb k)).toLoadRect XQ
/-- The accumulator after trip `k` from `A` before it. -/
abbrev upd1 (k : Fin k0_t1_loop.trips) (A : MBuf (F := F) c vA1) : MBuf (F := F) c vA1 :=
  vA1.view.writes (Elt F) A [⟨R8, k0_pay53 (View.readAt (Elt F) vA1.view R8.toLoadRect A) (xrd1 c XQ k) (wrd1 c WG k)⟩]

/-- A trip before 24: it waits for its block, adds the product, and starts the copy of block `k + 8`. -/
theorem tripA (k : Fin k0_t1_loop.trips) (hk : k.val + 8 < 32) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  have hk32 : k.val < 32 := by omega
  have h1 : k0_cond1 k = 1#1 := (cond1_iff k).mpr hk
  have h2 := cond2_false k (by omega)
  unfold res1
  rw [homes_here c WG k.val hk, homes_next c WG k.val hk, roles_here, roles_next, roleP_fly c WG hk32, roleP_fly c WG hk,
    wdP_idle c WD (show k.val ≤ 24 by omega), wdP_idle c WD (show k.val + 1 ≤ 24 by omega)]
  iintro ⟨HA, HX, ⟨%W, HW⟩, ⟨Hg, Hrest⟩, ⟨⟨%f0, HF0⟩, Hroles⟩, Hwd⟩
  dsimp only [trip1]
  sl_unfold [k0_t1_body]
  sl_exec
  sl_step
  isplitl [HA]; · iexact HA
  isplitl [HX]; · iexact HX
  isplitl [HW]; · iexists _; iexact HW
  isplitl [HF0_src Hrest]
  · isplitl [HF0_src]; · iexact HF0_src
    iexact Hrest
  isplitl [HF0 Hroles]
  · isplitl [HF0]
    · iexists (landed c WG (Ring.sl 8 k.val) (Ring.bk 32 k.val) (slt (Ring.sl 8 k.val)).view.junk)
      irw [flightP_after]
      iexact HF0
    iexact Hroles
  iexact Hwd

/-- A trip after 24: it waits for its block and adds the product. -/
theorem tripC (k : Fin k0_t1_loop.trips) (hk : 24 < k.val) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  have hk32 : k.val < 32 := lt1 k
  have h1 : ¬ k0_cond1 k = 1#1 := fun h => by have := (cond1_iff k).mp h; omega
  have h2 := cond2_false k (by omega)
  unfold res1
  rw [homes_tail c WG k.val (by omega) hk32, roles_here, roles_next, roleP_fly c WG hk32, roleP_free c WG (show ¬ k.val + 8 < 32 by omega),
    wdP_fly c WD (show ¬ k.val ≤ 24 by omega), wdP_fly c WD (show ¬ k.val + 1 ≤ 24 by omega)]
  iintro ⟨HA, HX, ⟨%W, HW⟩, Hrest, ⟨⟨%f0, HF0⟩, Hroles⟩, Hwd⟩
  dsimp only [trip1]
  sl_unfold [k0_t1_body]
  sl_exec
  sl_step
  isplitl [HA]; · iexact HA
  isplitl [HX]; · iexact HX
  isplitl [HW]; · iexists _; iexact HW
  isplitl [HF0_src Hrest]
  · isplitl [HF0_src]; · iexact HF0_src
    iexact Hrest
  isplitl [HF0_dst HF0 Hroles]
  · isplitl [HF0_dst HF0]
    · isplitl [HF0_dst]; · iexists _; iexact HF0_dst
      iexact HF0
    iexact Hroles
  iexact Hwd

/-- Trip 24: it waits for its block, adds the product, and starts the copies of the second weights. -/
theorem tripB (k : Fin k0_t1_loop.trips) (hk : k.val = 24) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  have hk32 : k.val < 32 := by omega
  have h1 : ¬ k0_cond1 k = 1#1 := fun h => by have := (cond1_iff k).mp h; omega
  have h2 := cond2_true k hk
  unfold res1
  rw [homes_tail c WG k.val (by omega) hk32, roles_here, roles_next, roleP_fly c WG hk32, roleP_free c WG (show ¬ k.val + 8 < 32 by omega),
    wdP_idle c WD (show k.val ≤ 24 by omega), wdP_fly c WD (show ¬ k.val + 1 ≤ 24 by omega), bigSep_fin14, bigSep_fin14]
  unfold widleP widleTP wflyP wflyTP
  iintro ⟨HA, HX, ⟨%W, HW⟩, Hrest, ⟨⟨%f0, HF0⟩, Hroles⟩,
    ⟨⟨S0, ⟨%d0, D0⟩, C0⟩, ⟨S1, ⟨%d1, D1⟩, C1⟩, ⟨S2, ⟨%d2, D2⟩, C2⟩, ⟨S3, ⟨%d3, D3⟩, C3⟩, ⟨S4, ⟨%d4, D4⟩, C4⟩,
      ⟨S5, ⟨%d5, D5⟩, C5⟩, ⟨S6, ⟨%d6, D6⟩, C6⟩, ⟨S7, ⟨%d7, D7⟩, C7⟩, ⟨S8, ⟨%d8, D8⟩, C8⟩, ⟨S9, ⟨%d9, D9⟩, C9⟩,
      ⟨S10, ⟨%d10, D10⟩, C10⟩, ⟨S11, ⟨%d11, D11⟩, C11⟩, ⟨S12, ⟨%d12, D12⟩, C12⟩, ⟨S13, ⟨%d13, D13⟩, C13⟩⟩, ⟨S14, ⟨%d14, D14⟩, C14⟩⟩
  dsimp only [trip1]
  sl_unfold [k0_t1_body]
  sl_exec
  sl_step
  isplitl [HA]; · iexact HA
  isplitl [HX]; · iexact HX
  isplitl [HW]; · iexists _; iexact HW
  isplitl [HF0_src Hrest]
  · isplitl [HF0_src]; · iexact HF0_src
    iexact Hrest
  isplitl [HF0_dst HF0 Hroles]
  · isplitl [HF0_dst HF0]
    · isplitl [HF0_dst]; · iexists _; iexact HF0_dst
      iexact HF0
    iexact Hroles
  isplitr [C14]
  · isplitl [C0]; · iexists d0; iexact C0
    isplitl [C1]; · iexists d1; iexact C1
    isplitl [C2]; · iexists d2; iexact C2
    isplitl [C3]; · iexists d3; iexact C3
    isplitl [C4]; · iexists d4; iexact C4
    isplitl [C5]; · iexists d5; iexact C5
    isplitl [C6]; · iexists d6; iexact C6
    isplitl [C7]; · iexists d7; iexact C7
    isplitl [C8]; · iexists d8; iexact C8
    isplitl [C9]; · iexists d9; iexact C9
    isplitl [C10]; · iexists d10; iexact C10
    isplitl [C11]; · iexists d11; iexact C11
    isplitl [C12]; · iexists d12; iexact C12
    iexists d13; iexact C13
  iexists d14; iexact C14

/-- One trip, whichever. -/
theorem trip1_run (k : Fin k0_t1_loop.trips) (A : MBuf (F := F) c vA1) :
    res1 c WG WD XQ k A ⊢ wp frame (wpE (defs₀ (F := F)) Variants.none (c : Thread nD τ) none) Set.univ (trip1 v141 v393 k)
        (fun _ => res1 c WG WD XQ (k.val + 1) (upd1 c WG XQ k A)) := by
  rcases Nat.lt_trichotomy k.val 24 with h | h | h
  · exact tripA c WG WD XQ v141 v393 k (by omega) A
  · exact tripB c WG WD XQ v141 v393 k h A
  · exact tripC c WG WD XQ v141 v393 k h A

/-- The accumulator before trip `k`, from `A0` at the loop's entry. -/
def acc1 (A0 : MBuf (F := F) c vA1) : ℕ → MBuf (F := F) c vA1
  | 0 => A0
  | k + 1 => if h : k < k0_t1_loop.trips then upd1 c WG XQ ⟨k, h⟩ (acc1 A0 k) else acc1 A0 k
/-- The accumulator after trip `k` is the one before it with the chunk's product added. -/
theorem acc1_succ (A0 : MBuf (F := F) c vA1) (k : Fin k0_t1_loop.trips) :
    acc1 c WG XQ A0 (k.val + 1) = upd1 c WG XQ k (acc1 c WG XQ A0 k.val) := by rw [acc1, dif_pos k.isLt]

/-- The loop's invariant before trip `k`. -/
def inv1 (A0 : MBuf (F := F) c vA1) (k : ℕ) (_ : Unit) : sProp 𝕄 := res1 c WG WD XQ k (acc1 c WG XQ A0 k)
/-- One trip keeps the first loop's invariant. -/
theorem inv1_step (A0 : MBuf (F := F) c vA1) (k : Fin k0_t1_loop.trips) (u : Unit) :
    inv1 c WG WD XQ A0 k u ⊢ wp frame (wpE (defs₀ (F := F)) Variants.none (c : Thread nD τ) none) Set.univ (trip1 v141 v393 k)
        (inv1 c WG WD XQ A0 (k.val + 1)) := by
  have h := trip1_run c WG WD XQ v141 v393 k (acc1 c WG XQ A0 k.val)
  rw [← acc1_succ] at h; exact h

end Trip
end Cert.KernelIdeal.Hand
end
-- ==== Proof.KI.Loop2.lean ====
/-
  The second counted loop: 14 trips, trip `k` waiting for window `k` of the second weight matrix and adding the product
  of the `k`-th chunk of the hidden codes with it to the second accumulator.
-/
module

public import proofs.«01_k».proof.Proof.KI.Loop1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip2
variable (c : Dev nD) (WD : MBuf (F := F) c mWd) (HQ : MBuf (F := F) c vHq)

/-- Window `i` before trip `k`: landed and its cell back at zero, or its copy still in flight. -/
def role2 (k : ℕ) (i : Fin 14) : sProp 𝕄 := if i.val < k then widleP c WD i else wflyP c WD i
/-- A window not yet awaited is in flight. -/
theorem role2_fly {k : ℕ} {i : Fin 14} (h : ¬ i.val < k) : role2 c WD k i = wflyP c WD i := if_neg h
/-- A window already awaited is idle. -/
theorem role2_idle {k : ℕ} {i : Fin 14} (h : i.val < k) : role2 c WD k i = widleP c WD i := if_pos h
/-- Before the second loop all fourteen windows are in flight. -/
theorem roles2_zero : bigSep Finset.univ (role2 c WD 0) = bigSep Finset.univ (wflyP c WD) :=
  bigSep_congr fun i _ => role2_fly c WD (Nat.not_lt_zero _)
/-- After it all fourteen are idle. -/
theorem roles2_last : bigSep Finset.univ (role2 c WD 14) = bigSep Finset.univ (widleP c WD) :=
  bigSep_congr fun i _ => role2_idle c WD i.isLt
/-- Before trip `k`: window `k` in flight, apart from the rest. -/
theorem roles2_here (k : ℕ) (hk : k < 14) :
    bigSep Finset.univ (role2 c WD k)
      = iprop(wflyP c WD (Ring.bk 14 k) ∗ bigSep (Finset.univ.erase (Ring.bk 14 k)) (role2 c WD k)) := by
  conv_lhs => rw [← Finset.insert_erase (Finset.mem_univ (Ring.bk 14 k)), bigSep_insert (Finset.notMem_erase _ _),
    role2_fly c WD (show ¬ (Ring.bk 14 k).val < k by rw [Ring.bk_val hk]; omega)]
  rfl
/-- After trip `k`: window `k` idle, apart from the rest. -/
theorem roles2_next (k : ℕ) (hk : k < 14) :
    bigSep Finset.univ (role2 c WD (k + 1))
      = iprop(widleP c WD (Ring.bk 14 k) ∗ bigSep (Finset.univ.erase (Ring.bk 14 k)) (role2 c WD k)) := by
  conv_lhs => rw [← Finset.insert_erase (Finset.mem_univ (Ring.bk 14 k)), bigSep_insert (Finset.notMem_erase _ _),
    role2_idle c WD (show (Ring.bk 14 k).val < k + 1 by rw [Ring.bk_val hk]; omega)]
  congr 1
  refine bigSep_congr fun i hi => ?_
  have h : i.val ≠ k := fun e => Finset.ne_of_mem_erase hi (Fin.ext (by rw [Ring.bk_val hk]; exact e))
  unfold role2
  by_cases h' : i.val < k
  · rw [if_pos h', if_pos (by omega)]
  · rw [if_neg h', if_neg (by omega)]

/-- The resources before trip `k`, the accumulator at `A`. -/
def res2 (k : ℕ) (A : MBuf (F := F) c vA2) : sProp 𝕄 :=
  iprop(hP c vA2 A ∗ hP c vHq HQ ∗ (∃ W, owes (c : Thread nD τ) 0 W) ∗ bigSep Finset.univ (role2 c WD k))

variable (v2726 : FVec F S8x1 .f32) (v2843 : FVec F S32x128 .fp8e4m3)

/-- One trip of the second loop. -/
abbrev trip2 (k : Fin k0_t2_loop.trips) : Prog (TpuEff nD τ sig (Elt F) Λ₀ .tc) Unit :=
  k0_t2_body (F := F) mX (Memref.isWhole_whole _) mWg (Memref.isWhole_whole _) mSg (Memref.isWhole_whole _) mWd (Memref.isWhole_whole _) mSd (Memref.isWhole_whole _)
    mO (Memref.isWhole_whole _) mXc (Memref.isWhole_whole _) mXs (Memref.isWhole_whole _) mHc (Memref.isWhole_whole _) mHs (Memref.isWhole_whole _)
    vX (Memref.isWhole_whole _) vSg (Memref.isWhole_whole _) vSd (Memref.isWhole_whole _) vWg (Memref.isWhole_whole _) vWd (Memref.isWhole_whole _)
    vXq (Memref.isWhole_whole _) vHq (Memref.isWhole_whole _) vA1 (Memref.isWhole_whole _) vA2 (Memref.isWhole_whole _) vH (Memref.isWhole_whole _)
    vO (Memref.isWhole_whole _) vXc (Memref.isWhole_whole _) vXs (Memref.isWhole_whole _) vHc (Memref.isWhole_whole _) vHs (Memref.isWhole_whole _)
    cc0_scratch15 cc0_scratch16 cc0_scratch17 cc0_scratch18 v2726 v2843 k ()

/-- The whole of an 8 by 8192 buffer. -/
abbrev R8d : Rect S8x8192 := Rect.unit (s := S8x8192) ![0, 0] S8x8192.size inb_S8x8192_S8x8192_0_0

/-- Window `k` as trip `k` reads it, and chunk `k` of the hidden codes. -/
abbrev wrd2 (k : Fin k0_t2_loop.trips) : Vec F S256x8192 .fp8e4m3 :=
  View.readAt (Elt F) vWd.view (Rect.unit (s := S3712x8192) (k0_off11 k) S256x8192.size (k0_off11_inb k)).toLoadRect (wlanded c WD (Ring.bk 14 k.val) (wsl (Ring.bk 14 k.val)).view.junk)
/-- The chunk of the gated product's codes trip `k` reads. -/
abbrev xrd2 (k : Fin k0_t2_loop.trips) : Vec F S1x32x256 .fp8e4m3 :=
  View.readAt (Elt F) vHq.view (Rect.unit (s := S15x32x256) (k0_off12 k) S1x32x256.size (k0_off12_inb k)).toLoadRect HQ
/-- The accumulator after trip `k` from `A` before it. -/
abbrev upd2 (k : Fin k0_t2_loop.trips) (A : MBuf (F := F) c vA2) : MBuf (F := F) c vA2 :=
  vA2.view.writes (Elt F) A [⟨R8d, k0_pay297 (wrd2 c WD k) (View.readAt (Elt F) vA2.view R8d.toLoadRect A) (xrd2 c HQ k)⟩]

/-- One trip runs: it waits for window `k` and adds the chunk's product. -/
theorem trip2_run (k : Fin k0_t2_loop.trips) (A : MBuf (F := F) c vA2) :
    res2 c WD HQ k A ⊢ wp frame (wpE (defs₀ (F := F)) Variants.none (c : Thread nD τ) none) Set.univ (trip2 v2726 v2843 k)
        (fun _ => res2 c WD HQ (k.val + 1) (upd2 c WD HQ k A)) := by
  have hk := lt2 k
  unfold res2
  rw [roles2_here c WD k.val hk, roles2_next c WD k.val hk]
  unfold wflyP widleP
  iintro ⟨HA, HX, ⟨%W, HW⟩, ⟨⟨%f0, HF0⟩, Hroles⟩⟩
  dsimp only [trip2]
  sl_unfold [k0_t2_body]
  sl_exec
  sl_step
  isplitl [HA]; · iexact HA
  isplitl [HX]; · iexact HX
  isplitl [HW]; · iexists _; iexact HW
  isplitl [HF0_src HF0_dst HF0]
  · isplitl [HF0_src]; · iexact HF0_src
    isplitl [HF0_dst]; · iexists _; iexact HF0_dst
    iexact HF0
  iexact Hroles

/-- The accumulator before trip `k`, from `A0` at the loop's entry. -/
def acc2 (A0 : MBuf (F := F) c vA2) : ℕ → MBuf (F := F) c vA2
  | 0 => A0
  | k + 1 => if h : k < k0_t2_loop.trips then upd2 c WD HQ ⟨k, h⟩ (acc2 A0 k) else acc2 A0 k
/-- The second accumulator after trip `k` is the one before it with the chunk's product added. -/
theorem acc2_succ (A0 : MBuf (F := F) c vA2) (k : Fin k0_t2_loop.trips) :
    acc2 c WD HQ A0 (k.val + 1) = upd2 c WD HQ k (acc2 c WD HQ A0 k.val) := by rw [acc2, dif_pos k.isLt]

/-- The loop's invariant before trip `k`. -/
def inv2 (A0 : MBuf (F := F) c vA2) (k : ℕ) (_ : Unit) : sProp 𝕄 := res2 c WD HQ k (acc2 c WD HQ A0 k)
/-- One trip keeps the second loop's invariant. -/
theorem inv2_step (A0 : MBuf (F := F) c vA2) (k : Fin k0_t2_loop.trips) (u : Unit) :
    inv2 c WD HQ A0 k u ⊢ wp frame (wpE (defs₀ (F := F)) Variants.none (c : Thread nD τ) none) Set.univ (trip2 v2726 v2843 k)
        (inv2 c WD HQ A0 (k.val + 1)) := by
  have h := trip2_run c WD HQ v2726 v2843 k (acc2 c WD HQ A0 k.val)
  rw [← acc2_succ] at h; exact h

end Trip2
end Cert.KernelIdeal.Hand
end
-- ==== Proof.KI.Body.lean ====
/-
  The kernel's body as one run: from its buffers, cells and operands to its five results.
-/
module

public import proofs.«01_k».proof.Proof.KI.Loop2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body
variable (c : Dev nD) (X : MBuf (F := F) c mX) (WG : MBuf (F := F) c mWg) (SG : MBuf (F := F) c mSg) (WD : MBuf (F := F) c mWd) (SD : MBuf (F := F) c mSd)

/-- The region's body at its buffers and cells. -/
abbrev bodyG : Prog (TpuEff nD τ sig (Elt F) Λ₀ .tc) PUnit :=
  cc0_fp8_gated_mlp (F := F) mX (Memref.isWhole_whole _) mWg (Memref.isWhole_whole _) mSg (Memref.isWhole_whole _) mWd (Memref.isWhole_whole _) mSd (Memref.isWhole_whole _) mO (Memref.isWhole_whole _) mXc (Memref.isWhole_whole _) mXs (Memref.isWhole_whole _) mHc (Memref.isWhole_whole _) mHs (Memref.isWhole_whole _) vX (Memref.isWhole_whole _) vSg (Memref.isWhole_whole _) vSd (Memref.isWhole_whole _) vWg (Memref.isWhole_whole _) vWd (Memref.isWhole_whole _) vXq (Memref.isWhole_whole _) vHq (Memref.isWhole_whole _) vA1 (Memref.isWhole_whole _) vA2 (Memref.isWhole_whole _) vH (Memref.isWhole_whole _) vO (Memref.isWhole_whole _) vXc (Memref.isWhole_whole _) vXs (Memref.isWhole_whole _) vHc (Memref.isWhole_whole _) vHs (Memref.isWhole_whole _)
    cc0_scratch15 cc0_scratch16 cc0_scratch17 cc0_scratch18

/-- A DMA cell by its number, at zero. -/
abbrev dP (j : Fin 31) : sProp 𝕄 := semVal ((c : Thread nD τ), SemLoc.dma j) 0
/-- A buffer held whole at some contents. -/
abbrev xP {sp : Space} {S : Shape} {e : EltTy} (M : Memref sig .tc sp S e) : sProp 𝕄 := iprop(∃ f, hP (F := F) c M f)

/-- What the body is handed. -/
abbrev PRE : sProp 𝕄 :=
  iprop(hP c mX X ∗ hP c mSg SG ∗ hP c mSd SD
    ∗ bigSep (Ring.homeSet (NB := 32) 8 0) (fun b => eP c (blk b) WG)
    ∗ bigSep Finset.univ (widleP c WD) ∗ widleTP c WD
    ∗ (eP c (blk 0) WG ∗ eP c (blk 1) WG ∗ eP c (blk 2) WG ∗ eP c (blk 3) WG ∗ eP c (blk 4) WG ∗ eP c (blk 5) WG ∗ eP c (blk 6) WG ∗ eP c (blk 7) WG)
    ∗ ((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f))
    ∗ (zP c (cel 0) ∗ zP c (cel 1) ∗ zP c (cel 2) ∗ zP c (cel 3) ∗ zP c (cel 4) ∗ zP c (cel 5) ∗ zP c (cel 6) ∗ zP c (cel 7))
    ∗ (xP c mO ∗ xP c mXc ∗ xP c mXs ∗ xP c mHc ∗ xP c mHs)
    ∗ (xP c vX ∗ xP c vSg ∗ xP c vSd ∗ xP c vXq ∗ xP c vHq ∗ xP c vA1 ∗ xP c vA2 ∗ xP c vH ∗ xP c vO ∗ xP c vXc ∗ xP c vXs ∗ xP c vHc ∗ xP c vHs)
    ∗ (dP c 0 ∗ dP c 1 ∗ dP c 2 ∗ dP c 26 ∗ dP c 27 ∗ dP c 28 ∗ dP c 29 ∗ dP c 30)
    ∗ (∃ W, owes (c : Thread nD τ) 0 W))

/-- A separating conjunction over eight, written out. -/
theorem bigSep_fin8 (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Before the first trip each slot has its first block's copy in flight. -/
theorem role_first (s : Fin 8) (b : Fin 32) (h : nxt 0 s = b.val) : roleP c WG s (nxt 0 s) = iprop(∃ f, flightP c WG s b f) := by
  rw [h, roleP_fly c WG b.isLt, show Ring.bk 32 b.val = b from Fin.ext (Ring.bk_val b.isLt)]
/-- After the last trip each slot is free. -/
theorem role_last (s : Fin 8) : roleP c WG s (nxt k0_t1_loop.trips s) = iprop((∃ f, eP c (slt s) f) ∗ zP c (cel s)) := by
  refine roleP_free c WG ?_
  rw [show k0_t1_loop.trips = 32 from by decide]; unfold nxt; omega

/-- The first loop's invariant at its entry: the eight copies of the prologue in flight. -/
theorem inv1_first (XQ : MBuf (F := F) c vXq) (A0 : MBuf (F := F) c vA1) : inv1 c WG WD XQ A0 0 ()
    = iprop(hP c vA1 A0 ∗ hP c vXq XQ ∗ (∃ W, owes (c : Thread nD τ) 0 W) ∗ bigSep (Ring.homeSet (NB := 32) 8 0) (fun b => eP c (blk b) WG)
      ∗ ((∃ f, flightP c WG 0 0 f) ∗ (∃ f, flightP c WG 1 1 f) ∗ (∃ f, flightP c WG 2 2 f) ∗ (∃ f, flightP c WG 3 3 f) ∗ (∃ f, flightP c WG 4 4 f) ∗ (∃ f, flightP c WG 5 5 f) ∗ (∃ f, flightP c WG 6 6 f) ∗ (∃ f, flightP c WG 7 7 f)) ∗ bigSep Finset.univ (widleP c WD) ∗ widleTP c WD) := by
  unfold inv1 res1
  rw [bigSep_fin8, role_first c WG 0 0 (by decide), role_first c WG 1 1 (by decide), role_first c WG 2 2 (by decide), role_first c WG 3 3 (by decide), role_first c WG 4 4 (by decide), role_first c WG 5 5 (by decide), role_first c WG 6 6 (by decide), role_first c WG 7 7 (by decide), wdP_idle c WD (Nat.zero_le _)]
  rfl
/-- The first loop's invariant at its exit: every block home, every slot free, the second matrix in flight. -/
theorem inv1_last (XQ : MBuf (F := F) c vXq) (A0 : MBuf (F := F) c vA1) (u : Unit) : inv1 c WG WD XQ A0 k0_t1_loop.trips u
    = iprop(hP c vA1 (acc1 c WG XQ A0 32) ∗ hP c vXq XQ ∗ (∃ W, owes (c : Thread nD τ) 0 W) ∗ bigSep (Ring.homeSet (NB := 32) 8 32) (fun b => eP c (blk b) WG)
      ∗ (((∃ f, eP c (slt 0) f) ∗ zP c (cel 0)) ∗ ((∃ f, eP c (slt 1) f) ∗ zP c (cel 1)) ∗ ((∃ f, eP c (slt 2) f) ∗ zP c (cel 2)) ∗ ((∃ f, eP c (slt 3) f) ∗ zP c (cel 3)) ∗ ((∃ f, eP c (slt 4) f) ∗ zP c (cel 4)) ∗ ((∃ f, eP c (slt 5) f) ∗ zP c (cel 5)) ∗ ((∃ f, eP c (slt 6) f) ∗ zP c (cel 6)) ∗ ((∃ f, eP c (slt 7) f) ∗ zP c (cel 7))) ∗ bigSep Finset.univ (wflyP c WD) ∗ wflyTP c WD) := by
  unfold inv1 res1
  rw [bigSep_fin8]
  simp only [role_last]
  rw [wdP_fly c WD (show ¬ k0_t1_loop.trips ≤ 24 by decide)]
  rfl
/-- The shorter window's copy in flight, its place's earlier contents named. -/
theorem wflyTP_open : wflyTP c WD ⊢ iprop(∃ f, wflightTP c WD f) := .rfl
/-- The second loop's invariant before its first trip. -/
theorem inv2_first (HQ : MBuf (F := F) c vHq) (A0 : MBuf (F := F) c vA2) : inv2 c WD HQ A0 0 ()
    = iprop(hP c vA2 A0 ∗ hP c vHq HQ ∗ (∃ W, owes (c : Thread nD τ) 0 W) ∗ bigSep Finset.univ (wflyP c WD)) := by
  unfold inv2 res2; rw [roles2_zero]; rfl
/-- The second loop's invariant after its last trip. -/
theorem inv2_last (HQ : MBuf (F := F) c vHq) (A0 : MBuf (F := F) c vA2) (u : Unit) : inv2 c WD HQ A0 k0_t2_loop.trips u
    = iprop(hP c vA2 (acc2 c WD HQ A0 14) ∗ hP c vHq HQ ∗ (∃ W, owes (c : Thread nD τ) 0 W) ∗ bigSep Finset.univ (widleP c WD)) := by
  unfold inv2 res2; rw [show k0_t2_loop.trips = 14 from by decide, roles2_last]

/-- What the body gives back, its five results at the given contents. -/
abbrev POST (gO : MBuf (F := F) c mO) (gXc : MBuf (F := F) c mXc) (gXs : MBuf (F := F) c mXs) (gHc : MBuf (F := F) c mHc) (gHs : MBuf (F := F) c mHs) : sProp 𝕄 :=
  iprop(hP c mX X ∗ hP c mSg SG ∗ hP c mSd SD
    ∗ bigSep (Ring.homeSet (NB := 32) 8 32) (fun b => eP c (blk b) WG)
    ∗ bigSep Finset.univ (widleP c WD) ∗ widleTP c WD
    ∗ ((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f))
    ∗ (zP c (cel 0) ∗ zP c (cel 1) ∗ zP c (cel 2) ∗ zP c (cel 3) ∗ zP c (cel 4) ∗ zP c (cel 5) ∗ zP c (cel 6) ∗ zP c (cel 7))
    ∗ (hP c mO gO ∗ hP c mXc gXc ∗ hP c mXs gXs ∗ hP c mHc gHc ∗ hP c mHs gHs)
    ∗ (xP c vX ∗ xP c vSg ∗ xP c vSd ∗ xP c vXq ∗ xP c vHq ∗ xP c vA1 ∗ xP c vA2 ∗ xP c vH ∗ xP c vO ∗ xP c vXc ∗ xP c vXs ∗ xP c vHc ∗ xP c vHs)
    ∗ (dP c 0 ∗ dP c 1 ∗ dP c 2 ∗ dP c 26 ∗ dP c 27 ∗ dP c 28 ∗ dP c 29 ∗ dP c 30)
    ∗ (∃ W, owes (c : Thread nD τ) 0 W))

/-- The run: from `PRE` to `POST` at these results. -/
def RunP (rO : MBuf (F := F) c vX → MBuf (F := F) c vSg → MBuf (F := F) c vSd → MBuf (F := F) c vHq → MBuf (F := F) c vO → MBuf (F := F) c mO → MBuf (F := F) c mO) (rXc : MBuf (F := F) c vX → MBuf (F := F) c vXc → MBuf (F := F) c mXc → MBuf (F := F) c mXc) (rXs : MBuf (F := F) c vX → MBuf (F := F) c vXs → MBuf (F := F) c mXs → MBuf (F := F) c mXs) (rHc : MBuf (F := F) c vX → MBuf (F := F) c vSg → MBuf (F := F) c vHc → MBuf (F := F) c mHc → MBuf (F := F) c mHc) (rHs : MBuf (F := F) c vX → MBuf (F := F) c vSg → MBuf (F := F) c vHs → MBuf (F := F) c mHs → MBuf (F := F) c mHs) : Prop :=
  ∀ Q : PUnit → sProp 𝕄, iprop(PRE c X WG SG WD SD ∗ (∀ fvX : MBuf (F := F) c vX, ∀ fvSg : MBuf (F := F) c vSg, ∀ fvSd : MBuf (F := F) c vSd, ∀ fvHq : MBuf (F := F) c vHq, ∀ fvO : MBuf (F := F) c vO, ∀ fvXc : MBuf (F := F) c vXc, ∀ fvXs : MBuf (F := F) c vXs, ∀ fvHc : MBuf (F := F) c vHc, ∀ fvHs : MBuf (F := F) c vHs, ∀ o0 : MBuf (F := F) c mO, ∀ o1 : MBuf (F := F) c mXc, ∀ o2 : MBuf (F := F) c mXs, ∀ o3 : MBuf (F := F) c mHc, ∀ o4 : MBuf (F := F) c mHs,
      POST c X WG SG WD SD (rO fvX fvSg fvSd fvHq fvO o0) (rXc fvX fvXc o1) (rXs fvX fvXs o2) (rHc fvX fvSg fvHc o3) (rHs fvX fvSg fvHs o4) -∗ Q ⟨⟩))
    ⊢ wp frame (wpE (defs₀ (F := F)) Variants.none (c : Thread nD τ) none) Set.univ (bodyG (F := F)) Q

/-- The body's run: its five results, as functions of its operands and of what it found in the buffers it overwrites, and
    the run itself. -/
def Run : Type :=
  { r : (MBuf (F := F) c vX → MBuf (F := F) c vSg → MBuf (F := F) c vSd → MBuf (F := F) c vHq → MBuf (F := F) c vO → MBuf (F := F) c mO → MBuf (F := F) c mO) × (MBuf (F := F) c vX → MBuf (F := F) c vXc → MBuf (F := F) c mXc → MBuf (F := F) c mXc) × (MBuf (F := F) c vX → MBuf (F := F) c vXs → MBuf (F := F) c mXs → MBuf (F := F) c mXs) × (MBuf (F := F) c vX → MBuf (F := F) c vSg → MBuf (F := F) c vHc → MBuf (F := F) c mHc → MBuf (F := F) c mHc) × (MBuf (F := F) c vX → MBuf (F := F) c vSg → MBuf (F := F) c vHs → MBuf (F := F) c mHs → MBuf (F := F) c mHs) //
    RunP c X WG SG WD SD r.1 r.2.1 r.2.2.1 r.2.2.2.1 r.2.2.2.2 }
/-- A run from its five results and its proof. -/
def mkRun (rO : MBuf (F := F) c vX → MBuf (F := F) c vSg → MBuf (F := F) c vSd → MBuf (F := F) c vHq → MBuf (F := F) c vO → MBuf (F := F) c mO → MBuf (F := F) c mO) (rXc : MBuf (F := F) c vX → MBuf (F := F) c vXc → MBuf (F := F) c mXc → MBuf (F := F) c mXc) (rXs : MBuf (F := F) c vX → MBuf (F := F) c vXs → MBuf (F := F) c mXs → MBuf (F := F) c mXs) (rHc : MBuf (F := F) c vX → MBuf (F := F) c vSg → MBuf (F := F) c vHc → MBuf (F := F) c mHc → MBuf (F := F) c mHc) (rHs : MBuf (F := F) c vX → MBuf (F := F) c vSg → MBuf (F := F) c vHs → MBuf (F := F) c mHs → MBuf (F := F) c mHs) (h : RunP c X WG SG WD SD rO rXc rXs rHc rHs) : Run c X WG SG WD SD :=
  ⟨(rO, rXc, rXs, rHc, rHs), h⟩

set_option maxHeartbeats 2000000 in
set_option sl_exec.resultNames true in
/-- The body runs: to the first counted loop (the codes of `x`, its copies), through it by its invariant, to the second
    (the 29 groups of the gated product, its codes), through it, and to the end (the last window, the result, five waits). -/
def bodyRun : Run c X WG SG WD SD := by
  refine mkRun c X WG SG WD SD ?_ ?_ ?_ ?_ ?_ ?run
  case run =>
    unfold RunP
    intro Q
    iintro ⟨⟨HX, HSG, HSD, Hrest, HD, HDT, ⟨G0, G1, G2, G3, G4, G5, G6, G7⟩, ⟨⟨%s0, S0⟩, ⟨%s1, S1⟩, ⟨%s2, S2⟩, ⟨%s3, S3⟩, ⟨%s4, S4⟩, ⟨%s5, S5⟩, ⟨%s6, S6⟩, ⟨%s7, S7⟩⟩, ⟨C0, C1, C2, C3, C4, C5, C6, C7⟩, ⟨⟨%o0, O0⟩, ⟨%o1, O1⟩, ⟨%o2, O2⟩, ⟨%o3, O3⟩, ⟨%o4, O4⟩⟩, ⟨⟨%fvX, HvX⟩, ⟨%fvSg, HvSg⟩, ⟨%fvSd, HvSd⟩, ⟨%fvXq, HvXq⟩, ⟨%fvHq, HvHq⟩, ⟨%fvA1, HvA1⟩, ⟨%fvA2, HvA2⟩, ⟨%fvH, HvH⟩, ⟨%fvO, HvO⟩, ⟨%fvXc, HvXc⟩, ⟨%fvXs, HvXs⟩, ⟨%fvHc, HvHc⟩, ⟨%fvHs, HvHs⟩⟩, ⟨D0, D1, D2, D3, D4, D5, D6, D7⟩, ⟨%W, HW⟩⟩, Hk⟩
    dsimp only [bodyG]
    sl_unfold [cc0_fp8_gated_mlp]
    sl_exec_parts
    sl_for (inv1 c WG WD (vXq.view.writes (Elt F) vXq.view.junk (bodyRun.sl.HvXq_32 c X fvX)) (vA1.view.writes (Elt F) vA1.view.junk bodyRun.sl.HvA1_1)) $$ [HvA1 HvXq HW Hrest HD HDT C0 C1 C2 C3 C4 C5 C6 C7]
    · intro k acc; exact inv1_step c WG WD _ _ _ _ k acc
    · irw [inv1_first]
      isplitl [HvA1]; · iexact HvA1
      isplitl [HvXq]; · iexact HvXq
      isplitl [HW]; · iexists _; iexact HW
      isplitl [Hrest]; · iexact Hrest
      isplitr [HD HDT]
      · isplitl [C0]; · iexists s0; iexact C0
        isplitl [C1]; · iexists s1; iexact C1
        isplitl [C2]; · iexists s2; iexact C2
        isplitl [C3]; · iexists s3; iexact C3
        isplitl [C4]; · iexists s4; iexact C4
        isplitl [C5]; · iexists s5; iexact C5
        isplitl [C6]; · iexists s6; iexact C6
        iexists s7; iexact C7
      isplitl [HD]; · iexact HD
      iexact HDT
    iintro %acc HI
    ihave HI' := (Entails.of_eq (inv1_last c WG WD _ _ acc)) $$ HI
    icases HI' with ⟨HvA1, HvXq, ⟨%W1, HW⟩, Hrest, ⟨⟨⟨%t0, S0⟩, C0⟩, ⟨⟨%t1, S1⟩, C1⟩, ⟨⟨%t2, S2⟩, C2⟩, ⟨⟨%t3, S3⟩, C3⟩, ⟨⟨%t4, S4⟩, C4⟩, ⟨⟨%t5, S5⟩, C5⟩, ⟨⟨%t6, S6⟩, C6⟩, ⟨⟨%t7, S7⟩, C7⟩⟩, HD, HDT⟩
    sl_exec_parts
    sl_for (inv2 c WD (vHq.view.writes (Elt F) fvHq (⟨Rect.unit ![14, 0, 0] S1x32x128.size inb_S15x32x256_S1x32x128_14_0_0, k0_pay295 (bodyRun.sl.v2843 c X WG SG fvX fvSg)⟩ :: bodyRun.sl.HvHq_14 c X WG SG fvX fvSg))
        (vA2.view.writes (Elt F) vA2.view.junk bodyRun.sl.HvA2_1)) $$ [HvA2 HvHq HW HD]
    · intro k acc; exact inv2_step c WD _ _ _ _ k acc
    · irw [inv2_first]
      isplitl [HvA2]; · iexact HvA2
      isplitl [HvHq]; · iexact HvHq
      isplitl [HW]; · iexists _; iexact HW
      iexact HD
    iintro %acc2 HI
    ihave HI' := (Entails.of_eq (inv2_last c WD _ _ acc2)) $$ HI
    icases HI' with ⟨HvA2, HvHq, ⟨%W2, HW⟩, HD⟩
    ihave HDT' := (wflyTP_open c WD) $$ HDT
    icases HDT' with ⟨%dT, HT⟩
    sl_exec_parts
    sl_step
    iapply Hk $$ %fvX %fvSg %fvSd %fvHq %fvO %fvXc %fvXs %fvHc %fvHs %o0 %o1 %o2 %o3 %o4
    isplitl [HX]; · iexact HX
    isplitl [HSG]; · iexact HSG
    isplitl [HSD]; · iexact HSD
    isplitl [Hrest]; · iexact Hrest
    isplitl [HD]; · iexact HD
    isplitl [HT_src HT_dst HT]
    · unfold widleTP
      isplitl [HT_src]; · iexact HT_src
      isplitl [HT_dst]; · iexists _; iexact HT_dst
      iexact HT
    isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [O0 O1 O2 O3 O4]
    · isplitl [O0]; · iexact O0
      isplitl [O1]; · iexact O1
      isplitl [O2]; · iexact O2
      isplitl [O3]; · iexact O3
      iexact O4
    isplitl [HvX HvSg HvSd HvXq HvHq HvA1 HvA2 HvH HvO HvXc HvXs HvHc HvHs]
    · isplitl [HvX]; · iexists _; iexact HvX
      isplitl [HvSg]; · iexists _; iexact HvSg
      isplitl [HvSd]; · iexists _; iexact HvSd
      isplitl [HvXq]; · iexists _; iexact HvXq
      isplitl [HvHq]; · iexists _; iexact HvHq
      isplitl [HvA1]; · iexists _; iexact HvA1
      isplitl [HvA2]; · iexists _; iexact HvA2
      isplitl [HvH]; · iexists _; iexact HvH
      isplitl [HvO]; · iexists _; iexact HvO
      isplitl [HvXc]; · iexists _; iexact HvXc
      isplitl [HvXs]; · iexists _; iexact HvXs
      isplitl [HvHc]; · iexists _; iexact HvHc
      iexists _; iexact HvHs
    isplitl [D0 D1 D2 D3 D4 D5 D6 D7]
    · isplitl [D0]; · iexact D0
      isplitl [D1]; · iexact D1
      isplitl [D2]; · iexact D2
      isplitl [D3]; · iexact D3
      isplitl [D4]; · iexact D4
      isplitl [D5]; · iexact D5
      isplitl [D6]; · iexact D6
      iexact D7
    iexists _; iexact HW
end Body
end Cert.KernelIdeal.Hand
end
-- ==== Proof.KI.Split.lean ====
/-
  The launch: the buffers of the kernel split into the blocks, slots and windows the body's run takes, and joined again
  afterwards; the body obligation of the one grid point; the run of the whole program. Its conclusion says that the
  arguments are unchanged, that every semaphore ends at zero, and that the five results are those of the body's run.
-/
module

public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Split
variable (c : Dev nD)

/-! ## Element sets, by row -/

/-- The rows of block `b` of the first matrix; of slot `s`; of window `i` of the second matrix, the last one shorter. -/
abbrev GB (b : Fin 32) : Finset S8192x7424.Idx := Finset.univ.filter fun y => (y 0).val / 256 = b.val
/-- The ring's indices in slot `s`. -/
abbrev GS (s : Fin 8) : Finset S8x256x7424.Idx := Finset.univ.filter fun y => (y 0).val = s.val
/-- The second weights' indices in window `i`. -/
abbrev GW (i : Fin 15) : Finset S3712x8192.Idx := Finset.univ.filter fun y => (y 0).val / 256 = i.val

/-- Different blocks share no index. -/
theorem GB_disjoint : ∀ b b' : Fin 32, b ≠ b' → Disjoint (GB b) (GB b') := by
  intro b b' hne; rw [Finset.disjoint_left]; intro y hy hy'
  simp only [Finset.mem_filter, Finset.mem_univ, true_and] at hy hy'; exact hne (Fin.ext (hy.symm.trans hy'))
/-- The blocks cover the first weights. -/
theorem GB_cover : (Finset.univ : Finset (Fin 32)).biUnion GB = Finset.univ := by
  ext y
  simp only [Finset.mem_biUnion, Finset.mem_filter, Finset.mem_univ, true_and, iff_true]
  have h : (y 0).val < 8192 := (y 0).isLt
  exact ⟨⟨(y 0).val / 256, by omega⟩, rfl⟩
/-- Different slots share no index. -/
theorem GS_disjoint : ∀ b b' : Fin 8, b ≠ b' → Disjoint (GS b) (GS b') := by
  intro b b' hne; rw [Finset.disjoint_left]; intro y hy hy'
  simp only [Finset.mem_filter, Finset.mem_univ, true_and] at hy hy'; exact hne (Fin.ext (hy.symm.trans hy'))
/-- The slots cover the ring. -/
theorem GS_cover : (Finset.univ : Finset (Fin 8)).biUnion GS = Finset.univ := by
  ext y
  simp only [Finset.mem_biUnion, Finset.mem_filter, Finset.mem_univ, true_and, iff_true]
  have h : (y 0).val < 8 := (y 0).isLt
  exact ⟨⟨(y 0).val, h⟩, rfl⟩
/-- Different windows share no index. -/
theorem GW_disjoint : ∀ b b' : Fin 15, b ≠ b' → Disjoint (GW b) (GW b') := by
  intro b b' hne; rw [Finset.disjoint_left]; intro y hy hy'
  simp only [Finset.mem_filter, Finset.mem_univ, true_and] at hy hy'; exact hne (Fin.ext (hy.symm.trans hy'))
/-- The windows cover the second weights. -/
theorem GW_cover : (Finset.univ : Finset (Fin 15)).biUnion GW = Finset.univ := by
  ext y
  simp only [Finset.mem_biUnion, Finset.mem_filter, Finset.mem_univ, true_and, iff_true]
  have h : (y 0).val < 3712 := (y 0).isLt
  exact ⟨⟨(y 0).val / 256, by omega⟩, rfl⟩

/-- Block `b` occupies its indices. -/
theorem blk_set (b : Fin 32) : (blk b).view.set = GB b := by
  refine (View.set_slice_whole _ _).trans ?_
  ext y
  rw [Rect.mem_set_unit]
  simp only [Finset.mem_filter, Finset.mem_univ, true_and]
  have h1 : (y 1).val < 7424 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 7424; omega
/-- Slot `s` occupies its indices. -/
theorem slt_set (s : Fin 8) : (slt s).view.set = GS s := by
  refine ((View.set_reshape _ _).trans (View.set_slice_whole _ _)).trans ?_
  ext y
  rw [Rect.mem_set_unit]
  simp only [Finset.mem_filter, Finset.mem_univ, true_and]
  have h1 : (y 1).val < 256 := (y 1).isLt
  have h2 : (y 2).val < 7424 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 7424; omega
/-- Window `i`'s rectangle is its indices. -/
theorem rectW_set (i : Fin 14) : (Rect.unit (s := S3712x8192) (winOff i) S256x8192.size (winOff_inb i)).set = GW i.castSucc := by
  ext y
  rw [Rect.mem_set_unit]
  simp only [Finset.mem_filter, Finset.mem_univ, true_and, Fin.val_castSucc]
  have h1 : (y 1).val < 8192 := (y 1).isLt
  constructor
  · intro H; have a0 : 256 * i.val ≤ (y 0).val ∧ (y 0).val < 256 * i.val + 256 := H 0; omega
  · intro H a; fin_cases a
    · show 256 * i.val ≤ (y 0).val ∧ (y 0).val < 256 * i.val + 256; omega
    · show 0 ≤ (y 1).val ∧ (y 1).val < 0 + 8192; omega
/-- The shorter window's rectangle is its indices. -/
theorem rectT_set : (Rect.unit (s := S3712x8192) tailOff S128x8192.size inb_S3712x8192_S128x8192_3584_0).set = GW 14 := by
  ext y
  rw [Rect.mem_set_unit]
  simp only [Finset.mem_filter, Finset.mem_univ, true_and]
  have h0 : (y 0).val < 3712 := (y 0).isLt
  have h1 : (y 1).val < 8192 := (y 1).isLt
  have h14 : ((14 : Fin 15) : ℕ) = 14 := rfl
  constructor
  · intro H; have a0 : 3584 ≤ (y 0).val ∧ (y 0).val < 3584 + 128 := H 0; omega
  · intro H a; fin_cases a
    · show 3584 ≤ (y 0).val ∧ (y 0).val < 3584 + 128; omega
    · show 0 ≤ (y 1).val ∧ (y 1).val < 0 + 8192; omega
/-- Window `i` in main memory occupies its indices. -/
theorem win_set (i : Fin 14) : (win i).view.set = GW i.castSucc := (View.set_slice_whole _ _).trans (rectW_set i)
/-- Window `i` of the local copy occupies its indices. -/
theorem wsl_set (i : Fin 14) : (wsl i).view.set = GW i.castSucc := (View.set_slice_whole _ _).trans (rectW_set i)
/-- The shorter window in main memory occupies its indices. -/
theorem winT_set : winT.view.set = GW 14 := (View.set_slice_whole _ _).trans rectT_set
/-- The shorter window of the local copy occupies its indices. -/
theorem wslT_set : wslT.view.set = GW 14 := (View.set_slice_whole _ _).trans rectT_set

/-! ## The first matrix and its ring -/

/-- Holding block `b` is holding its indices of the first weights. -/
theorem blkP_eq (b : Fin 32) (f : MBuf (F := F) c mWg) : (eP c (blk b) f : sProp 𝕄) = (((c : Thread nD τ).loc main_arg1) ↦[GB b]{fullShare} f : sProp 𝕄) :=
  congrArg (fun S => (_ ↦[S]{fullShare} f : sProp 𝕄)) (blk_set b)
/-- Holding slot `s` is holding its indices of the ring. -/
theorem sltP_eq (s : Fin 8) (f : MBuf (F := F) c vWg) : (eP c (slt s) f : sProp 𝕄) = (((c : Thread nD τ).loc cc0_scratch3) ↦[GS s]{fullShare} f : sProp 𝕄) :=
  congrArg (fun S => (_ ↦[S]{fullShare} f : sProp 𝕄)) (slt_set s)

/-- The first matrix whole is its 32 blocks; -/
theorem wg_all (f : MBuf (F := F) c mWg) : (hP c mWg f : sProp 𝕄) = bigSep Finset.univ (fun b => eP c (blk b) f) := by
  refine (Ring.pointsTo_blocks (Ix := Unit) (Name := ℕ) (U := Pipeline.UD sig nD τ) (Lvl := ℕ) (q := fullShare) (ℓ := (c : Thread nD τ).loc main_arg1) GB GB_disjoint GB_cover f).trans ?_
  exact bigSep_congr fun b _ => (blkP_eq c b f).symm
/-- after the run (all 32 home), -/
theorem wg_home (f : MBuf (F := F) c mWg) : (bigSep (Ring.homeSet (NB := 32) 8 32) (fun b => eP c (blk b) f) : sProp 𝕄) = hP c mWg f := by
  rw [wg_all, show (Ring.homeSet (NB := 32) 8 32) = Finset.univ from by decide]
/-- and before it, the first eight apart. -/
theorem wg_split (f : MBuf (F := F) c mWg) : (hP c mWg f : sProp 𝕄)
    = iprop(eP c (blk 0) f ∗ eP c (blk 1) f ∗ eP c (blk 2) f ∗ eP c (blk 3) f ∗ eP c (blk 4) f ∗ eP c (blk 5) f ∗ eP c (blk 6) f ∗ eP c (blk 7) f ∗ bigSep (Ring.homeSet (NB := 32) 8 0) (fun b => eP c (blk b) f)) := by
  have e : (Finset.univ : Finset (Fin 32)) = insert 0 (insert 1 (insert 2 (insert 3 (insert 4 (insert 5 (insert 6 (insert 7 (Ring.homeSet (NB := 32) 8 0)))))))) := by decide
  rw [wg_all, e, bigSep_insert (by decide), bigSep_insert (by decide), bigSep_insert (by decide), bigSep_insert (by decide), bigSep_insert (by decide), bigSep_insert (by decide), bigSep_insert (by decide), bigSep_insert (by decide)]
  rfl

/-- The ring's buffer whole is its eight slots, and back. -/
theorem vwg_split : (xP (F := F) c vWg : sProp 𝕄) ⊢ iprop((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f)) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch3) GS GS_disjoint GS_cover f).trans (bigSep_fin8 _))) $$ H
  icases H2 with ⟨H0, H1, H2, H3, H4, H5, H6, H7⟩
  isplitl [H0]
  · iexists f; iapply (Entails.of_eq (sltP_eq c 0 f).symm); iexact H0
  isplitl [H1]
  · iexists f; iapply (Entails.of_eq (sltP_eq c 1 f).symm); iexact H1
  isplitl [H2]
  · iexists f; iapply (Entails.of_eq (sltP_eq c 2 f).symm); iexact H2
  isplitl [H3]
  · iexists f; iapply (Entails.of_eq (sltP_eq c 3 f).symm); iexact H3
  isplitl [H4]
  · iexists f; iapply (Entails.of_eq (sltP_eq c 4 f).symm); iexact H4
  isplitl [H5]
  · iexists f; iapply (Entails.of_eq (sltP_eq c 5 f).symm); iexact H5
  isplitl [H6]
  · iexists f; iapply (Entails.of_eq (sltP_eq c 6 f).symm); iexact H6
  iexists f; iapply (Entails.of_eq (sltP_eq c 7 f).symm); iexact H7
/-- The eight slots make up the ring. -/
theorem vwg_join : iprop((∃ f, eP c (slt 0) f) ∗ (∃ f, eP c (slt 1) f) ∗ (∃ f, eP c (slt 2) f) ∗ (∃ f, eP c (slt 3) f) ∗ (∃ f, eP c (slt 4) f) ∗ (∃ f, eP c (slt 5) f) ∗ (∃ f, eP c (slt 6) f) ∗ (∃ f, eP c (slt 7) f)) ⊢ (xP (F := F) c vWg : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch3) GS GS_disjoint GS_cover f0)
  irw [bigSep_fin8]
  isplitl [H0]
  · iexists f0; iapply (Entails.of_eq (sltP_eq c 0 f0)); iexact H0
  isplitl [H1]
  · iexists f1; iapply (Entails.of_eq (sltP_eq c 1 f1)); iexact H1
  isplitl [H2]
  · iexists f2; iapply (Entails.of_eq (sltP_eq c 2 f2)); iexact H2
  isplitl [H3]
  · iexists f3; iapply (Entails.of_eq (sltP_eq c 3 f3)); iexact H3
  isplitl [H4]
  · iexists f4; iapply (Entails.of_eq (sltP_eq c 4 f4)); iexact H4
  isplitl [H5]
  · iexists f5; iapply (Entails.of_eq (sltP_eq c 5 f5)); iexact H5
  isplitl [H6]
  · iexists f6; iapply (Entails.of_eq (sltP_eq c 6 f6)); iexact H6
  iexists f7; iapply (Entails.of_eq (sltP_eq c 7 f7)); iexact H7

/-! ## The second matrix and its resident copy -/

/-- A separating conjunction over fifteen: the last apart from the fourteen. -/
theorem bigSep_fin15 (Φ : Fin 15 → sProp 𝕄) : bigSep Finset.univ Φ = iprop(Φ 14 ∗ bigSep Finset.univ (fun i : Fin 14 => Φ i.castSucc)) := by
  rw [bigSep_univ_eq_bigSepL [(14 : Fin 15), 0, 1, 2, 3, 4, 5, 6, 7, 8, 9, 10, 11, 12, 13] (by decide) (by decide) Φ,
    bigSep_univ_eq_bigSepL [(0 : Fin 14), 1, 2, 3, 4, 5, 6, 7, 8, 9, 10, 11, 12, 13] (by decide) (by decide)]
  rfl
/-- The second matrix whole is its last window and the 14 others. -/
theorem wd_all (f : MBuf (F := F) c mWd) : (hP c mWd f : sProp 𝕄) = iprop(eP c winT f ∗ bigSep Finset.univ (fun i => eP c (win i) f)) := by
  refine ((Ring.pointsTo_blocks (Ix := Unit) (Name := ℕ) (U := Pipeline.UD sig nD τ) (Lvl := ℕ) (q := fullShare) (ℓ := (c : Thread nD τ).loc main_arg3) GW GW_disjoint GW_cover f).trans (bigSep_fin15 _)).trans ?_
  exact congrArg₂ (fun P Q : sProp 𝕄 => iprop(P ∗ Q)) (congrArg (fun S => (_ ↦[S]{fullShare} f : sProp 𝕄)) winT_set.symm)
    (bigSep_congr fun i _ => congrArg (fun S => (_ ↦[S]{fullShare} f : sProp 𝕄)) (win_set i).symm)
/-- A window's indices of the local copy are that window, at some contents. -/
theorem wsl_intro (i : Fin 14) (f : MBuf (F := F) c vWd) : (((c : Thread nD τ).loc cc0_scratch4) ↦[GW i.castSucc]{fullShare} f : sProp 𝕄) ⊢ iprop(∃ f, eP c (wsl i) f) := by
  iintro H; iexists f; iapply (Entails.of_eq (congrArg (fun S => (_ ↦[S]{fullShare} f : sProp 𝕄)) (wsl_set i).symm)); iexact H
/-- And back. -/
theorem wsl_elim (i : Fin 14) : (iprop(∃ f, eP c (wsl i) f) : sProp 𝕄) ⊢ iprop(∃ f : MBuf (F := F) c vWd, ((c : Thread nD τ).loc cc0_scratch4) ↦[GW i.castSucc]{fullShare} f) := by
  iintro ⟨%f, H⟩; iexists f; iapply (Entails.of_eq (congrArg (fun S => (_ ↦[S]{fullShare} f : sProp 𝕄)) (wsl_set i))); iexact H
/-- The local copy of the second weights is its fifteen windows. -/
theorem vwd_split : (xP (F := F) c vWd : sProp 𝕄) ⊢ iprop((∃ f, eP c wslT f) ∗ bigSep Finset.univ (fun i => iprop(∃ f, eP c (wsl i) f))) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch4) GW GW_disjoint GW_cover f).trans (bigSep_fin15 _))) $$ H
  icases H2 with ⟨HT, H⟩
  isplitl [HT]
  · iexists f; iapply (Entails.of_eq (congrArg (fun S => (_ ↦[S]{fullShare} f : sProp 𝕄)) wslT_set.symm)); iexact HT
  have h : (bigSep Finset.univ (fun i : Fin 14 => (((c : Thread nD τ).loc cc0_scratch4) ↦[GW i.castSucc]{fullShare} f : sProp 𝕄)) : sProp 𝕄)
      ⊢ (bigSep Finset.univ (fun i => iprop(∃ f, eP c (wsl i) f)) : sProp 𝕄) := bigSep_mono fun i _ => wsl_intro c i f
  iapply h; iexact H
/-- The fifteen windows make up the local copy. -/
theorem vwd_join : iprop((∃ f, eP c wslT f) ∗ bigSep Finset.univ (fun i => iprop(∃ f, eP c (wsl i) f))) ⊢ (xP (F := F) c vWd : sProp 𝕄) := by
  iintro ⟨⟨%f, HT⟩, H⟩
  iapply (Ring.pointsTo_blocks_join_exists (ℓ := (c : Thread nD τ).loc cc0_scratch4) GW GW_disjoint GW_cover f)
  irw [bigSep_fin15]
  isplitl [HT]
  · iexists f; iapply (Entails.of_eq (congrArg (fun S => (_ ↦[S]{fullShare} f : sProp 𝕄)) wslT_set)); iexact HT
  have h : (bigSep Finset.univ (fun i => iprop(∃ f, eP c (wsl i) f)) : sProp 𝕄)
      ⊢ (bigSep Finset.univ (fun i : Fin 14 => iprop(∃ f, (((c : Thread nD τ).loc cc0_scratch4) ↦[GW i.castSucc]{fullShare} f : sProp 𝕄))) : sProp 𝕄) := bigSep_mono fun i _ => wsl_elim c i
  iapply h; iexact H

/-- The windows of the second matrix, those of its copy and their cells, as the body takes them. -/
theorem widle_all (WD : MBuf (F := F) c mWd) : (bigSep Finset.univ (widleP c WD) : sProp 𝕄)
    = iprop(bigSep Finset.univ (fun i => eP c (win i) WD) ∗ bigSep Finset.univ (fun i => iprop(∃ f, eP c (wsl i) f)) ∗ bigSep Finset.univ (fun i : Fin 14 => zP c (wcel i.castSucc))) := by
  exact (bigSep_sep _ _ _).trans (congrArg (fun Q : sProp 𝕄 => iprop(bigSep Finset.univ (fun i => eP c (win i) WD) ∗ Q)) (bigSep_sep _ _ _))
/-- The fourteen windows' cells, written out. -/
theorem wcells (c : Dev nD) : (bigSep Finset.univ (fun i : Fin 14 => zP (F := F) c (wcel i.castSucc)) : sProp 𝕄)
    = iprop(dP c 11 ∗ dP c 12 ∗ dP c 13 ∗ dP c 14 ∗ dP c 15 ∗ dP c 16 ∗ dP c 17 ∗ dP c 18 ∗ dP c 19 ∗ dP c 20 ∗ dP c 21 ∗ dP c 22 ∗ dP c 23 ∗ dP c 24) := by
  rw [bigSep_univ_eq_bigSepL [(0 : Fin 14), 1, 2, 3, 4, 5, 6, 7, 8, 9, 10, 11, 12, 13] (by decide) (by decide)]; rfl

end Split

end Cert.KernelIdeal.Hand

end
-- ==== Proof.KI.Launch.lean ====
/-
  The launch: the body obligation of the kernel's one grid point, from the buffers split (Split.lean) to the body's run
  (Body.lean) and back, and the run of the whole program. Its conclusion says that the arguments are unchanged, that every
  semaphore ends at zero, and that the five results are those of the body's run.
-/
module

public import proofs.«01_k».proof.Proof.KI.Split
public import proofs.«01_k».proof.Proof.Sat

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at this algebra -/

/-- The region's operands: the arguments, three of them reshaped. -/
abbrev Vh (c : Dev nD) (b : Ref sig .tc) : Buf (Elt F) ((c : Thread nD τ).loc b) := StableHlo.after hostOps0 (fun b => m (c, b)) b

set_option maxHeartbeats 800000 in
theorem hmain_ud (𝒱₀ : Variants) : Pipeline.HMain (Ix := Unit) (Name := ℕ) (U := Pipeline.UD sig nD τ) (Lvl := ℕ) cfgs 0 defs₀ 𝒱₀ m (main (F := F)) (Vh m) :=
  Pipeline.hmain_prefix cfgs 0 defs₀ 𝒱₀ m main hostOps0 hostOps0_sub hostOps0_fresh main_chain

/-! ## The buffers and cells the region's invariant names -/

/-- The kernel's own DMA cells, all 31. -/
abbrev osem0 : Fin 31 → SemLoc sig := fun j => SemLoc.dma j
/-- The cells are distinct and belong to no window. -/
theorem ownSemFacts0 : Pipeline.OwnSemFacts (cfg0.spec) osem0 := by decide
/-- The buffers the body reads by its own copies; the five results, which it writes by its own copies. -/
def H0 : Finset (Ref sig .tc) := {main_v0, main_arg1, main_v1, main_arg3, main_v2}
/-- The five results. -/
def R0 : Finset (Ref sig .tc) := {main_v3_0, main_v3_1, main_v3_2, main_v3_3, main_v3_4}
/-- The operands are unscoped buffers outside the windows. -/
theorem H0_sub : H0 ⊆ Pipeline.restRefs sig (cfg0.spec) := by decide
/-- So are the results, and none is an operand. -/
theorem R0_sub : R0 ⊆ Pipeline.restRefs sig (cfg0.spec) \ H0 := by decide

/-- The cells at zero, written out. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(dP c 0 ∗ dP c 1 ∗ dP c 2 ∗ dP c 26 ∗ dP c 27 ∗ dP c 28 ∗ dP c 29 ∗ dP c 30 ∗ dP c 3 ∗ dP c 4 ∗ dP c 5 ∗ dP c 6 ∗ dP c 7 ∗ dP c 8 ∗ dP c 9 ∗ dP c 10 ∗ dP c 25 ∗ dP c 11 ∗ dP c 12 ∗ dP c 13 ∗ dP c 14 ∗ dP c 15 ∗ dP c 16 ∗ dP c 17 ∗ dP c 18 ∗ dP c 19 ∗ dP c 20 ∗ dP c 21 ∗ dP c 22 ∗ dP c 23 ∗ dP c 24) := by
  rw [Pipeline.ownSems0_eq_of_list c osem0 [0, 1, 2, 26, 27, 28, 29, 30, 3, 4, 5, 6, 7, 8, 9, 10, 25, 11, 12, 13, 14, 15, 16, 17, 18, 19, 20, 21, 22, 23, 24] (by decide) (by decide)]; rfl
/-- The operands held, written out. -/
theorem hbmPts0_eq (c : Dev nD) (W : (b : Ref sig .tc) → Buf (Elt F) ((c : Thread nD τ).loc b)) :
    (bigSep H0 (fun b => ((c : Thread nD τ).loc b) ↦{fullShare} W b) : sProp 𝕄)
      = iprop(hP c mX (W main_v0) ∗ hP c mWg (W main_arg1) ∗ hP c mSg (W main_v1) ∗ hP c mWd (W main_arg3) ∗ hP c mSd (W main_v2)) := by
  rw [BI.bigSep_eq_bigSepL_of_eq [main_v0, main_arg1, main_v1, main_arg3, main_v2] (by decide) (by decide)]; rfl
/-- The results held, written out. -/
theorem routed0_eq (c : Dev nD) (W : (b : Ref sig .tc) → Buf (Elt F) ((c : Thread nD τ).loc b)) :
    (Pipeline.routed R0 c W : sProp 𝕄)
      = iprop(hP c mO (W main_v3_0) ∗ hP c mXc (W main_v3_1) ∗ hP c mXs (W main_v3_2) ∗ hP c mHc (W main_v3_3) ∗ hP c mHs (W main_v3_4)) := by
  unfold Pipeline.routed
  rw [BI.bigSep_eq_bigSepL_of_eq [main_v3_0, main_v3_1, main_v3_2, main_v3_3, main_v3_4] (by decide) (by decide)]; rfl
/-- The body's own buffers, written out. -/
theorem scoped0_eq (c : Dev nD) :
    (Pipeline.scopedRest (Ix := Unit) (Name := ℕ) (U := Pipeline.UD sig nD τ) (Lvl := ℕ) (Val := Elt F) (cfg0.spec) c : sProp 𝕄)
      = iprop(xP c vX ∗ xP c vSg ∗ xP c vSd ∗ xP c vWg ∗ xP c vWd ∗ xP c vXq ∗ xP c vHq ∗ xP c vA1 ∗ xP c vA2 ∗ xP c vH ∗ xP c vO ∗ xP c vXc ∗ xP c vXs ∗ xP c vHc ∗ xP c vHs) := scopedRest0_eq c

/-- The region's invariant, written out. -/
theorem PhiD_eq (c : Dev nD) : (Pipeline.ΦD osem0 (cfg0.spec) H0 (Vh m) c : sProp 𝕄)
    = iprop(iprop(xP c vX ∗ xP c vSg ∗ xP c vSd ∗ xP c vWg ∗ xP c vWd ∗ xP c vXq ∗ xP c vHq ∗ xP c vA1 ∗ xP c vA2 ∗ xP c vH ∗ xP c vO ∗ xP c vXc ∗ xP c vXs ∗ xP c vHc ∗ xP c vHs) ∗ (∃ r, prngReg c r)
        ∗ iprop(dP c 0 ∗ dP c 1 ∗ dP c 2 ∗ dP c 26 ∗ dP c 27 ∗ dP c 28 ∗ dP c 29 ∗ dP c 30 ∗ dP c 3 ∗ dP c 4 ∗ dP c 5 ∗ dP c 6 ∗ dP c 7 ∗ dP c 8 ∗ dP c 9 ∗ dP c 10 ∗ dP c 25 ∗ dP c 11 ∗ dP c 12 ∗ dP c 13 ∗ dP c 14 ∗ dP c 15 ∗ dP c 16 ∗ dP c 17 ∗ dP c 18 ∗ dP c 19 ∗ dP c 20 ∗ dP c 21 ∗ dP c 22 ∗ dP c 23 ∗ dP c 24)
        ∗ iprop(hP c mX (Vh m c main_v0) ∗ hP c mWg (Vh m c main_arg1) ∗ hP c mSg (Vh m c main_v1) ∗ hP c mWd (Vh m c main_arg3) ∗ hP c mSd (Vh m c main_v2))) := by
  rw [Pipeline.ΦD_eq, scoped0_eq, ownSems00_eq, hbmPts0_eq c (Vh m c)]

/-! ## Into the body and out of it -/

section Ends
variable (c : Dev nD)

/-- The body's run at the region's operands. -/
abbrev theRun : Run (F := F) c (Vh m c main_v0) (Vh m c main_arg1) (Vh m c main_v1) (Vh m c main_arg3) (Vh m c main_v2) :=
  bodyRun c (Vh m c main_v0) (Vh m c main_arg1) (Vh m c main_v1) (Vh m c main_arg3) (Vh m c main_v2)

/-- What the program leaves in its results: the body's results, at some contents of the buffers it overwrites. -/
def PG (W : (b : Ref sig .tc) → Buf (Elt F) ((c.tc : Thread nD τ).loc b)) : Prop :=
  ∃ (fvX : MBuf (F := F) c vX) (fvSg : MBuf (F := F) c vSg) (fvSd : MBuf (F := F) c vSd) (fvHq : MBuf (F := F) c vHq) (fvO : MBuf (F := F) c vO)
    (fvXc : MBuf (F := F) c vXc) (fvXs : MBuf (F := F) c vXs) (fvHc : MBuf (F := F) c vHc) (fvHs : MBuf (F := F) c vHs)
    (o0 : MBuf (F := F) c mO) (o1 : MBuf (F := F) c mXc) (o2 : MBuf (F := F) c mXs) (o3 : MBuf (F := F) c mHc) (o4 : MBuf (F := F) c mHs),
    W main_v3_0 = (theRun m c).1.1 fvX fvSg fvSd fvHq fvO o0 ∧ W main_v3_1 = (theRun m c).1.2.1 fvX fvXc o1
    ∧ W main_v3_2 = (theRun m c).1.2.2.1 fvX fvXs o2 ∧ W main_v3_3 = (theRun m c).1.2.2.2.1 fvX fvSg fvHc o3
    ∧ W main_v3_4 = (theRun m c).1.2.2.2.2 fvX fvSg fvHs o4

/-- The region's buffers with the results at given contents. -/
def upd5 (gO : MBuf (F := F) c mO) (gXc : MBuf (F := F) c mXc) (gXs : MBuf (F := F) c mXs) (gHc : MBuf (F := F) c mHc) (gHs : MBuf (F := F) c mHs) :
    (b : Ref sig .tc) → Buf (Elt F) ((c.tc : Thread nD τ).loc b) :=
  Function.update (Function.update (Function.update (Function.update (Function.update (Vh m c) main_v3_0 gO) main_v3_1 gXc) main_v3_2 gXs) main_v3_3 gHc) main_v3_4 gHs
section
variable (gO : MBuf (F := F) c mO) (gXc : MBuf (F := F) c mXc) (gXs : MBuf (F := F) c mXs) (gHc : MBuf (F := F) c mHc) (gHs : MBuf (F := F) c mHs)
/-- The output's contents. -/
theorem upd5_0 : upd5 m c gO gXc gXs gHc gHs main_v3_0 = gO := by
  unfold upd5
  rw [Function.update_of_ne (by decide), Function.update_of_ne (by decide), Function.update_of_ne (by decide), Function.update_of_ne (by decide), Function.update_self]
/-- The input's codes' contents. -/
theorem upd5_1 : upd5 m c gO gXc gXs gHc gHs main_v3_1 = gXc := by
  unfold upd5
  rw [Function.update_of_ne (by decide), Function.update_of_ne (by decide), Function.update_of_ne (by decide), Function.update_self]
/-- The input's scales' contents. -/
theorem upd5_2 : upd5 m c gO gXc gXs gHc gHs main_v3_2 = gXs := by
  unfold upd5
  rw [Function.update_of_ne (by decide), Function.update_of_ne (by decide), Function.update_self]
/-- The gated product's codes' contents. -/
theorem upd5_3 : upd5 m c gO gXc gXs gHc gHs main_v3_3 = gHc := by
  unfold upd5
  rw [Function.update_of_ne (by decide), Function.update_self]
/-- The gated product's scales' contents. -/
theorem upd5_4 : upd5 m c gO gXc gXs gHc gHs main_v3_4 = gHs := by
  unfold upd5
  rw [Function.update_self]
end

/-- From the region's invariant to what the body takes. -/
theorem enter : iprop(iprop(Pipeline.ΦD osem0 (cfg0.spec) H0 (Vh m) c ∗ Pipeline.routed R0 c (Vh m c)) ∗ (∃ W, owes (c : Thread nD τ) 0 W))
    ⊢ (iprop((∃ r, prngReg c r) ∗ PRE c (Vh m c main_v0) (Vh m c main_arg1) (Vh m c main_v1) (Vh m c main_arg3) (Vh m c main_v2)) : sProp 𝕄) := by
  rw [PhiD_eq, routed0_eq]
  iintro ⟨⟨⟨⟨vX, vSg, vSd, vWg, vWd, vXq, vHq, vA1, vA2, vH, vO, vXc, vXs, vHc, vHs⟩, HP, ⟨D0, D1, D2, D26, D27, D28, D29, D30, D3, D4, D5, D6, D7, D8, D9, D10, D25, D11, D12, D13, D14, D15, D16, D17, D18, D19, D20, D21, D22, D23, D24⟩, ⟨HX, HWG, HSG, HWD, HSD⟩⟩, ⟨O0, O1, O2, O3, O4⟩⟩, HW⟩
  isplitl [HP]; · iexact HP
  ihave HWG' := (Entails.of_eq (wg_split c (Vh m c main_arg1))) $$ HWG
  icases HWG' with ⟨B0, B1, B2, B3, B4, B5, B6, B7, Hrest⟩
  ihave HWD' := (Entails.of_eq (wd_all c (Vh m c main_arg3))) $$ HWD
  icases HWD' with ⟨HWDT, HWD⟩
  ihave HS := (vwg_split c) $$ vWg
  ihave HvWd := (vwd_split c) $$ vWd
  icases HvWd with ⟨HvT, HvW⟩
  isplitl [HX]; · iexact HX
  isplitl [HSG]; · iexact HSG
  isplitl [HSD]; · iexact HSD
  isplitl [Hrest]; · iexact Hrest
  isplitl [HWD HvW D11 D12 D13 D14 D15 D16 D17 D18 D19 D20 D21 D22 D23 D24]
  · irw [widle_all, wcells]
    isplitl [HWD]; · iexact HWD
    isplitl [HvW]; · iexact HvW
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    isplitl [D22]; · iexact D22
    isplitl [D23]; · iexact D23
    iexact D24
  isplitl [HWDT HvT D25]
  · unfold widleTP
    isplitl [HWDT]; · iexact HWDT
    isplitl [HvT]; · iexact HvT
    iexact D25
  isplitl [B0 B1 B2 B3 B4 B5 B6 B7]
  · skip
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HS]; · iexact HS
  isplitl [D3 D4 D5 D6 D7 D8 D9 D10]
  · skip
    isplitl [D3]; · iexact D3
    isplitl [D4]; · iexact D4
    isplitl [D5]; · iexact D5
    isplitl [D6]; · iexact D6
    isplitl [D7]; · iexact D7
    isplitl [D8]; · iexact D8
    isplitl [D9]; · iexact D9
    iexact D10
  isplitl [O0 O1 O2 O3 O4]
  · isplitl [O0]; · iexists _; iexact O0
    isplitl [O1]; · iexists _; iexact O1
    isplitl [O2]; · iexists _; iexact O2
    isplitl [O3]; · iexists _; iexact O3
    iexists _; iexact O4
  isplitl [vX vSg vSd vXq vHq vA1 vA2 vH vO vXc vXs vHc vHs]
  · skip
    isplitl [vX]; · iexact vX
    isplitl [vSg]; · iexact vSg
    isplitl [vSd]; · iexact vSd
    isplitl [vXq]; · iexact vXq
    isplitl [vHq]; · iexact vHq
    isplitl [vA1]; · iexact vA1
    isplitl [vA2]; · iexact vA2
    isplitl [vH]; · iexact vH
    isplitl [vO]; · iexact vO
    isplitl [vXc]; · iexact vXc
    isplitl [vXs]; · iexact vXs
    isplitl [vHc]; · iexact vHc
    iexact vHs
  isplitl [D0 D1 D2 D26 D27 D28 D29 D30]
  · skip
    isplitl [D0]; · iexact D0
    isplitl [D1]; · iexact D1
    isplitl [D2]; · iexact D2
    isplitl [D26]; · iexact D26
    isplitl [D27]; · iexact D27
    isplitl [D28]; · iexact D28
    isplitl [D29]; · iexact D29
    iexact D30
  iexact HW

/-- From what the body gives back to the region's invariant. -/
theorem leave (fvX : MBuf (F := F) c vX) (fvSg : MBuf (F := F) c vSg) (fvSd : MBuf (F := F) c vSd) (fvHq : MBuf (F := F) c vHq) (fvO : MBuf (F := F) c vO)
    (fvXc : MBuf (F := F) c vXc) (fvXs : MBuf (F := F) c vXs) (fvHc : MBuf (F := F) c vHc) (fvHs : MBuf (F := F) c vHs)
    (o0 : MBuf (F := F) c mO) (o1 : MBuf (F := F) c mXc) (o2 : MBuf (F := F) c mXs) (o3 : MBuf (F := F) c mHc) (o4 : MBuf (F := F) c mHs) :
    iprop((∃ r, prngReg c r) ∗ POST c (Vh m c main_v0) (Vh m c main_arg1) (Vh m c main_v1) (Vh m c main_arg3) (Vh m c main_v2)
        ((theRun m c).1.1 fvX fvSg fvSd fvHq fvO o0) ((theRun m c).1.2.1 fvX fvXc o1) ((theRun m c).1.2.2.1 fvX fvXs o2)
        ((theRun m c).1.2.2.2.1 fvX fvSg fvHc o3) ((theRun m c).1.2.2.2.2 fvX fvSg fvHs o4))
      ⊢ (iprop(iprop(Pipeline.ΦD osem0 (cfg0.spec) H0 (Vh m) c ∗ Pipeline.routedSat R0 c (PG m c)) ∗ (∃ W, owes (c : Thread nD τ) 0 W)) : sProp 𝕄) := by
  rw [PhiD_eq]
  generalize hgO : (theRun m c).1.1 fvX fvSg fvSd fvHq fvO o0 = gO
  generalize hgXc : (theRun m c).1.2.1 fvX fvXc o1 = gXc
  generalize hgXs : (theRun m c).1.2.2.1 fvX fvXs o2 = gXs
  generalize hgHc : (theRun m c).1.2.2.2.1 fvX fvSg fvHc o3 = gHc
  generalize hgHs : (theRun m c).1.2.2.2.2 fvX fvSg fvHs o4 = gHs
  have hPG : PG m c (upd5 m c gO gXc gXs gHc gHs) :=
    ⟨fvX, fvSg, fvSd, fvHq, fvO, fvXc, fvXs, fvHc, fvHs, o0, o1, o2, o3, o4, (upd5_0 ..).trans hgO.symm, (upd5_1 ..).trans hgXc.symm,
      (upd5_2 ..).trans hgXs.symm, (upd5_3 ..).trans hgHc.symm, (upd5_4 ..).trans hgHs.symm⟩
  clear hgO hgXc hgXs hgHc hgHs
  iintro ⟨HP, HX, HSG, HSD, Hrest, HD, HDT, HS, ⟨D3, D4, D5, D6, D7, D8, D9, D10⟩, ⟨O0, O1, O2, O3, O4⟩, ⟨vX, vSg, vSd, vXq, vHq, vA1, vA2, vH, vO, vXc, vXs, vHc, vHs⟩, ⟨D0, D1, D2, D26, D27, D28, D29, D30⟩, HW⟩
  ihave HDT' := (Entails.of_eq (show widleTP c (Vh m c main_arg3) = iprop(eP c winT (Vh m c main_arg3) ∗ (∃ f, eP c wslT f) ∗ dP c 25) from rfl)) $$ HDT
  icases HDT' with ⟨HWDT, HvT, D25⟩
  ihave HD' := (Entails.of_eq (widle_all c (Vh m c main_arg3))) $$ HD
  icases HD' with ⟨HWD, HvW, HC⟩
  ihave HC' := (Entails.of_eq (wcells c)) $$ HC
  icases HC' with ⟨D11, D12, D13, D14, D15, D16, D17, D18, D19, D20, D21, D22, D23, D24⟩
  ihave vWg := (vwg_join c) $$ HS
  ihave vWd := (vwd_join c) $$ [HvT HvW]
  · isplitl [HvT] <;> iassumption
  ihave HWG := (Entails.of_eq (wg_home c (Vh m c main_arg1))) $$ Hrest
  isplitr [HW]
  · isplitr [O0 O1 O2 O3 O4]
    · isplitl [vX vSg vSd vWg vWd vXq vHq vA1 vA2 vH vO vXc vXs vHc vHs]
      · skip
        isplitl [vX]; · iexact vX
        isplitl [vSg]; · iexact vSg
        isplitl [vSd]; · iexact vSd
        isplitl [vWg]; · iexact vWg
        isplitl [vWd]; · iexact vWd
        isplitl [vXq]; · iexact vXq
        isplitl [vHq]; · iexact vHq
        isplitl [vA1]; · iexact vA1
        isplitl [vA2]; · iexact vA2
        isplitl [vH]; · iexact vH
        isplitl [vO]; · iexact vO
        isplitl [vXc]; · iexact vXc
        isplitl [vXs]; · iexact vXs
        isplitl [vHc]; · iexact vHc
        iexact vHs
      isplitl [HP]; · iexact HP
      isplitl [D0 D1 D2 D26 D27 D28 D29 D30 D3 D4 D5 D6 D7 D8 D9 D10 D25 D11 D12 D13 D14 D15 D16 D17 D18 D19 D20 D21 D22 D23 D24]
      · skip
        isplitl [D0]; · iexact D0
        isplitl [D1]; · iexact D1
        isplitl [D2]; · iexact D2
        isplitl [D26]; · iexact D26
        isplitl [D27]; · iexact D27
        isplitl [D28]; · iexact D28
        isplitl [D29]; · iexact D29
        isplitl [D30]; · iexact D30
        isplitl [D3]; · iexact D3
        isplitl [D4]; · iexact D4
        isplitl [D5]; · iexact D5
        isplitl [D6]; · iexact D6
        isplitl [D7]; · iexact D7
        isplitl [D8]; · iexact D8
        isplitl [D9]; · iexact D9
        isplitl [D10]; · iexact D10
        isplitl [D25]; · iexact D25
        isplitl [D11]; · iexact D11
        isplitl [D12]; · iexact D12
        isplitl [D13]; · iexact D13
        isplitl [D14]; · iexact D14
        isplitl [D15]; · iexact D15
        isplitl [D16]; · iexact D16
        isplitl [D17]; · iexact D17
        isplitl [D18]; · iexact D18
        isplitl [D19]; · iexact D19
        isplitl [D20]; · iexact D20
        isplitl [D21]; · iexact D21
        isplitl [D22]; · iexact D22
        isplitl [D23]; · iexact D23
        iexact D24
      isplitl [HX]; · iexact HX
      isplitl [HWG]; · iexact HWG
      isplitl [HSG]; · iexact HSG
      isplitr [HSD]
      · irw [wd_all]
        isplitl [HWDT] <;> iassumption
      iexact HSD
    unfold Pipeline.routedSat
    iexists (upd5 m c gO gXc gXs gHc gHs)
    isplitr
    · ipureintro; exact hPG
    irw [routed0_eq, upd5_0, upd5_1, upd5_2, upd5_3, upd5_4]
    isplitl [O0]; · iexact O0
    isplitl [O1]; · iexact O1
    isplitl [O2]; · iexact O2
    isplitl [O3]; · iexact O3
    iexact O4
  iexact HW
end Ends

/-! ## The region -/

/-- The region's proof data: no windows; the invariant before the one point, and after it. -/
def dats (_ : Fin 1) (c : Dev nD) : Dat τ (Elt F) Unit ℕ (Pipeline.UD sig nD τ) ℕ cfg0 c where
  A w := w.elim0
  after w _ := w.elim0
  Φ t := if t.val = 0 then iprop(Pipeline.ΦD osem0 (cfg0.spec) H0 (Vh m) c ∗ Pipeline.routed R0 c (Vh m c))
    else iprop(Pipeline.ΦD osem0 (cfg0.spec) H0 (Vh m) c ∗ Pipeline.routedSat R0 c (PG m c))
  q _ := fullShare
  owed _ := 0

/-- The invariant before the one grid point. -/
theorem Phi_first (c : Dev nD) (t : Fin cfg0.N) : (dats m 0 c).Φ t.castSucc = iprop(Pipeline.ΦD osem0 (cfg0.spec) H0 (Vh m) c ∗ Pipeline.routed R0 c (Vh m c)) := by
  rw [fin_N0 t]; rfl
/-- The invariant after it: the results are those of the body's run. -/
theorem Phi_last (c : Dev nD) (t : Fin cfg0.N) : (dats m 0 c).Φ t.succ = iprop(Pipeline.ΦD osem0 (cfg0.spec) H0 (Vh m) c ∗ Pipeline.routedSat R0 c (PG m c)) := by
  rw [fin_N0 t]; rfl

/-- The body, from the invariant before its point to the one after. -/
theorem sound_body (c : Dev nD) (t : Fin cfg0.N) :
    iprop((dats m 0 c).Φ t.castSucc ∗ (dats m 0 c).owesAt () t.castSucc)
      ⊢ wp frame (wpE (defs₀ (F := F)) Variants.none (c : Thread nD τ) none) Set.univ (bodyG (F := F))
          (fun _ => iprop((dats m 0 c).Φ t.succ ∗ (dats m 0 c).owesAt () t.succ)) := by
  rw [Phi_first, Phi_last]
  unfold Dat.owesAt Pipeline.owesWithin
  rw [show (dats m 0 c).owed t.castSucc = 0 from rfl, show (dats m 0 c).owed t.succ = 0 from rfl]
  iintro ⟨HΦ, ⟨%W, -, HW⟩⟩
  ihave HE := (enter m c) $$ [HΦ HW]
  · isplitl [HΦ]; · iexact HΦ
    iexists W; iexact HW
  icases HE with ⟨HP, HE⟩
  iapply ((theRun m c).2 _)
  isplitl [HE]; · iexact HE
  iintro %fvX %fvSg %fvSd %fvHq %fvO %fvXc %fvXs %fvHc %fvHs %o0 %o1 %o2 %o3 %o4 HPOST
  ihave HL := (leave m c fvX fvSg fvSd fvHq fvO fvXc fvXs fvHc fvHs o0 o1 o2 o3 o4) $$ [HP HPOST]
  · isplitl [HP]; · iexact HP
    iexact HPOST
  icases HL with ⟨HΦ', ⟨%W', HW'⟩⟩
  isplitl [HΦ']; · iexact HΦ'
  iexists W'
  isplitr
  · ipureintro; exact fun _ _ => Or.inl trivial
  iexact HW'

/-- The body table's row is the body. -/
theorem defs₀_row (t : Fin cfg0.N) :
    defs₀ (F := F) .tc cfg0.body (cfg0.bodyArgs t (cfg0.slots t)) = bodyG (F := F) := by
  unfold defs₀; rw [Defs.onTc_tc]

/-- There are no windows, so a separating conjunction over them is empty. -/
theorem no_windows (Ψ : Fin cfg0.W → sProp 𝕄) : (BI.emp : sProp 𝕄) ⊢ bigSep Finset.univ Ψ := by
  rw [show (Finset.univ : Finset (Fin cfg0.W)) = ∅ from rfl, bigSep_empty]

/-- The body meets the region's obligation at the one grid point. -/
theorem body_obligation (c : Dev nD) : BodyObligation (dats (F := F) m 0 c) (defs₀ (F := F)) Variants.none () Set.univ := fun t => by
  rw [defs₀_row]
  refine triple_restated (sound_body m c t) rfl ?_ fun _ => ?_
  · iintro ⟨HΦ, HW, -⟩
    isplitl [HΦ] <;> iassumption
  · iintro ⟨HΦ, HW⟩
    isplitl [HΦ]; · iexact HΦ
    isplitl [HW]; · iexact HW
    iapply (no_windows _)
    iempintro

/-! ## The run -/

/-- What a run ends with: the arguments unchanged, the results those of the body's run, every counter at zero. -/
def EndPost (r : PUnit × MemSt nD τ sig (Elt F)) : Prop :=
  (∀ c : Dev nD, ∀ b ∈ Pipeline.restRefs sig (cfg0.spec) \ R0, r.2.mem ((c.tc : Thread nD τ).loc b) = Vh m c b)
  ∧ (∀ c : Dev nD, ∃ W : (b : Ref sig .tc) → Buf (Elt F) ((c.tc : Thread nD τ).loc b), PG m c W ∧ ∀ b ∈ R0, r.2.mem ((c.tc : Thread nD τ).loc b) = W b)
  ∧ r.2.sem = fun _ => 0

set_option backward.isDefEq.respectTransparency.types false in
theorem run_main : θ_run defs (onTc (τ := τ) (main (F := F))) (s₀ m ρ) (EndPost m) :=
  Cert.Sat.θ_run_frame_dmaRSat cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := Vh m) (hmain := hmain_ud m Variants.none) (hA := fun c w => w.elim0)
    (PG := fun c => PG m c) (hin := fun _ => .rfl) (hout := fun _ => .rfl)

/-- THE FRAME: the program runs to the end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0 (Finset.mem_sdiff.mpr ⟨Pipeline.mem_restRefs_of main_arg0 (by decide) (by decide), by decide⟩)).trans (V_main_arg0 m c),
      (h.1 c main_arg1 (Finset.mem_sdiff.mpr ⟨Pipeline.mem_restRefs_of main_arg1 (by decide) (by decide), by decide⟩)).trans (V_main_arg1 m c),
      (h.1 c main_arg2 (Finset.mem_sdiff.mpr ⟨Pipeline.mem_restRefs_of main_arg2 (by decide) (by decide), by decide⟩)).trans (V_main_arg2 m c),
      (h.1 c main_arg3 (Finset.mem_sdiff.mpr ⟨Pipeline.mem_restRefs_of main_arg3 (by decide) (by decide), by decide⟩)).trans (V_main_arg3 m c),
      (h.1 c main_arg4 (Finset.mem_sdiff.mpr ⟨Pipeline.mem_restRefs_of main_arg4 (by decide) (by decide), by decide⟩)).trans (V_main_arg4 m c)⟩, h.2.2⟩) (run_main m ρ)

end Cert.KernelIdeal.Hand

end
-- ==== Proof.V.Group.lean ====
/-
  The gated product, as the kernel computes it: 29 groups of 128 lanes. A group takes two neighbouring blocks of 128
  columns of the scaled first product, whose even columns are the gate's and whose odd ones the other factor's; lane `l`
  takes columns `2 l` and `2 l + 1` of the 256.
-/
module

public import proofs.«01_k».proof.Proof.KI.Body
public import Idealize.ShloMosaic.Lib.Pointwise
public import Idealize.ShloMosaic.Lib.WritesUnit

@[expose] public section

set_option maxRecDepth 16384

noncomputable section

namespace Cert.Value

open Idealize.ShloMosaic Idealize.SL.Sem Idealize.ShloMosaic.Pointwise Cert.KernelIdeal Cert.KernelIdeal.Gen Cert.KernelIdeal.Hand

/-! ## One group -/

/-- One group: of the two blocks `A`, `B`. -/
def grp {F : FTy → Type} [FloatOps F] (A B : FVec F S8x128 .f32) : FVec F S8x128 .f32 :=
  k0_pay62 B (iota .tc S8x128 32 [1] iota_S8x128_d1_w32) (k0_pay58 A B (iota .tc S8x128 32 [1] iota_S8x128_d1_w32) k0_pay56 128#32)
    (k0_pay59 k0_pay56 128#32) (k0_pay60 A k0_pay56 128#32) k0_pay61

/-- The gate's position: twice the lane, within a block. -/
theorem idx0 : ∀ (r : Fin 8) (l : Fin 128), k0_pay57 k0_pay56 128#32 (ix2 r l) = BitVec.ofNat 32 (2 * l.val % 128) := by decide +kernel
/-- The gate's position is not negative, so it is taken as it is. -/
theorem idx1 : ∀ (l : Fin 128), (Scalar.select (IntOp.cmpi CmpIPredicate.slt (BitVec.ofNat 32 (2 * l.val % 128)) 0#32)
   (IntOp.addi (BitVec.ofNat 32 (2 * l.val % 128)) 128#32) (BitVec.ofNat 32 (2 * l.val % 128))).toNat % 128 = 2 * l.val % 128 := by decide +kernel
/-- The other factor's: one more. -/
theorem idx2 : ∀ (l : Fin 128), (Scalar.select (IntOp.cmpi CmpIPredicate.slt (IntOp.addi (BitVec.ofNat 32 (2 * l.val % 128)) 1#32) 0#32)
   (IntOp.addi (IntOp.addi (BitVec.ofNat 32 (2 * l.val % 128)) 1#32) 128#32) (IntOp.addi (BitVec.ofNat 32 (2 * l.val % 128)) 1#32)).toNat % 128 = 2 * l.val % 128 + 1 := by decide +kernel
/-- The lower 64 lanes take the first block, the upper 64 the second. -/
theorem idx3 : ∀ (l : Fin 128), IntOp.cmpi CmpIPredicate.slt (BitVec.ofNat 32 l.val) 64#32 = if l.val < 64 then 1#1 else 0#1 := by decide +kernel

/-- The gated product of the columns `2 j`, `2 j + 1` of `V`. -/
def gated (V : S8x7424.Idx → EReal) (y : S8x3712.Idx) : EReal :=
  V (ix2 (y 0) ⟨2 * (y 1).val, by have h : (y 1).val < 3712 := (y 1).isLt; omega⟩)
    * Ideal.logistic (V (ix2 (y 0) ⟨2 * (y 1).val, by have h : (y 1).val < 3712 := (y 1).isLt; omega⟩))
    * V (ix2 (y 0) ⟨2 * (y 1).val + 1, by have h : (y 1).val < 3712 := (y 1).isLt; omega⟩)

/-- A group of the blocks `2 g`, `2 g + 1` of `V` is the gated product of `V` at columns `128 g …`. -/
theorem grp_hit (V : S8x7424.Idx → EReal) (g : ℕ) (hg : g < 29) (A B : FVec Ideal S8x128 .f32)
    (hA : ∀ (r : Fin 8) (l : Fin 128), (A (ix2 r l) : EReal) = V (ix2 r ⟨128 * (2 * g) + l.val, by omega⟩))
    (hB : ∀ (r : Fin 8) (l : Fin 128), (B (ix2 r l) : EReal) = V (ix2 r ⟨128 * (2 * g + 1) + l.val, by omega⟩))
    (y : S8x3712.Idx) (h : 128 * g ≤ (y 1).val ∧ (y 1).val < 128 * g + 128) :
    (grp A B (ix2 (y 0) ⟨(y 1).val - 128 * g, by omega⟩) : EReal) = gated V y := by
  have key : ∀ (r : Fin 8) (l : Fin 128), (grp A B (ix2 r l) : EReal)
      = V (ix2 r ⟨256 * g + 2 * l.val, by omega⟩) * Ideal.logistic (V (ix2 r ⟨256 * g + 2 * l.val, by omega⟩)) * V (ix2 r ⟨256 * g + 2 * l.val + 1, by omega⟩) := by
    intro r l
    pointwise [grp, k0_pay62, k0_pay58, k0_pay59, k0_pay60, k0_pay61, idx0, idx1, idx2, idx3]
    by_cases hl : l.val < 64
    · simp only [if_pos hl]
      have e1 : Scalar.select (1#1) (A (ix2 r ⟨2 * l.val % 128, Nat.mod_lt _ (by omega)⟩)) (B (ix2 r ⟨2 * l.val % 128, Nat.mod_lt _ (by omega)⟩)) = V (ix2 r ⟨256 * g + 2 * l.val, by omega⟩) := by
        refine (hA r _).trans (congrArg (fun k => V (ix2 r k)) (Fin.ext ?_)); show 128 * (2 * g) + 2 * l.val % 128 = 256 * g + 2 * l.val; omega
      have e2 : Scalar.select (1#1) (A (ix2 r ⟨2 * l.val % 128 + 1, by omega⟩)) (B (ix2 r ⟨2 * l.val % 128 + 1, by omega⟩)) = V (ix2 r ⟨256 * g + 2 * l.val + 1, by omega⟩) := by
        refine (hA r _).trans (congrArg (fun k => V (ix2 r k)) (Fin.ext ?_)); show 128 * (2 * g) + (2 * l.val % 128 + 1) = 256 * g + 2 * l.val + 1; omega
      exact congrArg₂ (· * ·) (congrArg₂ (· * ·) e1 (congrArg Ideal.logistic e1)) e2
    · simp only [if_neg hl]
      have e1 : Scalar.select (0#1) (A (ix2 r ⟨2 * l.val % 128, Nat.mod_lt _ (by omega)⟩)) (B (ix2 r ⟨2 * l.val % 128, Nat.mod_lt _ (by omega)⟩)) = V (ix2 r ⟨256 * g + 2 * l.val, by omega⟩) := by
        refine (hB r _).trans (congrArg (fun k => V (ix2 r k)) (Fin.ext ?_)); show 128 * (2 * g + 1) + 2 * l.val % 128 = 256 * g + 2 * l.val; omega
      have e2 : Scalar.select (0#1) (A (ix2 r ⟨2 * l.val % 128 + 1, by omega⟩)) (B (ix2 r ⟨2 * l.val % 128 + 1, by omega⟩)) = V (ix2 r ⟨256 * g + 2 * l.val + 1, by omega⟩) := by
        refine (hB r _).trans (congrArg (fun k => V (ix2 r k)) (Fin.ext ?_)); show 128 * (2 * g + 1) + (2 * l.val % 128 + 1) = 256 * g + 2 * l.val + 1; omega
      exact congrArg₂ (· * ·) (congrArg₂ (· * ·) e1 (congrArg Ideal.logistic e1)) e2
  refine (key (y 0) ⟨(y 1).val - 128 * g, by omega⟩).trans ?_
  have c0 : (ix2 (y 0) ⟨256 * g + 2 * ((y 1).val - 128 * g), by omega⟩ : S8x7424.Idx) = ix2 (y 0) ⟨2 * (y 1).val, by omega⟩ :=
    congrArg (fun k : Fin 7424 => (ix2 (y 0) k : S8x7424.Idx)) (Fin.ext (show 256 * g + 2 * ((y 1).val - 128 * g) = 2 * (y 1).val by omega))
  have c1 : (ix2 (y 0) ⟨256 * g + 2 * ((y 1).val - 128 * g) + 1, by omega⟩ : S8x7424.Idx) = ix2 (y 0) ⟨2 * (y 1).val + 1, by omega⟩ :=
    congrArg (fun k : Fin 7424 => (ix2 (y 0) k : S8x7424.Idx)) (Fin.ext (show 256 * g + 2 * ((y 1).val - 128 * g) + 1 = 2 * (y 1).val + 1 by omega))
  exact congrArg₂ (· * ·) (congrArg₂ (· * ·) (congrArg V c0) (congrArg (fun i => Ideal.logistic (V i)) c0)) (congrArg V c1)

/-- Reading at `y` a list of stores whose last is to columns `o …` of 128. -/
theorem col_cons {κ : Kind} {sp : Space} {e : EltTy} {sg : RefSig} (v : View sg κ sp S8x3712 e) (f : v.ty.Contents (Elt Ideal)) (o : ℕ)
    (inb : ∀ a, (![0, o] : Fin 2 → ℕ) a + S8x128.size a ≤ S8x3712.size a)
    (w : S8x128.Idx → Elt Ideal e) (L : List (View.Piece (Elt Ideal) S8x3712 e)) (y : S8x3712.Idx) (G : Elt Ideal e)
    (hit : ∀ h : o ≤ (y 1).val ∧ (y 1).val < o + 128, w (ix2 (y 0) ⟨(y 1).val - o, by omega⟩) = G)
    (miss : ¬ (o ≤ (y 1).val ∧ (y 1).val < o + 128) → v.read (Elt Ideal) (v.writes (Elt Ideal) f L) y = G) :
    v.read (Elt Ideal) (v.writes (Elt Ideal) f (⟨Rect.unit (s := S8x3712) ![0, o] S8x128.size inb, w⟩ :: L)) y = G := by
  by_cases h : o ≤ (y 1).val ∧ (y 1).val < o + 128
  · refine (View.read_writes_cons_unit_of_mem v f inb w L y (ix2 (y 0) ⟨(y 1).val - o, by omega⟩) rfl fun a => ?_).trans (hit h)
    fin_cases a
    · show (y 0).val = 0 + (y 0).val; omega
    · show (y 1).val = o + ((y 1).val - o); omega
  · refine (View.read_writes_cons_unit_of_not_mem v f inb w L y rfl 1 ?_).trans (miss h)
    show (y 1).val < o ∨ o + 128 ≤ (y 1).val
    omega

/-! ## The 29 groups are one function of their two blocks -/

section Pieces
variable {F : FTy → Type} [FloatOps F] (c : Dev nD) (X : MBuf (F := F) c mX) (WG : MBuf (F := F) c mWg) (SG : MBuf (F := F) c mSg) (fvX : MBuf (F := F) c vX) (fvSg : MBuf (F := F) c vSg)

/-- A row of the first weights' scales as the kernel reads it. -/
def sgRow (off : Fin S58x128.rank → ℕ) (inb : ∀ a, off a + S1x128.size a ≤ S58x128.size a) : Vec F S1x128 .f32 :=
  View.readAt (Elt F) vSg.view (Rect.unit (s := S58x128) off S1x128.size inb).toLoadRect (View.write (Elt F) vSg.view fvSg (bodyRun.sl.dma0_9 c SG) Finset.univ)

/-- Piece 0 of the gated product is one group of its two blocks, and the pieces before it. -/
theorem piece0 : bodyRun.sl.HvH_1 c X WG SG fvX fvSg = ⟨Rect.unit ![0, 0] S8x128.size inb_S8x3712_S8x128_0_0, grp
    (k0_pay54 (bodyRun.sl.v141 c X fvX) (bodyRun.sl.v409 c X WG fvX) (sgRow c SG fvSg ![0, 0] inb_S58x128_S1x128_0_0))
    (k0_pay54 (bodyRun.sl.v141 c X fvX) (bodyRun.sl.v415 c X WG fvX) (sgRow c SG fvSg ![1, 0] inb_S58x128_S1x128_1_0))⟩ :: [] := rfl

/-- Piece 1 of the gated product is one group of its two blocks, and the pieces before it. -/
theorem piece1 : bodyRun.sl.HvH_2 c X WG SG fvX fvSg = ⟨Rect.unit ![0, 128] S8x128.size inb_S8x3712_S8x128_0_128, grp
    (k0_pay54 (bodyRun.sl.v141 c X fvX) (bodyRun.sl.v486 c X WG fvX) (sgRow c SG fvSg ![2, 0] inb_S58x128_S1x128_2_0))
    (k0_pay54 (bodyRun.sl.v141 c X fvX) (bodyRun.sl.v492 c X WG fvX) (sgRow c SG fvSg ![3, 0] inb_S58x128_S1x128_3_0))⟩ :: bodyRun.sl.HvH_1 c X WG SG fvX fvSg := rfl

/-- Piece 2 of the gated product is one group of its two blocks, and the pieces before it. -/
theorem piece2 : bodyRun.sl.HvH_3 c X WG SG fvX fvSg = ⟨Rect.unit ![0, 256] S8x128.size inb_S8x3712_S8x128_0_256, grp
    (k0_pay54 (bodyRun.sl.v141 c X fvX) (bodyRun.sl.v563 c X WG fvX) (sgRow c SG fvSg ![4, 0] inb_S58x128_S1x128_4_0))
    (k0_pay54 (bodyRun.sl.v141 c X fvX) (bodyRun.sl.v569 c X WG fvX) (sgRow c SG fvSg ![5, 0] inb_S58x128_S1x128_5_0))⟩ :: bodyRun.sl.HvH_2 c X WG SG fvX fvSg := rfl

/-- Piece 3 of the gated product is one group of its two blocks, and the pieces before it. -/
theorem piece3 : bodyRun.sl.HvH_4 c X WG SG fvX fvSg = ⟨Rect.unit ![0, 384] S8x128.size inb_S8x3712_S8x128_0_384, grp
    (k0_pay54 (bodyRun.sl.v141 c X fvX) (bodyRun.sl.v640 c X WG fvX) (sgRow c SG fvSg ![6, 0] inb_S58x128_S1x128_6_0))
    (k0_pay54 (bodyRun.sl.v141 c X fvX) (bodyRun.sl.v646 c X WG fvX) (sgRow c SG fvSg ![7, 0] inb_S58x128_S1x128_7_0))⟩ :: bodyRun.sl.HvH_3 c X WG SG fvX fvSg := rfl

/-- Piece 4 of the gated product is one group of its two blocks, and the pieces before it. -/
theorem piece4 : bodyRun.sl.HvH_5 c X WG SG fvX fvSg = ⟨Rect.unit ![0, 512] S8x128.size inb_S8x3712_S8x128_0_512, grp
    (k0_pay54 (bodyRun.sl.v141 c X fvX) (bodyRun.sl.v717 c X WG fvX) (sgRow c SG fvSg ![8, 0] inb_S58x128_S1x128_8_0))
    (k0_pay54 (bodyRun.sl.v141 c X fvX) (bodyRun.sl.v723 c X WG fvX) (sgRow c SG fvSg ![9, 0] inb_S58x128_S1x128_9_0))⟩ :: bodyRun.sl.HvH_4 c X WG SG fvX fvSg := rfl

/-- Piece 5 of the gated product is one group of its two blocks, and the pieces before it. -/
theorem piece5 : bodyRun.sl.HvH_6 c X WG SG fvX fvSg = ⟨Rect.unit ![0, 640] S8x128.size inb_S8x3712_S8x128_0_640, grp
    (k0_pay54 (bodyRun.sl.v141 c X fvX) (bodyRun.sl.v794 c X WG fvX) (sgRow c SG fvSg ![10, 0] inb_S58x128_S1x128_10_0))
    (k0_pay54 (bodyRun.sl.v141 c X fvX) (bodyRun.sl.v800 c X WG fvX) (sgRow c SG fvSg ![11, 0] inb_S58x128_S1x128_11_0))⟩ :: bodyRun.sl.HvH_5 c X WG SG fvX fvSg := rfl

/-- Piece 6 of the gated product is one group of its two blocks, and the pieces before it. -/
theorem piece6 : bodyRun.sl.HvH_7 c X WG SG fvX fvSg = ⟨Rect.unit ![0, 768] S8x128.size inb_S8x3712_S8x128_0_768, grp
    (k0_pay54 (bodyRun.sl.v141 c X fvX) (bodyRun.sl.v871 c X WG fvX) (sgRow c SG fvSg ![12, 0] inb_S58x128_S1x128_12_0))
    (k0_pay54 (bodyRun.sl.v141 c X fvX) (bodyRun.sl.v877 c X WG fvX) (sgRow c SG fvSg ![13, 0] inb_S58x128_S1x128_13_0))⟩ :: bodyRun.sl.HvH_6 c X WG SG fvX fvSg := rfl

/-- Piece 7 of the gated product is one group of its two blocks, and the pieces before it. -/
theorem piece7 : bodyRun.sl.HvH_8 c X WG SG fvX fvSg = ⟨Rect.unit ![0, 896] S8x128.size inb_S8x3712_S8x128_0_896, grp
    (k0_pay54 (bodyRun.sl.v141 c X fvX) (bodyRun.sl.v c X WG fvX) (sgRow c SG fvSg ![14, 0] inb_S58x128_S1x128_14_0))
    (k0_pay54 (bodyRun.sl.v141 c X fvX) (bodyRun.sl.v954 c X WG fvX) (sgRow c SG fvSg ![15, 0] inb_S58x128_S1x128_15_0))⟩ :: bodyRun.sl.HvH_7 c X WG SG fvX fvSg := rfl

/-- Piece 8 of the gated product is one group of its two blocks, and the pieces before it. -/
theorem piece8 : bodyRun.sl.HvH_9 c X WG SG fvX fvSg = ⟨Rect.unit ![0, 1024] S8x128.size inb_S8x3712_S8x128_0_1024, grp
    (k0_pay54 (bodyRun.sl.v141 c X fvX) (bodyRun.sl.v1025 c X WG fvX) (sgRow c SG fvSg ![16, 0] inb_S58x128_S1x128_16_0))
    (k0_pay54 (bodyRun.sl.v141 c X fvX) (bodyRun.sl.v1031 c X WG fvX) (sgRow c SG fvSg ![17, 0] inb_S58x128_S1x128_17_0))⟩ :: bodyRun.sl.HvH_8 c X WG SG fvX fvSg := rfl

/-- Piece 9 of the gated product is one group of its two blocks, and the pieces before it. -/
theorem piece9 : bodyRun.sl.HvH_10 c X WG SG fvX fvSg = ⟨Rect.unit ![0, 1152] S8x128.size inb_S8x3712_S8x128_0_1152, grp
    (k0_pay54 (bodyRun.sl.v141 c X fvX) (bodyRun.sl.v1102 c X WG fvX) (sgRow c SG fvSg ![18, 0] inb_S58x128_S1x128_18_0))
    (k0_pay54 (bodyRun.sl.v141 c X fvX) (bodyRun.sl.v1108 c X WG fvX) (sgRow c SG fvSg ![19, 0] inb_S58x128_S1x128_19_0))⟩ :: bodyRun.sl.HvH_9 c X WG SG fvX fvSg := rfl

/-- Piece 10 of the gated product is one group of its two blocks, and the pieces before it. -/
theorem piece10 : bodyRun.sl.HvH_11 c X WG SG fvX fvSg = ⟨Rect.unit ![0, 1280] S8x128.size inb_S8x3712_S8x128_0_1280, grp
    (k0_pay54 (bodyRun.sl.v141 c X fvX) (bodyRun.sl.v1179 c X WG fvX) (sgRow c SG fvSg ![20, 0] inb_S58x128_S1x128_20_0))
    (k0_pay54 (bodyRun.sl.v141 c X fvX) (bodyRun.sl.v1185 c X WG fvX) (sgRow c SG fvSg ![21, 0] inb_S58x128_S1x128_21_0))⟩ :: bodyRun.sl.HvH_10 c X WG SG fvX fvSg := rfl

/-- Piece 11 of the gated product is one group of its two blocks, and the pieces before it. -/
theorem piece11 : bodyRun.sl.HvH_12 c X WG SG fvX fvSg = ⟨Rect.unit ![0, 1408] S8x128.size inb_S8x3712_S8x128_0_1408, grp
    (k0_pay54 (bodyRun.sl.v141 c X fvX) (bodyRun.sl.v1256 c X WG fvX) (sgRow c SG fvSg ![22, 0] inb_S58x128_S1x128_22_0))
    (k0_pay54 (bodyRun.sl.v141 c X fvX) (bodyRun.sl.v1262 c X WG fvX) (sgRow c SG fvSg ![23, 0] inb_S58x128_S1x128_23_0))⟩ :: bodyRun.sl.HvH_11 c X WG SG fvX fvSg := rfl

/-- Piece 12 of the gated product is one group of its two blocks, and the pieces before it. -/
theorem piece12 : bodyRun.sl.HvH_13 c X WG SG fvX fvSg = ⟨Rect.unit ![0, 1536] S8x128.size inb_S8x3712_S8x128_0_1536, grp
    (k0_pay54 (bodyRun.sl.v141 c X fvX) (bodyRun.sl.v1333 c X WG fvX) (sgRow c SG fvSg ![24, 0] inb_S58x128_S1x128_24_0))
    (k0_pay54 (bodyRun.sl.v141 c X fvX) (bodyRun.sl.v1339 c X WG fvX) (sgRow c SG fvSg ![25, 0] inb_S58x128_S1x128_25_0))⟩ :: bodyRun.sl.HvH_12 c X WG SG fvX fvSg := rfl

/-- Piece 13 of the gated product is one group of its two blocks, and the pieces before it. -/
theorem piece13 : bodyRun.sl.HvH_14 c X WG SG fvX fvSg = ⟨Rect.unit ![0, 1664] S8x128.size inb_S8x3712_S8x128_0_1664, grp
    (k0_pay54 (bodyRun.sl.v141 c X fvX) (bodyRun.sl.v1410 c X WG fvX) (sgRow c SG fvSg ![26, 0] inb_S58x128_S1x128_26_0))
    (k0_pay54 (bodyRun.sl.v141 c X fvX) (bodyRun.sl.v1416 c X WG fvX) (sgRow c SG fvSg ![27, 0] inb_S58x128_S1x128_27_0))⟩ :: bodyRun.sl.HvH_13 c X WG SG fvX fvSg := rfl

/-- Piece 14 of the gated product is one group of its two blocks, and the pieces before it. -/
theorem piece14 : bodyRun.sl.HvH_15 c X WG SG fvX fvSg = ⟨Rect.unit ![0, 1792] S8x128.size inb_S8x3712_S8x128_0_1792, grp
    (k0_pay54 (bodyRun.sl.v141 c X fvX) (bodyRun.sl.v1487 c X WG fvX) (sgRow c SG fvSg ![28, 0] inb_S58x128_S1x128_28_0))
    (k0_pay54 (bodyRun.sl.v141 c X fvX) (bodyRun.sl.v1493 c X WG fvX) (sgRow c SG fvSg ![29, 0] inb_S58x128_S1x128_29_0))⟩ :: bodyRun.sl.HvH_14 c X WG SG fvX fvSg := rfl

/-- Piece 15 of the gated product is one group of its two blocks, and the pieces before it. -/
theorem piece15 : bodyRun.sl.HvH_16 c X WG SG fvX fvSg = ⟨Rect.unit ![0, 1920] S8x128.size inb_S8x3712_S8x128_0_1920, grp
    (k0_pay54 (bodyRun.sl.v141 c X fvX) (bodyRun.sl.v1564 c X WG fvX) (sgRow c SG fvSg ![30, 0] inb_S58x128_S1x128_30_0))
    (k0_pay54 (bodyRun.sl.v141 c X fvX) (bodyRun.sl.v1570 c X WG fvX) (sgRow c SG fvSg ![31, 0] inb_S58x128_S1x128_31_0))⟩ :: bodyRun.sl.HvH_15 c X WG SG fvX fvSg := rfl

/-- Piece 16 of the gated product is one group of its two blocks, and the pieces before it. -/
theorem piece16 : bodyRun.sl.HvH_17 c X WG SG fvX fvSg = ⟨Rect.unit ![0, 2048] S8x128.size inb_S8x3712_S8x128_0_2048, grp
    (k0_pay54 (bodyRun.sl.v141 c X fvX) (bodyRun.sl.v1641 c X WG fvX) (sgRow c SG fvSg ![32, 0] inb_S58x128_S1x128_32_0))
    (k0_pay54 (bodyRun.sl.v141 c X fvX) (bodyRun.sl.v1647 c X WG fvX) (sgRow c SG fvSg ![33, 0] inb_S58x128_S1x128_33_0))⟩ :: bodyRun.sl.HvH_16 c X WG SG fvX fvSg := rfl

/-- Piece 17 of the gated product is one group of its two blocks, and the pieces before it. -/
theorem piece17 : bodyRun.sl.HvH_18 c X WG SG fvX fvSg = ⟨Rect.unit ![0, 2176] S8x128.size inb_S8x3712_S8x128_0_2176, grp
    (k0_pay54 (bodyRun.sl.v141 c X fvX) (bodyRun.sl.v1718 c X WG fvX) (sgRow c SG fvSg ![34, 0] inb_S58x128_S1x128_34_0))
    (k0_pay54 (bodyRun.sl.v141 c X fvX) (bodyRun.sl.v1724 c X WG fvX) (sgRow c SG fvSg ![35, 0] inb_S58x128_S1x128_35_0))⟩ :: bodyRun.sl.HvH_17 c X WG SG fvX fvSg := rfl

/-- Piece 18 of the gated product is one group of its two blocks, and the pieces before it. -/
theorem piece18 : bodyRun.sl.HvH_19 c X WG SG fvX fvSg = ⟨Rect.unit ![0, 2304] S8x128.size inb_S8x3712_S8x128_0_2304, grp
    (k0_pay54 (bodyRun.sl.v141 c X fvX) (bodyRun.sl.v1795 c X WG fvX) (sgRow c SG fvSg ![36, 0] inb_S58x128_S1x128_36_0))
    (k0_pay54 (bodyRun.sl.v141 c X fvX) (bodyRun.sl.v1801 c X WG fvX) (sgRow c SG fvSg ![37, 0] inb_S58x128_S1x128_37_0))⟩ :: bodyRun.sl.HvH_18 c X WG SG fvX fvSg := rfl

/-- Piece 19 of the gated product is one group of its two blocks, and the pieces before it. -/
theorem piece19 : bodyRun.sl.HvH_20 c X WG SG fvX fvSg = ⟨Rect.unit ![0, 2432] S8x128.size inb_S8x3712_S8x128_0_2432, grp
    (k0_pay54 (bodyRun.sl.v141 c X fvX) (bodyRun.sl.v1872 c X WG fvX) (sgRow c SG fvSg ![38, 0] inb_S58x128_S1x128_38_0))
    (k0_pay54 (bodyRun.sl.v141 c X fvX) (bodyRun.sl.v1878 c X WG fvX) (sgRow c SG fvSg ![39, 0] inb_S58x128_S1x128_39_0))⟩ :: bodyRun.sl.HvH_19 c X WG SG fvX fvSg := rfl

/-- Piece 20 of the gated product is one group of its two blocks, and the pieces before it. -/
theorem piece20 : bodyRun.sl.HvH_21 c X WG SG fvX fvSg = ⟨Rect.unit ![0, 2560] S8x128.size inb_S8x3712_S8x128_0_2560, grp
    (k0_pay54 (bodyRun.sl.v141 c X fvX) (bodyRun.sl.v1949 c X WG fvX) (sgRow c SG fvSg ![40, 0] inb_S58x128_S1x128_40_0))
    (k0_pay54 (bodyRun.sl.v141 c X fvX) (bodyRun.sl.v1955 c X WG fvX) (sgRow c SG fvSg ![41, 0] inb_S58x128_S1x128_41_0))⟩ :: bodyRun.sl.HvH_20 c X WG SG fvX fvSg := rfl

/-- Piece 21 of the gated product is one group of its two blocks, and the pieces before it. -/
theorem piece21 : bodyRun.sl.HvH_22 c X WG SG fvX fvSg = ⟨Rect.unit ![0, 2688] S8x128.size inb_S8x3712_S8x128_0_2688, grp
    (k0_pay54 (bodyRun.sl.v141 c X fvX) (bodyRun.sl.v2026 c X WG fvX) (sgRow c SG fvSg ![42, 0] inb_S58x128_S1x128_42_0))
    (k0_pay54 (bodyRun.sl.v141 c X fvX) (bodyRun.sl.v2032 c X WG fvX) (sgRow c SG fvSg ![43, 0] inb_S58x128_S1x128_43_0))⟩ :: bodyRun.sl.HvH_21 c X WG SG fvX fvSg := rfl

/-- Piece 22 of the gated product is one group of its two blocks, and the pieces before it. -/
theorem piece22 : bodyRun.sl.HvH_23 c X WG SG fvX fvSg = ⟨Rect.unit ![0, 2816] S8x128.size inb_S8x3712_S8x128_0_2816, grp
    (k0_pay54 (bodyRun.sl.v141 c X fvX) (bodyRun.sl.v2103 c X WG fvX) (sgRow c SG fvSg ![44, 0] inb_S58x128_S1x128_44_0))
    (k0_pay54 (bodyRun.sl.v141 c X fvX) (bodyRun.sl.v2109 c X WG fvX) (sgRow c SG fvSg ![45, 0] inb_S58x128_S1x128_45_0))⟩ :: bodyRun.sl.HvH_22 c X WG SG fvX fvSg := rfl

/-- Piece 23 of the gated product is one group of its two blocks, and the pieces before it. -/
theorem piece23 : bodyRun.sl.HvH_24 c X WG SG fvX fvSg = ⟨Rect.unit ![0, 2944] S8x128.size inb_S8x3712_S8x128_0_2944, grp
    (k0_pay54 (bodyRun.sl.v141 c X fvX) (bodyRun.sl.v2180 c X WG fvX) (sgRow c SG fvSg ![46, 0] inb_S58x128_S1x128_46_0))
    (k0_pay54 (bodyRun.sl.v141 c X fvX) (bodyRun.sl.v2186 c X WG fvX) (sgRow c SG fvSg ![47, 0] inb_S58x128_S1x128_47_0))⟩ :: bodyRun.sl.HvH_23 c X WG SG fvX fvSg := rfl

/-- Piece 24 of the gated product is one group of its two blocks, and the pieces before it. -/
theorem piece24 : bodyRun.sl.HvH_25 c X WG SG fvX fvSg = ⟨Rect.unit ![0, 3072] S8x128.size inb_S8x3712_S8x128_0_3072, grp
    (k0_pay54 (bodyRun.sl.v141 c X fvX) (bodyRun.sl.v2257 c X WG fvX) (sgRow c SG fvSg ![48, 0] inb_S58x128_S1x128_48_0))
    (k0_pay54 (bodyRun.sl.v141 c X fvX) (bodyRun.sl.v2263 c X WG fvX) (sgRow c SG fvSg ![49, 0] inb_S58x128_S1x128_49_0))⟩ :: bodyRun.sl.HvH_24 c X WG SG fvX fvSg := rfl

/-- Piece 25 of the gated product is one group of its two blocks, and the pieces before it. -/
theorem piece25 : bodyRun.sl.HvH_26 c X WG SG fvX fvSg = ⟨Rect.unit ![0, 3200] S8x128.size inb_S8x3712_S8x128_0_3200, grp
    (k0_pay54 (bodyRun.sl.v141 c X fvX) (bodyRun.sl.v2334 c X WG fvX) (sgRow c SG fvSg ![50, 0] inb_S58x128_S1x128_50_0))
    (k0_pay54 (bodyRun.sl.v141 c X fvX) (bodyRun.sl.v2340 c X WG fvX) (sgRow c SG fvSg ![51, 0] inb_S58x128_S1x128_51_0))⟩ :: bodyRun.sl.HvH_25 c X WG SG fvX fvSg := rfl

/-- Piece 26 of the gated product is one group of its two blocks, and the pieces before it. -/
theorem piece26 : bodyRun.sl.HvH_27 c X WG SG fvX fvSg = ⟨Rect.unit ![0, 3328] S8x128.size inb_S8x3712_S8x128_0_3328, grp
    (k0_pay54 (bodyRun.sl.v141 c X fvX) (bodyRun.sl.v2411 c X WG fvX) (sgRow c SG fvSg ![52, 0] inb_S58x128_S1x128_52_0))
    (k0_pay54 (bodyRun.sl.v141 c X fvX) (bodyRun.sl.v2417 c X WG fvX) (sgRow c SG fvSg ![53, 0] inb_S58x128_S1x128_53_0))⟩ :: bodyRun.sl.HvH_26 c X WG SG fvX fvSg := rfl

/-- Piece 27 of the gated product is one group of its two blocks, and the pieces before it. -/
theorem piece27 : bodyRun.sl.HvH_28 c X WG SG fvX fvSg = ⟨Rect.unit ![0, 3456] S8x128.size inb_S8x3712_S8x128_0_3456, grp
    (k0_pay54 (bodyRun.sl.v141 c X fvX) (bodyRun.sl.v2488 c X WG fvX) (sgRow c SG fvSg ![54, 0] inb_S58x128_S1x128_54_0))
    (k0_pay54 (bodyRun.sl.v141 c X fvX) (bodyRun.sl.v2494 c X WG fvX) (sgRow c SG fvSg ![55, 0] inb_S58x128_S1x128_55_0))⟩ :: bodyRun.sl.HvH_27 c X WG SG fvX fvSg := rfl

/-- Piece 28 of the gated product is one group of its two blocks, and the pieces before it. -/
theorem piece28 : bodyRun.sl.HvH_29 c X WG SG fvX fvSg = ⟨Rect.unit ![0, 3584] S8x128.size inb_S8x3712_S8x128_0_3584, grp
    (k0_pay54 (bodyRun.sl.v141 c X fvX) (bodyRun.sl.v2565 c X WG fvX) (sgRow c SG fvSg ![56, 0] inb_S58x128_S1x128_56_0))
    (k0_pay54 (bodyRun.sl.v141 c X fvX) (bodyRun.sl.v2571 c X WG fvX) (sgRow c SG fvSg ![57, 0] inb_S58x128_S1x128_57_0))⟩ :: bodyRun.sl.HvH_28 c X WG SG fvX fvSg := rfl

end Pieces

end Cert.Value

end
-- ==== Proof.V.Chunks.lean ====
/-
  The 32 chunks of the input's codes and the 14 chunks (and the shorter last one) of the gated product's codes, as the
  kernel stores them: chunk `k` holds columns `256 k …` of the eight rows, above 24 rows of zeros. And the kernel's two
  block products: each adds to the accumulator the product of the chunk's first eight rows with a block of the weights.
-/
module

public import proofs.«01_k».proof.Proof.Gen.KernelIdeal.Skeleton
public import Idealize.ShloMosaic.Lib.Pointwise

@[expose] public section

set_option maxRecDepth 16384

noncomputable section

namespace Cert.Value

open Idealize.ShloMosaic Cert.KernelIdeal Cert.KernelIdeal.Gen Idealize.ShloMosaic.Pointwise

/-- Chunk `k` of `q`, above 24 rows of zeros. -/
def chunkX (q : S8x8192.Idx → EReal) (k : Fin 32) : S1x32x256.Idx → EReal := fun j =>
  if h : (j 1).val < 8 then q (ix2 ⟨(j 1).val, h⟩ ⟨256 * k.val + (j 2).val, by
    have h1 := k.isLt; have h2 : (j 2).val < 256 := (j 2).isLt; omega⟩) else 0

/-- Chunk `k` of `q`, above 24 rows of zeros. -/
def chunkH (q : S8x3712.Idx → EReal) (k : Fin 14) : S1x32x256.Idx → EReal := fun j =>
  if h : (j 1).val < 8 then q (ix2 ⟨(j 1).val, h⟩ ⟨256 * k.val + (j 2).val, by
    have h1 := k.isLt; have h2 : (j 2).val < 256 := (j 2).isLt; omega⟩) else 0

/-- What is stored as chunk 0 of the gated product's codes. -/
theorem chH0 (q : FVec Ideal S8x3712 .f32) (j : S1x32x256.Idx) : (k0_pay278 (F := Ideal) q j : EReal) = chunkH (q) 0 j := by
  pointwise [k0_pay278, chunkH]

/-- What is stored as chunk 1 of the gated product's codes. -/
theorem chH1 (q : FVec Ideal S8x3712 .f32) (j : S1x32x256.Idx) : (k0_pay279 (F := Ideal) q j : EReal) = chunkH (q) 1 j := by
  pointwise [k0_pay279, chunkH]

/-- What is stored as chunk 2 of the gated product's codes. -/
theorem chH2 (q : FVec Ideal S8x3712 .f32) (j : S1x32x256.Idx) : (k0_pay280 (F := Ideal) q j : EReal) = chunkH (q) 2 j := by
  pointwise [k0_pay280, chunkH]

/-- What is stored as chunk 3 of the gated product's codes. -/
theorem chH3 (q : FVec Ideal S8x3712 .f32) (j : S1x32x256.Idx) : (k0_pay281 (F := Ideal) q j : EReal) = chunkH (q) 3 j := by
  pointwise [k0_pay281, chunkH]

/-- What is stored as chunk 4 of the gated product's codes. -/
theorem chH4 (q : FVec Ideal S8x3712 .f32) (j : S1x32x256.Idx) : (k0_pay283 (F := Ideal) (k0_pay282 (F := Ideal) q) j : EReal) = chunkH (q) 4 j := by
  pointwise [k0_pay283, k0_pay282, chunkH]

/-- What is stored as chunk 5 of the gated product's codes. -/
theorem chH5 (q : FVec Ideal S8x3712 .f32) (j : S1x32x256.Idx) : (k0_pay284 (F := Ideal) q j : EReal) = chunkH (q) 5 j := by
  pointwise [k0_pay284, chunkH]

/-- What is stored as chunk 6 of the gated product's codes. -/
theorem chH6 (q : FVec Ideal S8x3712 .f32) (j : S1x32x256.Idx) : (k0_pay285 (F := Ideal) q j : EReal) = chunkH (q) 6 j := by
  pointwise [k0_pay285, chunkH]

/-- What is stored as chunk 7 of the gated product's codes. -/
theorem chH7 (q : FVec Ideal S8x3712 .f32) (j : S1x32x256.Idx) : (k0_pay286 (F := Ideal) q j : EReal) = chunkH (q) 7 j := by
  pointwise [k0_pay286, chunkH]

/-- What is stored as chunk 8 of the gated product's codes. -/
theorem chH8 (q : FVec Ideal S8x3712 .f32) (j : S1x32x256.Idx) : (k0_pay287 (F := Ideal) q j : EReal) = chunkH (q) 8 j := by
  pointwise [k0_pay287, chunkH]

/-- What is stored as chunk 9 of the gated product's codes. -/
theorem chH9 (q : FVec Ideal S8x3712 .f32) (j : S1x32x256.Idx) : (k0_pay289 (F := Ideal) (k0_pay288 (F := Ideal) q) j : EReal) = chunkH (q) 9 j := by
  pointwise [k0_pay289, k0_pay288, chunkH]

/-- What is stored as chunk 10 of the gated product's codes. -/
theorem chH10 (q : FVec Ideal S8x3712 .f32) (j : S1x32x256.Idx) : (k0_pay290 (F := Ideal) q j : EReal) = chunkH (q) 10 j := by
  pointwise [k0_pay290, chunkH]

/-- What is stored as chunk 11 of the gated product's codes. -/
theorem chH11 (q : FVec Ideal S8x3712 .f32) (j : S1x32x256.Idx) : (k0_pay291 (F := Ideal) q j : EReal) = chunkH (q) 11 j := by
  pointwise [k0_pay291, chunkH]

/-- What is stored as chunk 12 of the gated product's codes. -/
theorem chH12 (q : FVec Ideal S8x3712 .f32) (j : S1x32x256.Idx) : (k0_pay292 (F := Ideal) q j : EReal) = chunkH (q) 12 j := by
  pointwise [k0_pay292, chunkH]

/-- What is stored as chunk 13 of the gated product's codes. -/
theorem chH13 (q : FVec Ideal S8x3712 .f32) (j : S1x32x256.Idx) : (k0_pay293 (F := Ideal) q j : EReal) = chunkH (q) 13 j := by
  pointwise [k0_pay293, chunkH]

/-- What is stored as chunk 0 of the input's codes. -/
theorem chX0 (v57 : FVec Ideal S8x8192 .f32) (v143 : IVec S8x1 32) (j : S1x32x256.Idx) : (k0_pay12 (F := Ideal) v57 v143 j : EReal) = chunkX (k0_pay10 (F := Ideal) v57 v143) 0 j := by
  pointwise [k0_pay12, chunkX]

/-- What is stored as chunk 1 of the input's codes. -/
theorem chX1 (v57 : FVec Ideal S8x8192 .f32) (v143 : IVec S8x1 32) (j : S1x32x256.Idx) : (k0_pay13 (F := Ideal) v57 v143 j : EReal) = chunkX (k0_pay10 (F := Ideal) v57 v143) 1 j := by
  pointwise [k0_pay13, chunkX]

/-- What is stored as chunk 2 of the input's codes. -/
theorem chX2 (v57 : FVec Ideal S8x8192 .f32) (v143 : IVec S8x1 32) (j : S1x32x256.Idx) : (k0_pay14 (F := Ideal) v57 v143 j : EReal) = chunkX (k0_pay10 (F := Ideal) v57 v143) 2 j := by
  pointwise [k0_pay14, chunkX]

/-- What is stored as chunk 3 of the input's codes. -/
theorem chX3 (v57 : FVec Ideal S8x8192 .f32) (v143 : IVec S8x1 32) (j : S1x32x256.Idx) : (k0_pay16 (F := Ideal) (k0_pay15 (F := Ideal) v57 v143) j : EReal) = chunkX (k0_pay10 (F := Ideal) v57 v143) 3 j := by
  pointwise [k0_pay16, k0_pay15, chunkX]

/-- What is stored as chunk 4 of the input's codes. -/
theorem chX4 (q : FVec Ideal S8x8192 .f32) (j : S1x32x256.Idx) : (k0_pay17 (F := Ideal) q j : EReal) = chunkX (q) 4 j := by
  pointwise [k0_pay17, chunkX]

/-- What is stored as chunk 5 of the input's codes. -/
theorem chX5 (q : FVec Ideal S8x8192 .f32) (j : S1x32x256.Idx) : (k0_pay18 (F := Ideal) q j : EReal) = chunkX (q) 5 j := by
  pointwise [k0_pay18, chunkX]

/-- What is stored as chunk 6 of the input's codes. -/
theorem chX6 (q : FVec Ideal S8x8192 .f32) (j : S1x32x256.Idx) : (k0_pay19 (F := Ideal) q j : EReal) = chunkX (q) 6 j := by
  pointwise [k0_pay19, chunkX]

/-- What is stored as chunk 7 of the input's codes. -/
theorem chX7 (q : FVec Ideal S8x8192 .f32) (j : S1x32x256.Idx) : (k0_pay20 (F := Ideal) q j : EReal) = chunkX (q) 7 j := by
  pointwise [k0_pay20, chunkX]

/-- What is stored as chunk 8 of the input's codes. -/
theorem chX8 (q : FVec Ideal S8x8192 .f32) (j : S1x32x256.Idx) : (k0_pay22 (F := Ideal) (k0_pay21 (F := Ideal) q) j : EReal) = chunkX (q) 8 j := by
  pointwise [k0_pay22, k0_pay21, chunkX]

/-- What is stored as chunk 9 of the input's codes. -/
theorem chX9 (q : FVec Ideal S8x8192 .f32) (j : S1x32x256.Idx) : (k0_pay23 (F := Ideal) q j : EReal) = chunkX (q) 9 j := by
  pointwise [k0_pay23, chunkX]

/-- What is stored as chunk 10 of the input's codes. -/
theorem chX10 (q : FVec Ideal S8x8192 .f32) (j : S1x32x256.Idx) : (k0_pay24 (F := Ideal) q j : EReal) = chunkX (q) 10 j := by
  pointwise [k0_pay24, chunkX]

/-- What is stored as chunk 11 of the input's codes. -/
theorem chX11 (q : FVec Ideal S8x8192 .f32) (j : S1x32x256.Idx) : (k0_pay25 (F := Ideal) q j : EReal) = chunkX (q) 11 j := by
  pointwise [k0_pay25, chunkX]

/-- What is stored as chunk 12 of the input's codes. -/
theorem chX12 (q : FVec Ideal S8x8192 .f32) (j : S1x32x256.Idx) : (k0_pay26 (F := Ideal) q j : EReal) = chunkX (q) 12 j := by
  pointwise [k0_pay26, chunkX]

/-- What is stored as chunk 13 of the input's codes. -/
theorem chX13 (q : FVec Ideal S8x8192 .f32) (j : S1x32x256.Idx) : (k0_pay28 (F := Ideal) (k0_pay27 (F := Ideal) q) j : EReal) = chunkX (q) 13 j := by
  pointwise [k0_pay28, k0_pay27, chunkX]

/-- What is stored as chunk 14 of the input's codes. -/
theorem chX14 (q : FVec Ideal S8x8192 .f32) (j : S1x32x256.Idx) : (k0_pay29 (F := Ideal) q j : EReal) = chunkX (q) 14 j := by
  pointwise [k0_pay29, chunkX]

/-- What is stored as chunk 15 of the input's codes. -/
theorem chX15 (q : FVec Ideal S8x8192 .f32) (j : S1x32x256.Idx) : (k0_pay30 (F := Ideal) q j : EReal) = chunkX (q) 15 j := by
  pointwise [k0_pay30, chunkX]

/-- What is stored as chunk 16 of the input's codes. -/
theorem chX16 (q : FVec Ideal S8x8192 .f32) (j : S1x32x256.Idx) : (k0_pay31 (F := Ideal) q j : EReal) = chunkX (q) 16 j := by
  pointwise [k0_pay31, chunkX]

/-- What is stored as chunk 17 of the input's codes. -/
theorem chX17 (q : FVec Ideal S8x8192 .f32) (j : S1x32x256.Idx) : (k0_pay32 (F := Ideal) q j : EReal) = chunkX (q) 17 j := by
  pointwise [k0_pay32, chunkX]

/-- What is stored as chunk 18 of the input's codes. -/
theorem chX18 (q : FVec Ideal S8x8192 .f32) (j : S1x32x256.Idx) : (k0_pay34 (F := Ideal) (k0_pay33 (F := Ideal) q) j : EReal) = chunkX (q) 18 j := by
  pointwise [k0_pay34, k0_pay33, chunkX]

/-- What is stored as chunk 19 of the input's codes. -/
theorem chX19 (q : FVec Ideal S8x8192 .f32) (j : S1x32x256.Idx) : (k0_pay35 (F := Ideal) q j : EReal) = chunkX (q) 19 j := by
  pointwise [k0_pay35, chunkX]

/-- What is stored as chunk 20 of the input's codes. -/
theorem chX20 (q : FVec Ideal S8x8192 .f32) (j : S1x32x256.Idx) : (k0_pay36 (F := Ideal) q j : EReal) = chunkX (q) 20 j := by
  pointwise [k0_pay36, chunkX]

/-- What is stored as chunk 21 of the input's codes. -/
theorem chX21 (q : FVec Ideal S8x8192 .f32) (j : S1x32x256.Idx) : (k0_pay37 (F := Ideal) q j : EReal) = chunkX (q) 21 j := by
  pointwise [k0_pay37, chunkX]

/-- What is stored as chunk 22 of the input's codes. -/
theorem chX22 (q : FVec Ideal S8x8192 .f32) (j : S1x32x256.Idx) : (k0_pay38 (F := Ideal) q j : EReal) = chunkX (q) 22 j := by
  pointwise [k0_pay38, chunkX]

/-- What is stored as chunk 23 of the input's codes. -/
theorem chX23 (q : FVec Ideal S8x8192 .f32) (j : S1x32x256.Idx) : (k0_pay40 (F := Ideal) (k0_pay39 (F := Ideal) q) j : EReal) = chunkX (q) 23 j := by
  pointwise [k0_pay40, k0_pay39, chunkX]

/-- What is stored as chunk 24 of the input's codes. -/
theorem chX24 (q : FVec Ideal S8x8192 .f32) (j : S1x32x256.Idx) : (k0_pay41 (F := Ideal) q j : EReal) = chunkX (q) 24 j := by
  pointwise [k0_pay41, chunkX]

/-- What is stored as chunk 25 of the input's codes. -/
theorem chX25 (q : FVec Ideal S8x8192 .f32) (j : S1x32x256.Idx) : (k0_pay42 (F := Ideal) q j : EReal) = chunkX (q) 25 j := by
  pointwise [k0_pay42, chunkX]

/-- What is stored as chunk 26 of the input's codes. -/
theorem chX26 (q : FVec Ideal S8x8192 .f32) (j : S1x32x256.Idx) : (k0_pay43 (F := Ideal) q j : EReal) = chunkX (q) 26 j := by
  pointwise [k0_pay43, chunkX]

/-- What is stored as chunk 27 of the input's codes. -/
theorem chX27 (q : FVec Ideal S8x8192 .f32) (j : S1x32x256.Idx) : (k0_pay44 (F := Ideal) q j : EReal) = chunkX (q) 27 j := by
  pointwise [k0_pay44, chunkX]

/-- What is stored as chunk 28 of the input's codes. -/
theorem chX28 (q : FVec Ideal S8x8192 .f32) (j : S1x32x256.Idx) : (k0_pay46 (F := Ideal) (k0_pay45 (F := Ideal) q) j : EReal) = chunkX (q) 28 j := by
  pointwise [k0_pay46, k0_pay45, chunkX]

/-- What is stored as chunk 29 of the input's codes. -/
theorem chX29 (q : FVec Ideal S8x8192 .f32) (j : S1x32x256.Idx) : (k0_pay47 (F := Ideal) q j : EReal) = chunkX (q) 29 j := by
  pointwise [k0_pay47, chunkX]

/-- What is stored as chunk 30 of the input's codes. -/
theorem chX30 (q : FVec Ideal S8x8192 .f32) (j : S1x32x256.Idx) : (k0_pay48 (F := Ideal) q j : EReal) = chunkX (q) 30 j := by
  pointwise [k0_pay48, chunkX]

/-- What is stored as chunk 31 of the input's codes. -/
theorem chX31 (q : FVec Ideal S8x8192 .f32) (j : S1x32x256.Idx) : (k0_pay49 (F := Ideal) q j : EReal) = chunkX (q) 31 j := by
  pointwise [k0_pay49, chunkX]

/-- The last chunk of the gated product's codes: its 128 columns from 3584, above 24 rows of zeros. -/
theorem chT (q : FVec Ideal S8x3712 .f32) (r : Fin 8) (l : Fin 128) :
    (k0_pay294 (F := Ideal) q (ix2 ⟨r.val, by omega⟩ l) : EReal) = q (ix2 r ⟨3584 + l.val, by omega⟩) := by
  pointwise [k0_pay294]

/-- One trip of the first loop: the chunk's row times the block's column is added. -/
theorem mm1 (A : Vec Ideal S8x7424 .f32) (xq : Vec Ideal S1x32x256 .fp8e4m3) (w : Vec Ideal S1x256x7424 .fp8e4m3) (j : S8x7424.Idx) :
    (k0_pay53 (F := Ideal) A xq w j : EReal)
      = A j + ∑ l : Fin 256, (xq (ix3 0 ⟨(j 0).val, by have h : (j 0).val < 8 := (j 0).isLt; omega⟩ l) * w (ix3 0 l (j 1)) : EReal) := by
  pointwise [k0_pay53]

/-- One trip of the second loop. -/
theorem mm2 (w : Vec Ideal S256x8192 .fp8e4m3) (A : Vec Ideal S8x8192 .f32) (xq : Vec Ideal S1x32x256 .fp8e4m3) (j : S8x8192.Idx) :
    (k0_pay297 (F := Ideal) w A xq j : EReal)
      = A j + ∑ l : Fin 256, (xq (ix3 0 ⟨(j 0).val, by have h : (j 0).val < 8 := (j 0).isLt; omega⟩ l) * w (ix2 l (j 1)) : EReal) := by
  pointwise [k0_pay297]

/-- The last product and the output's scaling. -/
theorem mmT (s : FVec Ideal S8x1 .f32) (xq : FVec Ideal S32x128 .fp8e4m3) (w : Vec Ideal S128x8192 .fp8e4m3) (A : Vec Ideal S8x8192 .f32) (d : Vec Ideal S1x8192 .f32) (j : S8x8192.Idx) :
    (k0_pay1 (F := Ideal) s xq w A d j : EReal)
      = (A j + ∑ l : Fin 128, (xq (ix2 ⟨(j 0).val, by have h : (j 0).val < 8 := (j 0).isLt; omega⟩ l) * w (ix2 l (j 1)) : EReal)) * s (ix2 (j 0) 0) * d (ix2 0 (j 1)) := by
  pointwise [k0_pay1]

end Cert.Value

end
-- ==== Proof.V.Mem.lean ====
/-
  What the two loops leave in the accumulators: each holds the whole product of the codes with the weights, the loops'
  trips being the blocks of 256 rows of the weights.
-/
module

public import proofs.«01_k».proof.Proof.KI.Loop2
public import proofs.«01_k».proof.Proof.V.Chunks
public import Idealize.ShloMosaic.Lib.Pointwise
public import Idealize.ShloMosaic.Lib.WritesUnit
public import Idealize.ShloMosaic.Lib.VecWindow

@[expose] public section

set_option maxRecDepth 16384

noncomputable section

namespace Cert.Value

open Idealize.ShloMosaic Cert.KernelIdeal Cert.KernelIdeal.Gen Cert.KernelIdeal.Hand Idealize.ShloMosaic.Pointwise Idealize.SL.Sem

/-! ## Reading a list of stored tiles -/

/-- Reading at `y` a list of stores whose last is to rows `k` of the first axis: that store's value if `y` is in row `k`,
    and the rest of the list otherwise. -/
theorem tile_cons {κ : Kind} {sp : Space} {n : ℕ} {e : EltTy} {sg : RefSig} (v : View sg κ sp ⟨3, ![n, 32, 256]⟩ e) (f : v.ty.Contents (Elt Ideal)) (k : ℕ)
    (inb : ∀ a, (![k, 0, 0] : Fin 3 → ℕ) a + S1x32x256.size a ≤ (![n, 32, 256] : Fin 3 → ℕ) a)
    (w : S1x32x256.Idx → Elt Ideal e) (L : List (View.Piece (Elt Ideal) ⟨3, ![n, 32, 256]⟩ e))
    (y : (⟨3, ![n, 32, 256]⟩ : Shape).Idx) (G : Elt Ideal e)
    (hit : (y 0).val = k → w (ix3 0 (y 1) (y 2)) = G) (miss : (y 0).val ≠ k → v.read (Elt Ideal) (v.writes (Elt Ideal) f L) y = G) :
    v.read (Elt Ideal) (v.writes (Elt Ideal) f (⟨Rect.unit (s := ⟨3, ![n, 32, 256]⟩) ![k, 0, 0] S1x32x256.size inb, w⟩ :: L)) y = G := by
  by_cases h : (y 0).val = k
  · refine (View.read_writes_cons_unit_of_mem v f inb w L y (ix3 0 (y 1) (y 2)) rfl fun a => ?_).trans (hit h)
    fin_cases a
    · show (y 0).val = k + 0; omega
    · show (y 1).val = 0 + (y 1).val; omega
    · show (y 2).val = 0 + (y 2).val; omega
  · refine (View.read_writes_cons_unit_of_not_mem v f inb w L y rfl 0 ?_).trans (miss h)
    show (y 0).val < k ∨ k + 1 ≤ (y 0).val
    omega

/-! ## The blocks of the weights, as the trips read them -/

section Blocks
variable (c : Dev nD) (WG : MBuf (F := Ideal) c mWg) (WD : MBuf (F := Ideal) c mWd)

/-- A slot read through the ring at its own rectangle. -/
theorem slot_read {off : Fin 3 → ℕ} {s : Fin 8} (e : off = slotOff s) (inb) (G : MBuf (F := Ideal) c vWg) (l : Fin 256) (j : Fin 7424) :
    View.readAt (Elt Ideal) vWg.view (Rect.unit (s := S8x256x7424) off S1x256x7424.size inb).toLoadRect G (ix3 0 l j)
      = View.read (Elt Ideal) (slt s).view G (ix2 l j) := by
  subst e
  have h : Shape.reshapeEquiv squeezes_S1x256x7424_S256x7424.numel_eq (ix2 l j : S256x7424.Idx) = (ix3 0 l j : S1x256x7424.Idx) := by
    pointwise
  show vWg.view.read (Elt Ideal) G _ = vWg.view.read (Elt Ideal) G ((Rect.unit (s := S8x256x7424) (slotOff s) S1x256x7424.size inb).emb (Shape.reshapeEquiv squeezes_S1x256x7424_S256x7424.numel_eq (ix2 l j : S256x7424.Idx)))
  rw [h]
  rfl

/-- Block `k` as trip `k` reads it: rows `256 k …` of the first weights. -/
theorem wrd1_eq (k : Fin k0_t1_loop.trips) (l : Fin 256) (j : Fin 7424) :
    (wrd1 c WG k (ix3 0 l j) : EReal) = WG (ix2 ⟨256 * k.val + l.val, by have := lt1 k; omega⟩ j) := by
  refine (slot_read c (off5_eq k) _ _ l j).trans ?_
  refine (congrFun (View.read_writes_whole (slt (Ring.sl 8 k.val)).view _ _) (ix2 l j)).trans ?_
  show WG ((Rect.unit (s := S8192x7424) (blkOff (Ring.bk 32 k.val)) S256x7424.size (blkOff_inb _)).emb (ix2 l j)) = _
  refine congrArg WG (funext fun a => Fin.ext ?_)
  have hb : (Ring.bk 32 k.val).val = k.val := Ring.bk_val (lt1 k)
  fin_cases a
  · show 256 * (Ring.bk 32 k.val).val + 1 * l.val = 256 * k.val + l.val; omega
  · show 0 + 1 * j.val = j.val; omega

/-- A window's slice of the local copy, read. -/
theorem win_read {off : Fin 2 → ℕ} {i : Fin 14} (e : off = winOff i) (inb) (G : MBuf (F := Ideal) c vWd) (x : S256x8192.Idx) :
    View.readAt (Elt Ideal) vWd.view (Rect.unit (s := S3712x8192) off S256x8192.size inb).toLoadRect G x
      = View.read (Elt Ideal) (wsl i).view G x := by
  subst e; rfl

/-- Window `k` as trip `k` reads it: rows `256 k …` of the second weights. -/
theorem wrd2_eq (k : Fin k0_t2_loop.trips) (l : Fin 256) (j : Fin 8192) :
    (wrd2 c WD k (ix2 l j) : EReal) = WD (ix2 ⟨256 * k.val + l.val, by have := lt2 k; omega⟩ j) := by
  refine (win_read c (off11_eq k) _ _ (ix2 l j)).trans ?_
  refine (congrFun (View.read_writes_whole (wsl (Ring.bk 14 k.val)).view _ _) (ix2 l j)).trans ?_
  show WD ((Rect.unit (s := S3712x8192) (winOff (Ring.bk 14 k.val)) S256x8192.size (winOff_inb _)).emb (ix2 l j)) = _
  refine congrArg WD (funext fun a => Fin.ext ?_)
  have hb : (Ring.bk 14 k.val).val = k.val := Ring.bk_val (lt2 k)
  fin_cases a
  · show 256 * (Ring.bk 14 k.val).val + 1 * l.val = 256 * k.val + l.val; omega
  · show 0 + 1 * j.val = j.val; omega

/-- The last, shorter window as read after its copy: rows `3584 …` of the second weights. -/
theorem wrdT_eq (l : Fin 128) (j : Fin 8192) :
    (View.readAt (Elt Ideal) vWd.view (Rect.unit (s := S3712x8192) ![3584, 0] S128x8192.size inb_S3712x8192_S128x8192_3584_0).toLoadRect
      (wlandedT c WD wslT.view.junk) (ix2 l j) : EReal) = WD (ix2 ⟨3584 + l.val, by omega⟩ j) := by
  show View.read (Elt Ideal) wslT.view (wlandedT c WD wslT.view.junk) (ix2 l j) = _
  refine (congrFun (View.read_writes_whole wslT.view _ _) (ix2 l j)).trans ?_
  show WD ((Rect.unit (s := S3712x8192) tailOff S128x8192.size inb_S3712x8192_S128x8192_3584_0).emb (ix2 l j)) = _
  refine congrArg WD (funext fun a => Fin.ext ?_)
  fin_cases a
  · show 3584 + 1 * l.val = 3584 + l.val; omega
  · show 0 + 1 * j.val = j.val; omega

end Blocks

/-! ## The accumulators after the loops -/

section Acc
variable (c : Dev nD) (WG : MBuf (F := Ideal) c mWg) (WD : MBuf (F := Ideal) c mWd)

/-- What trip `k` of the first loop adds. -/
def term1 (q : S8x8192.Idx → EReal) (j : S8x7424.Idx) (k : ℕ) : EReal :=
  if h : k < 32 then ∑ l : Fin 256, q (ix2 (j 0) ⟨k * 256 + l.val, by omega⟩) * WG (ix2 ⟨k * 256 + l.val, by omega⟩ (j 1)) else 0

/-- The first accumulator before trip `n`. -/
theorem acc1_read (q : S8x8192.Idx → EReal) (XQ : MBuf (F := Ideal) c vXq) (A0 : MBuf (F := Ideal) c vA1)
    (hq : ∀ y : S32x32x256.Idx, (View.read (Elt Ideal) vXq.view XQ y : EReal) = chunkX q (y 0) (ix3 0 (y 1) (y 2)))
    (h0 : ∀ j, (View.read (Elt Ideal) vA1.view A0 j : EReal) = 0) (j : S8x7424.Idx) :
    ∀ n : ℕ, n ≤ 32 → (View.read (Elt Ideal) vA1.view (acc1 c WG XQ A0 n) j : EReal) = ∑ k ∈ Finset.range n, term1 c WG q j k
  | 0, _ => by rw [Finset.sum_range_zero]; exact h0 j
  | n + 1, hn => by
    have ih := acc1_read q XQ A0 hq h0 j n (by omega)
    have ht : n < k0_t1_loop.trips := by rw [trips1]; omega
    rw [Finset.sum_range_succ, ← ih, show acc1 c WG XQ A0 (n + 1) = upd1 c WG XQ ⟨n, ht⟩ (acc1 c WG XQ A0 n) from acc1_succ c WG XQ A0 ⟨n, ht⟩]
    refine (congrFun (View.read_writes_full vA1.view _ _ _ []) j).trans ?_
    refine (mm1 _ _ _ j).trans ?_
    rw [term1, dif_pos (show n < 32 by omega)]
    refine congrArg₂ (· + ·) (congrFun (View.readAt_full vA1.view _ _) j) (Finset.sum_congr rfl fun l _ => ?_)
    refine congrArg₂ (· * ·) ?_ ?_
    · rw [xrd1, View.readAt_apply]
      have e : (Rect.unit (s := S32x32x256) (k0_off4 ⟨n, ht⟩) S1x32x256.size (k0_off4_inb ⟨n, ht⟩)).toLoadRect.idx (ix3 0 ⟨(j 0).val, by have h : (j 0).val < 8 := (j 0).isLt; omega⟩ l)
          = (ix3 ⟨n, by omega⟩ ⟨(j 0).val, by have h : (j 0).val < 8 := (j 0).isLt; omega⟩ l : S32x32x256.Idx) := funext fun a => Fin.ext (by
        have ho := off4_eq ⟨n, ht⟩
        refine (congrArg (· + 1 * _) (congrFun ho a)).trans ?_
        fin_cases a
        · show n + 1 * 0 = n; omega
        · show 0 + 1 * (j 0).val = (j 0).val; omega
        · show 0 + 1 * l.val = l.val; omega)
      rw [e, hq]
      show chunkX q ⟨n, _⟩ (ix3 0 ⟨(j 0).val, _⟩ l) = _
      unfold chunkX
      refine (dif_pos (show (j 0).val < 8 from (j 0).isLt)).trans ?_
      refine congrArg q (funext fun a => Fin.ext ?_)
      fin_cases a
      · rfl
      · show 256 * n + l.val = n * 256 + l.val; omega
    · refine (wrd1_eq c WG ⟨n, ht⟩ l (j 1)).trans (congrArg WG (funext fun a => Fin.ext ?_))
      fin_cases a
      · show 256 * n + l.val = n * 256 + l.val; omega
      · rfl

/-- The first accumulator after the loop: the whole product. -/
theorem acc1_all (q : S8x8192.Idx → EReal) (XQ : MBuf (F := Ideal) c vXq) (A0 : MBuf (F := Ideal) c vA1)
    (hq : ∀ y : S32x32x256.Idx, (View.read (Elt Ideal) vXq.view XQ y : EReal) = chunkX q (y 0) (ix3 0 (y 1) (y 2)))
    (h0 : ∀ j, (View.read (Elt Ideal) vA1.view A0 j : EReal) = 0) (j : S8x7424.Idx) :
    (View.read (Elt Ideal) vA1.view (acc1 c WG XQ A0 32) j : EReal) = ∑ k : Fin 8192, q (ix2 (j 0) k) * WG (ix2 k (j 1)) := by
  rw [acc1_read c WG q XQ A0 hq h0 j 32 le_rfl, Finset.sum_range, Fin.sum_univ_tiles 32 256 rfl]
  refine Finset.sum_congr rfl fun k _ => ?_
  rw [term1, dif_pos k.isLt]

/-- What trip `k` of the second loop adds. -/
def term2 (q : S8x3712.Idx → EReal) (j : S8x8192.Idx) (k : ℕ) : EReal :=
  if h : k < 14 then ∑ l : Fin 256, q (ix2 (j 0) ⟨k * 256 + l.val, by omega⟩) * WD (ix2 ⟨k * 256 + l.val, by omega⟩ (j 1)) else 0

/-- The second accumulator before trip `n`. -/
theorem acc2_read (q : S8x3712.Idx → EReal) (HQ : MBuf (F := Ideal) c vHq) (A0 : MBuf (F := Ideal) c vA2)
    (hq : ∀ (y : S15x32x256.Idx) (h : (y 0).val < 14), (View.read (Elt Ideal) vHq.view HQ y : EReal) = chunkH q ⟨(y 0).val, h⟩ (ix3 0 (y 1) (y 2)))
    (h0 : ∀ j, (View.read (Elt Ideal) vA2.view A0 j : EReal) = 0) (j : S8x8192.Idx) :
    ∀ n : ℕ, n ≤ 14 → (View.read (Elt Ideal) vA2.view (acc2 c WD HQ A0 n) j : EReal) = ∑ k ∈ Finset.range n, term2 c WD q j k
  | 0, _ => by rw [Finset.sum_range_zero]; exact h0 j
  | n + 1, hn => by
    have ih := acc2_read q HQ A0 hq h0 j n (by omega)
    have ht : n < k0_t2_loop.trips := by rw [trips2]; omega
    rw [Finset.sum_range_succ, ← ih, show acc2 c WD HQ A0 (n + 1) = upd2 c WD HQ ⟨n, ht⟩ (acc2 c WD HQ A0 n) from acc2_succ c WD HQ A0 ⟨n, ht⟩]
    refine (congrFun (View.read_writes_full vA2.view _ _ _ []) j).trans ?_
    refine (mm2 _ _ _ j).trans ?_
    rw [term2, dif_pos (show n < 14 by omega)]
    refine congrArg₂ (· + ·) (congrFun (View.readAt_full vA2.view _ _) j) (Finset.sum_congr rfl fun l _ => ?_)
    refine congrArg₂ (· * ·) ?_ ?_
    · rw [xrd2, View.readAt_apply]
      have e : (Rect.unit (s := S15x32x256) (k0_off12 ⟨n, ht⟩) S1x32x256.size (k0_off12_inb ⟨n, ht⟩)).toLoadRect.idx (ix3 0 ⟨(j 0).val, by have h : (j 0).val < 8 := (j 0).isLt; omega⟩ l)
          = (ix3 ⟨n, by omega⟩ ⟨(j 0).val, by have h : (j 0).val < 8 := (j 0).isLt; omega⟩ l : S15x32x256.Idx) := funext fun a => Fin.ext (by
        have ho := off12_eq ⟨n, ht⟩
        refine (congrArg (· + 1 * _) (congrFun ho a)).trans ?_
        fin_cases a
        · show n + 1 * 0 = n; omega
        · show 0 + 1 * (j 0).val = (j 0).val; omega
        · show 0 + 1 * l.val = l.val; omega)
      rw [e, hq _ (show n < 14 by omega)]
      show chunkH q ⟨n, _⟩ (ix3 0 ⟨(j 0).val, _⟩ l) = _
      unfold chunkH
      refine (dif_pos (show (j 0).val < 8 from (j 0).isLt)).trans ?_
      refine congrArg q (funext fun a => Fin.ext ?_)
      fin_cases a
      · rfl
      · show 256 * n + l.val = n * 256 + l.val; omega
    · refine (wrd2_eq c WD ⟨n, ht⟩ l (j 1)).trans (congrArg WD (funext fun a => Fin.ext ?_))
      fin_cases a
      · show 256 * n + l.val = n * 256 + l.val; omega
      · rfl

/-- The second accumulator after the loop and the last, shorter block: the whole product. -/
theorem acc2_all (q : S8x3712.Idx → EReal) (HQ : MBuf (F := Ideal) c vHq) (A0 : MBuf (F := Ideal) c vA2)
    (hq : ∀ (y : S15x32x256.Idx) (h : (y 0).val < 14), (View.read (Elt Ideal) vHq.view HQ y : EReal) = chunkH q ⟨(y 0).val, h⟩ (ix3 0 (y 1) (y 2)))
    (h0 : ∀ j, (View.read (Elt Ideal) vA2.view A0 j : EReal) = 0) (j : S8x8192.Idx) :
    (View.read (Elt Ideal) vA2.view (acc2 c WD HQ A0 14) j : EReal)
        + ∑ l : Fin 128, q (ix2 (j 0) ⟨3584 + l.val, by omega⟩) * WD (ix2 ⟨3584 + l.val, by omega⟩ (j 1))
      = ∑ k : Fin 3712, q (ix2 (j 0) k) * WD (ix2 k (j 1)) := by
  rw [acc2_read c WD q HQ A0 hq h0 j 14 le_rfl, Finset.sum_range, Fin.sum_univ_two_halves 3584 128 rfl (fun k : Fin 3712 => q (ix2 (j 0) k) * WD (ix2 k (j 1))),
    Fin.sum_univ_tiles 14 256 rfl]
  refine congrArg₂ (· + ·) (Finset.sum_congr rfl fun k _ => ?_) rfl
  rw [term2, dif_pos k.isLt]

end Acc

end Cert.Value

end
-- ==== Proof.Quant.lean ====
/-
  The power-of-two scale of one row, as scalars over the extended reals: the kernel finds the exponent field of
  `r = amax / 448` by a binary search over powers of two and builds `2^e` and `2^(-e)` from their bit patterns; the
  reference takes `e = ⌊log r / log 2⌋ + 1` and `exp2`. The two agree at every extended real.
-/
module

public import Idealize.ShloMosaic.PureOps.Ideal
public import Idealize.ShloMosaic.PureOps.Ideal.Laws
public import Idealize.ShloMosaic.Lib.IdealHost

@[expose] public section

set_option maxRecDepth 16384

noncomputable section

namespace Cert.Quant

open Idealize.ShloMosaic

/-- The extended real whose f32 pattern has exponent field `g` and no other bit set. -/
abbrev P (g : BitVec 32) : EReal := Ideal.ofBits .f32 (IntOp.shli .vector g 23#32)

/-- One step of the kernel's search: take the bit `b` when `r` is at least the power of two of field `f + b`. -/
def kstep (r : EReal) (f b : BitVec 32) : BitVec 32 :=
  Scalar.select (Ideal.cmp .oge r (P (IntOp.addi f b))) (IntOp.addi f b) f

/-- The eight steps of the search. -/
def kfield (r : EReal) : BitVec 32 :=
  kstep r (kstep r (kstep r (kstep r (kstep r (kstep r (kstep r (kstep r 0#32 128#32) 64#32) 32#32) 16#32) 8#32) 4#32) 2#32) 1#32

/-- The kernel's exponent from the search's field. -/
def kexpOf (a r : EReal) (f8 : BitVec 32) : BitVec 32 :=
  let f := Scalar.select (Ideal.cmp .oge r (Ideal.ofBits .f32 0x7E800000#32)) 255#32 f8
  Scalar.select (Ideal.cmp .oeq a (Ideal.ofBits .f32 0x00000000#32)) 0#32
    (Scalar.select (IntOp.ori (IntOp.cmpi .eq f 0#32) (IntOp.cmpi .eq f 255#32)) 0#32 (IntOp.subi f 126#32))

/-- The kernel's exponent of a row whose greatest magnitude is `a`, with `r = a / 448`. -/
def kexp (a r : EReal) : BitVec 32 := kexpOf a r (kfield r)

/-- The kernel's scale `2^e`, built from its bits. -/
def kscale (a r : EReal) : EReal := P (IntOp.addi (kexp a r) 127#32)

/-- The kernel's inverse scale `2^(-e)`, built from its bits. -/
def kinv (a r : EReal) : EReal := P (IntOp.subi 127#32 (kexp a r))

/-- The reference's exponent. -/
def rexp (r : EReal) : EReal :=
  Scalar.select (IntOp.andi (Ideal.cmp .oge r (Ideal.ofBits .f32 0x00800000#32)) (Ideal.cmp .olt r (Ideal.ofBits .f32 0x7E800000#32)))
    (Ideal.liftRound Int.floor (Ideal.div (Ideal.log r) (Ideal.log (Ideal.ofBits .f32 0x40000000#32))) + Ideal.ofBits .f32 0x3F800000#32)
    (Ideal.ofBits .f32 0x00000000#32)

/-- What the pattern of a field consists of. -/
theorem bits_facts : ∀ g : Fin 256, ((IntOp.shli .vector (BitVec.ofNat 32 g.val) 23#32).extractLsb' 31 1 == 1#1) = false
    ∧ ((IntOp.shli .vector (BitVec.ofNat 32 g.val) 23#32).extractLsb' 23 8).toNat = g.val
    ∧ ((IntOp.shli .vector (BitVec.ofNat 32 g.val) 23#32).extractLsb' 0 23).toNat = 0 := by
  decide +kernel

/-- A 32-bit word is read as a float with 8 bits of exponent and 23 of fraction. -/
theorem ofBits_f32 (b : BitVec 32) : Ideal.ofBits .f32 b = Ideal.ieee 8 23 b := rfl

/-- At least: true. -/
theorem cmp_oge_true {x y : EReal} (h : y ≤ x) : Ideal.cmp .oge x y = 1#1 := by simp [Ideal.cmp, h]
/-- At least: false. -/
theorem cmp_oge_false {x y : EReal} (h : ¬ y ≤ x) : Ideal.cmp .oge x y = 0#1 := by simp [Ideal.cmp, h]
/-- Less: true. -/
theorem cmp_olt_true {x y : EReal} (h : x < y) : Ideal.cmp .olt x y = 1#1 := by simp [Ideal.cmp, h]
/-- Less: false. -/
theorem cmp_olt_false {x y : EReal} (h : ¬ x < y) : Ideal.cmp .olt x y = 0#1 := by simp [Ideal.cmp, h]
/-- Equal: false. -/
theorem cmp_oeq_false {x y : EReal} (h : x ≠ y) : Ideal.cmp .oeq x y = 0#1 := by simp [Ideal.cmp, h]
/-- A select at true. -/
theorem sel_one {α : Type} (x y : α) : Scalar.select 1#1 x y = x := rfl
/-- A select at false. -/
theorem sel_zero {α : Type} (x y : α) : Scalar.select 0#1 x y = y := rfl

/-- A field from 1 to 254 denotes its power of two. -/
theorem P_mid (g : ℕ) (h1 : 1 ≤ g) (h2 : g ≤ 254) : P (BitVec.ofNat 32 g) = (((2 : ℝ) ^ ((g : ℤ) - 127) : ℝ) : EReal) := by
  obtain ⟨hs, he, hf⟩ := bits_facts ⟨g, by omega⟩
  dsimp only at hs he hf
  unfold P
  rw [ofBits_f32]
  generalize IntOp.shli .vector (BitVec.ofNat 32 g) 23#32 = w at hs he hf ⊢
  unfold Ideal.ieee
  simp only [Nat.reduceAdd]
  rw [hs, he, hf]
  rw [if_neg (by norm_num; omega), if_neg (by omega)]
  congr 1
  have : ((2 : ℝ) ^ 23) = (2 : ℝ) ^ (23 : ℤ) := by norm_num
  simp only [Bool.false_eq_true, if_false, one_mul, Nat.add_zero, Nat.cast_pow, Nat.cast_ofNat]
  rw [this, ← zpow_add₀ (by norm_num)]
  congr 1
  norm_num

/-- The field of all ones denotes `⊤`. -/
theorem P_top : P (BitVec.ofNat 32 255) = ⊤ := by
  obtain ⟨hs, he, hf⟩ := bits_facts ⟨255, by omega⟩
  dsimp only at hs he hf
  unfold P
  rw [ofBits_f32]
  generalize IntOp.shli .vector (BitVec.ofNat 32 255) 23#32 = w at hs he hf ⊢
  unfold Ideal.ieee
  simp only [Nat.reduceAdd]
  rw [hs, he, hf]
  simp

/-- A greater field denotes at least as much. -/
theorem P_mono (g g' : ℕ) (h1 : 1 ≤ g) (h : g ≤ g') (h2 : g' ≤ 255) : P (BitVec.ofNat 32 g) ≤ P (BitVec.ofNat 32 g') := by
  rcases Nat.lt_or_ge g' 255 with hg | hg
  · rw [P_mid g h1 (by omega), P_mid g' (by omega) (by omega)]
    exact EReal.coe_le_coe_iff.mpr (zpow_le_zpow_right₀ (by norm_num) (by omega))
  · obtain rfl : g' = 255 := by omega
    rw [P_top]; exact le_top

/-- The field of `r`: the greatest one whose power of two is at most `r`, zero if there is none. -/
theorem exists_field (r : EReal) : ∃ t ≤ 255, ∀ g, 1 ≤ g → g ≤ 255 → (P (BitVec.ofNat 32 g) ≤ r ↔ g ≤ t) := by
  classical
  refine ⟨Nat.findGreatest (fun g => g = 0 ∨ P (BitVec.ofNat 32 g) ≤ r) 255, Nat.findGreatest_le _, fun g h1 h2 => ⟨fun h => ?_, fun h => ?_⟩⟩
  · exact Nat.le_findGreatest h2 (Or.inr h)
  · have hs := Nat.findGreatest_spec (P := fun g => g = 0 ∨ P (BitVec.ofNat 32 g) ≤ r) (m := 0) (n := 255) (by omega) (Or.inl rfl)
    have hle := Nat.findGreatest_le (P := fun g => g = 0 ∨ P (BitVec.ofNat 32 g) ≤ r) 255
    rcases hs with hs | hs
    · omega
    · exact (P_mono _ _ h1 h hle).trans hs

/-- One step of the search over the naturals. -/
def nstep (t f b : ℕ) : ℕ := if f + b ≤ t then f + b else f

/-- One step of the search adds at most its bit. -/
theorem nstep_le (t f b B : ℕ) (h : f ≤ B) : nstep t f b ≤ B + b := by unfold nstep; split <;> omega

/-- One step of the kernel's search is the step on natural numbers, where the test `P g ≤ r` holds exactly up to `t`. -/
theorem kstep_eq (r : EReal) (t : ℕ) (ht : ∀ g, 1 ≤ g → g ≤ 255 → (P (BitVec.ofNat 32 g) ≤ r ↔ g ≤ t)) (f b : ℕ)
    (hb : 1 ≤ b) (hfb : f + b ≤ 255) : kstep r (BitVec.ofNat 32 f) (BitVec.ofNat 32 b) = BitVec.ofNat 32 (nstep t f b) := by
  have hadd : IntOp.addi (BitVec.ofNat 32 f) (BitVec.ofNat 32 b) = BitVec.ofNat 32 (f + b) := by
    show BitVec.ofNat 32 f + BitVec.ofNat 32 b = _
    rw [BitVec.ofNat_add]
  unfold kstep nstep
  rw [hadd]
  have hc := ht (f + b) (by omega) hfb
  by_cases h : f + b ≤ t
  · rw [if_pos h, cmp_oge_true (hc.mpr h), sel_one]
  · rw [if_neg h, cmp_oge_false (fun h' => h (hc.mp h')), sel_zero]

/-- The search finds every field. -/
theorem search_eq : ∀ t : Fin 256, nstep t.val (nstep t.val (nstep t.val (nstep t.val (nstep t.val (nstep t.val (nstep t.val (nstep t.val 0 128) 64) 32) 16) 8) 4) 2) 1 = t.val := by
  decide +kernel

/-- The kernel's eight steps find `t`. -/
theorem kfield_eq (r : EReal) (t : ℕ) (ht' : t ≤ 255) (ht : ∀ g, 1 ≤ g → g ≤ 255 → (P (BitVec.ofNat 32 g) ≤ r ↔ g ≤ t)) :
    kfield r = BitVec.ofNat 32 t := by
  have b1 := nstep_le t 0 128 0 (le_refl _)
  have b2 := nstep_le t _ 64 _ b1
  have b3 := nstep_le t _ 32 _ b2
  have b4 := nstep_le t _ 16 _ b3
  have b5 := nstep_le t _ 8 _ b4
  have b6 := nstep_le t _ 4 _ b5
  have b7 := nstep_le t _ 2 _ b6
  unfold kfield
  rw [show (0#32 : BitVec 32) = BitVec.ofNat 32 0 from rfl]
  rw [kstep_eq r t ht 0 128 (by omega) (by omega), kstep_eq r t ht _ 64 (by omega) (by omega), kstep_eq r t ht _ 32 (by omega) (by omega),
    kstep_eq r t ht _ 16 (by omega) (by omega), kstep_eq r t ht _ 8 (by omega) (by omega), kstep_eq r t ht _ 4 (by omega) (by omega),
    kstep_eq r t ht _ 2 (by omega) (by omega), kstep_eq r t ht _ 1 (by omega) (by omega)]
  rw [search_eq ⟨t, by omega⟩]

/-- The lower limit is the float of exponent field 1. -/
theorem lo_eq : Ideal.ofBits .f32 0x00800000#32 = P (BitVec.ofNat 32 1) := by
  unfold P; congr 1
/-- The upper limit is the float of exponent field 253. -/
theorem hi_eq : Ideal.ofBits .f32 0x7E800000#32 = P (BitVec.ofNat 32 253) := by
  unfold P; congr 1
/-- The word of the float two. -/
theorem two_eq : Ideal.ofBits .f32 0x40000000#32 = ((2 : ℝ) : EReal) := by
  rw [show (0x40000000#32 : BitVec 32) = IntOp.shli .vector (BitVec.ofNat 32 128) 23#32 by decide +kernel]
  exact (P_mid 128 (by omega) (by omega)).trans (by norm_num)

/-- The words the exponent's arithmetic gives. -/
theorem words : ∀ t : Fin 253, 1 ≤ t.val →
    IntOp.addi (Scalar.select (IntOp.ori (IntOp.cmpi .eq (BitVec.ofNat 32 t.val) 0#32) (IntOp.cmpi .eq (BitVec.ofNat 32 t.val) 255#32)) 0#32 (IntOp.subi (BitVec.ofNat 32 t.val) 126#32)) 127#32
      = BitVec.ofNat 32 (t.val + 1)
    ∧ IntOp.subi 127#32 (Scalar.select (IntOp.ori (IntOp.cmpi .eq (BitVec.ofNat 32 t.val) 0#32) (IntOp.cmpi .eq (BitVec.ofNat 32 t.val) 255#32)) 0#32 (IntOp.subi (BitVec.ofNat 32 t.val) 126#32))
      = BitVec.ofNat 32 (253 - t.val) := by
  decide +kernel

/-- The kernel's two scales are the reference's, at every row maximum. -/
theorem scales (a r : EReal) (h0 : a = 0 → r = 0) :
    kscale a r = Ideal.exp2 (rexp r) ∧ kinv a r = Ideal.exp2 (Ideal.ofBits .f32 0x00000000#32 - rexp r) := by
  obtain ⟨t, ht', ht⟩ := exists_field r
  have hk := kfield_eq r t ht' ht
  have hlo := ht 1 (by omega) (by omega)
  have hhi := ht 253 (by omega) (by omega)
  have hone : P (BitVec.ofNat 32 127) = ((1 : ℝ) : EReal) := (P_mid 127 (by omega) (by omega)).trans (by norm_num)
  by_cases hr : 1 ≤ t ∧ t < 253
  · obtain ⟨h1, h2⟩ := hr
    have hle : P (BitVec.ofNat 32 t) ≤ r := (ht t h1 (by omega)).mpr le_rfl
    have hlt : r < P (BitVec.ofNat 32 (t + 1)) := lt_of_not_ge fun h => by have := (ht (t + 1) (by omega) (by omega)).mp h; omega
    rw [P_mid t h1 (by omega)] at hle
    rw [P_mid (t + 1) (by omega) (by omega)] at hlt
    have hpos : (0 : EReal) < (((2 : ℝ) ^ ((t : ℤ) - 127) : ℝ) : EReal) := EReal.coe_pos.mpr (by positivity)
    have ha : a ≠ 0 := fun h => by
      rw [h0 h] at hle; exact absurd hle (not_le_of_gt hpos)
    have hrb : r ≠ ⊥ := fun h => by rw [h] at hle; exact absurd (le_bot_iff.mp hle) (EReal.coe_ne_bot _)
    have hrt : r ≠ ⊤ := ne_top_of_lt hlt
    lift r to ℝ using ⟨hrt, hrb⟩
    have hle' : (2 : ℝ) ^ ((t : ℤ) - 127) ≤ r := EReal.coe_le_coe_iff.mp hle
    have hlt' : r < (2 : ℝ) ^ (((t + 1 : ℕ) : ℤ) - 127) := EReal.coe_lt_coe_iff.mp hlt
    have hr0 : 0 < r := lt_of_lt_of_le (by positivity) hle'
    have hl2 : 0 < Real.log 2 := Real.log_pos (by norm_num)
    have hfl : ⌊Real.log r / Real.log 2⌋ = (t : ℤ) - 127 := by
      rw [Int.floor_eq_iff]
      constructor
      · rw [le_div_iff₀ hl2]
        have := Real.log_le_log (by positivity) hle'
        rw [Real.log_zpow] at this
        exact this
      · rw [div_lt_iff₀ hl2]
        have := Real.log_lt_log hr0 hlt'
        rw [Real.log_zpow] at this
        push_cast at this ⊢
        linarith
    have hre : rexp (r : EReal) = (((t : ℝ) - 126 : ℝ) : EReal) := by
      unfold rexp
      rw [lo_eq, hi_eq, two_eq, Ideal.ofBits_one_f32]
      rw [cmp_oge_true (hlo.mpr h1), cmp_olt_true (lt_of_not_ge fun h => by have := hhi.mp h; omega),
        show IntOp.andi 1#1 1#1 = 1#1 from rfl, sel_one]
      · rw [Ideal.log_coe, if_neg (not_le_of_gt hr0), Ideal.log_coe, if_neg (by norm_num)]
        have hd : Ideal.div ((Real.log r : ℝ) : EReal) ((Real.log 2 : ℝ) : EReal) = ((Real.log r / Real.log 2 : ℝ) : EReal) := by
          unfold Ideal.div
          rw [if_neg (by rw [EReal.coe_eq_zero]; exact hl2.ne'), ← EReal.coe_inv, ← EReal.coe_mul, div_eq_mul_inv]
        rw [hd]
        show (((⌊Real.log r / Real.log 2⌋ : ℤ) : ℝ) : EReal) + 1 = _
        rw [hfl, ← EReal.coe_one, ← EReal.coe_add]
        congr 1
        push_cast; ring
    have hke : ∀ w : BitVec 32, kexpOf a (r : EReal) (BitVec.ofNat 32 t) = Scalar.select (IntOp.ori (IntOp.cmpi .eq (BitVec.ofNat 32 t) 0#32) (IntOp.cmpi .eq (BitVec.ofNat 32 t) 255#32)) 0#32 (IntOp.subi (BitVec.ofNat 32 t) 126#32) := fun _ => by
      unfold kexpOf
      have c1 : Ideal.cmp .oge (r : EReal) (Ideal.ofBits .f32 0x7E800000#32) = 0#1 := by
        rw [hi_eq]; exact cmp_oge_false (fun h => by have := hhi.mp h; omega)
      have c2 : Ideal.cmp .oeq a (Ideal.ofBits .f32 0x00000000#32) = 0#1 := by
        rw [Ideal.ofBits_zero_f32]; exact cmp_oeq_false ha
      rw [c1, c2]
      rfl
    obtain ⟨w1, w2⟩ := words ⟨t, h2⟩ h1
    dsimp only at w1 w2
    constructor
    · unfold kscale kexp
      rw [hk, hke 0#32, w1, hre, P_mid _ (by omega) (by omega), Ideal.exp2_coe]
      congr 1
      rw [Real.rpow_eq_pow, ← Real.rpow_intCast]
      congr 1; push_cast; ring
    · unfold kinv kexp
      rw [hk, hke 0#32, w2, hre, Ideal.ofBits_zero_f32, zero_sub, ← EReal.coe_neg, P_mid _ (by omega) (by omega), Ideal.exp2_coe]
      congr 1
      rw [Real.rpow_eq_pow, ← Real.rpow_intCast]
      congr 1
      rw [Nat.cast_sub (by omega)]; push_cast; ring
  · have hre : rexp r = ((0 : ℝ) : EReal) := by
      unfold rexp
      rw [lo_eq, hi_eq, Ideal.ofBits_zero_f32]
      rcases Nat.lt_or_ge t 1 with h | h
      · rw [cmp_oge_false (fun h' => by have := hlo.mp h'; omega)]
        have hq : ∀ q : BitVec 1, IntOp.andi 0#1 q = 0#1 := by decide
        rw [hq, sel_zero]; rfl
      · rw [cmp_olt_false (not_lt_of_ge (hhi.mpr (by omega)))]
        have hq : ∀ q : BitVec 1, IntOp.andi q 0#1 = 0#1 := by decide
        rw [hq, sel_zero]; rfl
    have hke : kexpOf a r (BitVec.ofNat 32 t) = 0#32 := by
      unfold kexpOf
      rcases Nat.lt_or_ge t 1 with h | h
      · obtain rfl : t = 0 := by omega
        have c1 : Ideal.cmp .oge r (Ideal.ofBits .f32 0x7E800000#32) = 0#1 := by
          rw [hi_eq]; exact cmp_oge_false (fun h => by have := hhi.mp h; omega)
        rw [c1]
        generalize Ideal.cmp .oeq a (Ideal.ofBits .f32 0x00000000#32) = q
        revert q; decide
      · have c1 : Ideal.cmp .oge r (Ideal.ofBits .f32 0x7E800000#32) = 1#1 := by
          rw [hi_eq]; exact cmp_oge_true (hhi.mpr (by omega))
        rw [c1]
        generalize Ideal.cmp .oeq a (Ideal.ofBits .f32 0x00000000#32) = q
        have : Scalar.select 1#1 255#32 (BitVec.ofNat 32 t) = 255#32 := rfl
        simp only [this]
        revert q; decide
    constructor
    · unfold kscale kexp
      rw [hk, hke, hre, Ideal.exp2_coe]
      exact hone.trans (by rw [Real.rpow_eq_pow, Real.rpow_zero])
    · unfold kinv kexp
      rw [hk, hke, hre, Ideal.ofBits_zero_f32, zero_sub, ← EReal.coe_neg, Ideal.exp2_coe]
      exact hone.trans (by rw [Real.rpow_eq_pow, neg_zero, Real.rpow_zero])

end Cert.Quant

end
-- ==== Proof.V.Scale.lean ====
/-
  The two quantisers, as vectors: the kernel's scale column and its codes (from the bit search) are the reference's
  (from the logarithm), for the rows of the input and for the rows of the gated product.
-/
module

public import proofs.«01_k».proof.Proof.Quant
public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.Value

open Idealize.ShloMosaic Cert.KernelIdeal Quant

attribute [local irreducible] Ideal.ofBits Ideal.log Ideal.cmp IntOp.shli

/-! ## The rows of the input -/

section X

variable (x : Vec Ideal S8x8192 .bf16) (i : S8x1.Idx)

/-- The first part of the kernel's search, at an index. -/
theorem search5 : KernelIdeal.Gen.k0_pay5 (F := Ideal) x i
    = kstep (KernelIdeal.Gen.k0_pay4 (F := Ideal) x i) (kstep (KernelIdeal.Gen.k0_pay4 (F := Ideal) x i) (kstep (KernelIdeal.Gen.k0_pay4 (F := Ideal) x i) (kstep (KernelIdeal.Gen.k0_pay4 (F := Ideal) x i) (kstep (KernelIdeal.Gen.k0_pay4 (F := Ideal) x i) 0#32 128#32) 64#32) 32#32) 16#32) 8#32 := by
  unfold KernelIdeal.Gen.k0_pay5
  generalize KernelIdeal.Gen.k0_pay4 (F := Ideal) x = r
  rfl

/-- The rest of it, at an index. -/
theorem search7 (a r : FVec Ideal S8x1 .f32) (f : IVec S8x1 32) :
    KernelIdeal.Gen.k0_pay7 (F := Ideal) a r f KernelIdeal.Gen.k0_pay6 i
      = kexpOf (a i) (r i) (kstep (r i) (kstep (r i) (kstep (r i) (f i) 4#32) 2#32) 1#32) := by
  unfold KernelIdeal.Gen.k0_pay7
  rfl

/-- The kernel's exponent of row `i`. -/
theorem expX : KernelIdeal.Gen.k0_pay7 (F := Ideal) (KernelIdeal.Gen.k0_pay3 x) (KernelIdeal.Gen.k0_pay4 x) (KernelIdeal.Gen.k0_pay5 x) KernelIdeal.Gen.k0_pay6 i
    = kexp (KernelIdeal.Gen.k0_pay3 (F := Ideal) x i) (KernelIdeal.Gen.k0_pay4 (F := Ideal) x i) := by
  rw [search7, search5]; rfl

/-- The input as the reference reads it is the input as the kernel reads it. -/
theorem refX : ReferenceIdeal.Gen.k0_pay3 (F := Ideal) x = KernelIdeal.Gen.k0_pay2 (F := Ideal) x := by
  unfold ReferenceIdeal.Gen.k0_pay3
  simp only [shapeCast_self]
  rfl

/-- The reference's exponent of row `i`. -/
theorem rexpX : ReferenceIdeal.Gen.k0_pay4 (F := Ideal) x i = rexp (KernelIdeal.Gen.k0_pay4 (F := Ideal) x i) := by
  unfold ReferenceIdeal.Gen.k0_pay4 KernelIdeal.Gen.k0_pay4 KernelIdeal.Gen.k0_pay3
  rw [refX]
  generalize KernelIdeal.Gen.k0_pay2 (F := Ideal) x = v
  rfl

/-- A row whose largest magnitude is zero has quotient zero. -/
theorem zeroX (h : KernelIdeal.Gen.k0_pay3 (F := Ideal) x i = (0 : EReal)) : KernelIdeal.Gen.k0_pay4 (F := Ideal) x i = (0 : EReal) := by
  unfold KernelIdeal.Gen.k0_pay4
  show (KernelIdeal.Gen.k0_pay3 (F := Ideal) x i : EReal) * _ = 0
  rw [h, zero_mul]

/-- The kernel's scales of the input rows are the reference's. -/
theorem scaleX :
    KernelIdeal.Gen.k0_pay8 (F := Ideal) (KernelIdeal.Gen.k0_pay3 x) (KernelIdeal.Gen.k0_pay4 x) (KernelIdeal.Gen.k0_pay5 x) KernelIdeal.Gen.k0_pay6
      = ReferenceIdeal.Gen.k0_pay6 (F := Ideal) x := by
  funext i
  have h := (scales (KernelIdeal.Gen.k0_pay3 (F := Ideal) x i) (KernelIdeal.Gen.k0_pay4 (F := Ideal) x i) (zeroX x i)).1
  rw [← rexpX, kscale, ← expX] at h
  exact h

/-- The kernel's inverse scales of the input rows, from their bits, are the reference's. -/
theorem invX :
    bitcastToFloat (F := Ideal) .f32 (shli (KernelIdeal.Gen.k0_pay9 (F := Ideal) (KernelIdeal.Gen.k0_pay3 x) (KernelIdeal.Gen.k0_pay4 x) (KernelIdeal.Gen.k0_pay5 x) KernelIdeal.Gen.k0_pay6) (broadcast S8x1 23#32))
      = exp2 (subf (broadcast S8x1 (Scalar.ofBits (F := Ideal) .f32 0x00000000#32)) (ReferenceIdeal.Gen.k0_pay4 (F := Ideal) x)) := by
  funext i
  have h := (scales (KernelIdeal.Gen.k0_pay3 (F := Ideal) x i) (KernelIdeal.Gen.k0_pay4 (F := Ideal) x i) (zeroX x i)).2
  rw [← rexpX, kinv, ← expX] at h
  exact h

/-- The kernel's codes of the input, before the change of format, are the reference's codes. -/
theorem codesX (i : S8x8192.Idx) :
    (KernelIdeal.Gen.k0_pay10 (F := Ideal) (KernelIdeal.Gen.k0_pay2 x) (KernelIdeal.Gen.k0_pay9 (F := Ideal) (KernelIdeal.Gen.k0_pay3 x) (KernelIdeal.Gen.k0_pay4 x) (KernelIdeal.Gen.k0_pay5 x) KernelIdeal.Gen.k0_pay6) i : EReal)
      = ReferenceIdeal.Gen.k0_pay5 (F := Ideal) x i := by
  unfold KernelIdeal.Gen.k0_pay10 ReferenceIdeal.Gen.k0_pay5
  rw [invX, refX]
  rfl

end X

/-! ## The rows of the gated product -/

section H

variable (H : Vec Ideal S8x3712 .f32) (i : S8x1.Idx)

/-- The first part of the second search, at an index. -/
theorem search271 (r : FVec Ideal S8x1 .f32) : KernelIdeal.Gen.k0_pay271 (F := Ideal) r 0#32 i
    = kstep (r i) (kstep (r i) (kstep (r i) (kstep (r i) (kstep (r i) (kstep (r i) 0#32 128#32) 64#32) 32#32) 16#32) 8#32) 4#32 := by
  unfold KernelIdeal.Gen.k0_pay271
  rfl

/-- The rest of it, at an index. -/
theorem search274 (a r : FVec Ideal S8x1 .f32) :
    KernelIdeal.Gen.k0_pay274 (F := Ideal) a r (KernelIdeal.Gen.k0_pay271 r 0#32) (KernelIdeal.Gen.k0_pay272 r 0#32) KernelIdeal.Gen.k0_pay273 i
      = kexp (a i) (r i) := by
  have h : ∀ f : IVec S8x1 32, KernelIdeal.Gen.k0_pay274 (F := Ideal) a r f (addi f (broadcast S8x1 2#32)) KernelIdeal.Gen.k0_pay273 i
      = kexpOf (a i) (r i) (kstep (r i) (kstep (r i) (f i) 2#32) 1#32) := by
    intro f
    unfold KernelIdeal.Gen.k0_pay274
    rfl
  refine (h (KernelIdeal.Gen.k0_pay271 (F := Ideal) r 0#32)).trans ?_
  rw [search271]; rfl

/-- A row of the gated product whose largest magnitude is zero has quotient zero. -/
theorem zeroH (h : KernelIdeal.Gen.k0_pay269 (F := Ideal) H i = (0 : EReal)) : KernelIdeal.Gen.k0_pay270 (F := Ideal) H i = (0 : EReal) := by
  unfold KernelIdeal.Gen.k0_pay270
  show (KernelIdeal.Gen.k0_pay269 (F := Ideal) H i : EReal) * _ = 0
  rw [h, zero_mul]

variable (g2 : FVec Ideal ReferenceIdeal.S8x3712x2 .f32) (g1 : FVec Ideal ReferenceIdeal.S8x3712x1 .f32)

/-- The kernel's scale column and codes of the gated product `H`. -/
abbrev kScaleH : FVec Ideal S8x1 .f32 :=
  KernelIdeal.Gen.k0_pay275 (F := Ideal) (KernelIdeal.Gen.k0_pay269 H) (KernelIdeal.Gen.k0_pay270 H) (KernelIdeal.Gen.k0_pay271 (KernelIdeal.Gen.k0_pay270 H) 0#32) (KernelIdeal.Gen.k0_pay272 (KernelIdeal.Gen.k0_pay270 H) 0#32) KernelIdeal.Gen.k0_pay273
/-- The kernel's codes of the gated product `H`. -/
abbrev kCodesH : FVec Ideal S8x3712 .f32 :=
  KernelIdeal.Gen.k0_pay276 (F := Ideal) H (KernelIdeal.Gen.k0_pay269 H) (KernelIdeal.Gen.k0_pay270 H) (KernelIdeal.Gen.k0_pay271 (KernelIdeal.Gen.k0_pay270 H) 0#32) (KernelIdeal.Gen.k0_pay272 (KernelIdeal.Gen.k0_pay270 H) 0#32) KernelIdeal.Gen.k0_pay273

/-- The reference's exponent of row `i`, when its gated product is `H`. -/
theorem rexpH (e : ReferenceIdeal.Gen.k0_pay9 (F := Ideal) g2 g1 = H) :
    ReferenceIdeal.Gen.k0_pay10 (F := Ideal) g2 g1 i = rexp (KernelIdeal.Gen.k0_pay270 (F := Ideal) H i) := by
  unfold ReferenceIdeal.Gen.k0_pay10 KernelIdeal.Gen.k0_pay270 KernelIdeal.Gen.k0_pay269
  rw [e]
  rfl

/-- The kernel's scales of the rows of the gated product are the reference's. -/
theorem scaleH (e : ReferenceIdeal.Gen.k0_pay9 (F := Ideal) g2 g1 = H) : kScaleH H = ReferenceIdeal.Gen.k0_pay12 (F := Ideal) g2 g1 := by
  funext i
  have h := (scales (KernelIdeal.Gen.k0_pay269 (F := Ideal) H i) (KernelIdeal.Gen.k0_pay270 (F := Ideal) H i) (zeroH H i)).1
  rw [← rexpH H i g2 g1 e, kscale, ← search274] at h
  exact h

/-- The kernel's codes of the gated product, before the change of format, are the reference's codes. -/
theorem codesH (e : ReferenceIdeal.Gen.k0_pay9 (F := Ideal) g2 g1 = H) (i : S8x3712.Idx) :
    (kCodesH H i : EReal) = ReferenceIdeal.Gen.k0_pay11 (F := Ideal) g2 g1 i := by
  have hi : bitcastToFloat (F := Ideal) .f32 (shli (subi (broadcast S8x1 127#32) (KernelIdeal.Gen.k0_pay274 (F := Ideal) (KernelIdeal.Gen.k0_pay269 H) (KernelIdeal.Gen.k0_pay270 H) (KernelIdeal.Gen.k0_pay271 (KernelIdeal.Gen.k0_pay270 H) 0#32) (KernelIdeal.Gen.k0_pay272 (KernelIdeal.Gen.k0_pay270 H) 0#32) KernelIdeal.Gen.k0_pay273)) (broadcast S8x1 23#32))
      = exp2 (subf (broadcast S8x1 (Scalar.ofBits (F := Ideal) .f32 0x00000000#32)) (ReferenceIdeal.Gen.k0_pay10 (F := Ideal) g2 g1)) := by
    funext i
    have h := (scales (KernelIdeal.Gen.k0_pay269 (F := Ideal) H i) (KernelIdeal.Gen.k0_pay270 (F := Ideal) H i) (zeroH H i)).2
    rw [← rexpH H i g2 g1 e, kinv, ← search274] at h
    exact h
  unfold kCodesH KernelIdeal.Gen.k0_pay276 ReferenceIdeal.Gen.k0_pay11
  rw [hi, e]
  rfl

end H

/-! ## A column of eight scales laid out as a row -/

/-- The kernel's layout of a column as a row (a select on the diagonal, then a sum over the rows) keeps each entry. -/
theorem rowOf (v : FVec Ideal S8x1 .f32) (j : S1x8.Idx) : KernelIdeal.Gen.k0_pay50 (F := Ideal) v j = v (ix2 (j 1) 0) := by
  have hj : ∀ b : Fin 8, ∀ x : Fin 8, (IntOp.cmpi .eq (BitVec.ofNat 32 x.val) (BitVec.ofNat 32 b.val)) = if x = b then 1#1 else 0#1 := by decide +kernel
  pointwise [KernelIdeal.Gen.k0_pay50]
  have e : ∀ x : Fin 8, Scalar.select (IntOp.cmpi .eq (BitVec.ofNat 32 x.val) (BitVec.ofNat 32 (j 1).val)) (v (ix2 x 0)) (0 : EReal)
      = @ite _ (x = (j 1 : Fin 8)) (instDecidableEqFin 8 x (j 1)) (v (ix2 x 0)) 0 := fun x => by
    rw [hj (j 1) x]
    generalize (j 1 : Fin 8) = b
    by_cases h : x = b
    · rw [if_pos h, if_pos h]; rfl
    · rw [if_neg h, if_neg h]; rfl
  refine (Finset.sum_congr rfl fun x _ => e x).trans ?_
  exact (Finset.sum_ite_eq' Finset.univ (j 1 : Fin 8) (fun x => v (ix2 x 0))).trans (if_pos (Finset.mem_univ _))

/-- The same layout of the second scales. -/
theorem rowOfH (v : FVec Ideal S8x1 .f32) (j : S1x8.Idx) : KernelIdeal.Gen.k0_pay296 (F := Ideal) v j = v (ix2 (j 1) 0) :=
  (congrFun (show KernelIdeal.Gen.k0_pay296 (F := Ideal) v = KernelIdeal.Gen.k0_pay50 v from rfl) j).trans (rowOf v j)

/-- The reference's reshape of the column of the first scales to a row. -/
theorem rowRef (v : FVec Ideal S8x1 .f32) (j : S1x8.Idx) : ReferenceIdeal.Gen.k0_pay1 (F := Ideal) v j = v (ix2 (j 1) 0) := by
  pointwise [ReferenceIdeal.Gen.k0_pay1]

/-- The reference's reshape of the column of the second scales to a row. -/
theorem rowRefH (v : FVec Ideal S8x1 .f32) (j : S1x8.Idx) : ReferenceIdeal.Gen.k0_pay2 (F := Ideal) v j = v (ix2 (j 1) 0) := by
  pointwise [ReferenceIdeal.Gen.k0_pay2]

end Cert.Value

end
-- ==== Proof.V.Buffers.lean ====
/-
  What the kernel's buffers hold, over the reals: the codes and scales of the input, the chunks of codes, the scaled first
  product, the gated product, its codes and scales, and the output.
-/
module

public import proofs.«01_k».proof.Proof.V.Group
public import proofs.«01_k».proof.Proof.V.Mem
public import proofs.«01_k».proof.Proof.V.Scale

@[expose] public section

set_option maxRecDepth 16384

noncomputable section

namespace Cert.Value

open Idealize.ShloMosaic Idealize.SL.Sem Idealize.ShloMosaic.Pointwise Cert.KernelIdeal Cert.KernelIdeal.Gen Cert.KernelIdeal.Hand

/-! ## The mathematics -/

/-- The input's codes. -/
def qx (X : S8x8192.Idx → EReal) : S8x8192.Idx → EReal := fun i => ReferenceIdeal.Gen.k0_pay5 (F := Ideal) X i
/-- The input's scales, a column. -/
def sx (X : S8x8192.Idx → EReal) : S8x1.Idx → EReal := ReferenceIdeal.Gen.k0_pay6 (F := Ideal) X
/-- The product of the codes with the first weights. -/
def dot1 (X : S8x8192.Idx → EReal) (WG : S8192x7424.Idx → EReal) (j : S8x7424.Idx) : EReal :=
  ∑ k : Fin 8192, qx X (ix2 (j 0) k) * WG (ix2 k (j 1))
/-- The same, scaled: by the input's scale of the row and the weights' scale of the column. -/
def scaled1 (X : S8x8192.Idx → EReal) (WG : S8192x7424.Idx → EReal) (SG : S58x128.Idx → EReal) (j : S8x7424.Idx) : EReal :=
  dot1 X WG j * sx X (ix2 (j 0) 0) * SG (ix2 ⟨(j 1).val / 128, by have h : (j 1).val < 7424 := (j 1).isLt; omega⟩ ⟨(j 1).val % 128, by omega⟩)
/-- The gated product. -/
def hx (X : S8x8192.Idx → EReal) (WG : S8192x7424.Idx → EReal) (SG : S58x128.Idx → EReal) : S8x3712.Idx → EReal := gated (scaled1 X WG SG)
/-- Its codes. -/
def qh (X : S8x8192.Idx → EReal) (WG : S8192x7424.Idx → EReal) (SG : S58x128.Idx → EReal) : S8x3712.Idx → EReal := fun i => kCodesH (hx X WG SG) i
/-- Its scales, a column. -/
def sh (X : S8x8192.Idx → EReal) (WG : S8192x7424.Idx → EReal) (SG : S58x128.Idx → EReal) : S8x1.Idx → EReal := kScaleH (hx X WG SG)
/-- The output. -/
def outx (X : S8x8192.Idx → EReal) (WG : S8192x7424.Idx → EReal) (SG : S58x128.Idx → EReal) (WD : S3712x8192.Idx → EReal) (SD : S1x8192.Idx → EReal) (j : S8x8192.Idx) : EReal :=
  (∑ k : Fin 3712, qh X WG SG (ix2 (j 0) k) * WD (ix2 k (j 1))) * sh X WG SG (ix2 (j 0) 0) * SD (ix2 0 (j 1))

/-! ## The buffers -/

section Buffers
variable (c : Dev nD) (X : MBuf (F := Ideal) c mX) (WG : MBuf (F := Ideal) c mWg) (SG : MBuf (F := Ideal) c mSg) (WD : MBuf (F := Ideal) c mWd) (SD : MBuf (F := Ideal) c mSd)
variable (fvX : MBuf (F := Ideal) c vX) (fvSg : MBuf (F := Ideal) c vSg) (fvSd : MBuf (F := Ideal) c vSd)

/-- The input as the kernel reads it. -/
theorem xread : View.readAt (Elt Ideal) vX.view (Rect.unit ![0, 0] S8x8192.size inb_S8x8192_S8x8192_0_0).toLoadRect
    (View.write (Elt Ideal) vX.view fvX (bodyRun.sl.dma0 c X) Finset.univ) = X := by
  rw [View.readAt_full, View.read_write_univ]; rfl

/-- The input in f32. -/
theorem v57_eq : bodyRun.sl.v57 c X fvX = k0_pay2 (F := Ideal) X := congrArg (k0_pay2 (F := Ideal)) (xread c X fvX)
/-- The largest magnitude of each row. -/
theorem v60_eq : bodyRun.sl.v60 c X fvX = k0_pay3 (F := Ideal) X := congrArg (k0_pay3 (F := Ideal)) (xread c X fvX)
/-- That divided by 448. -/
theorem v62_eq : bodyRun.sl.v62 c X fvX = k0_pay4 (F := Ideal) X := congrArg (k0_pay4 (F := Ideal)) (xread c X fvX)
/-- The exponent field's first steps. -/
theorem v98_eq : bodyRun.sl.v98 c X fvX = k0_pay5 (F := Ideal) X := congrArg (k0_pay5 (F := Ideal)) (xread c X fvX)

/-- The input's scales. -/
theorem v141_eq : bodyRun.sl.v141 c X fvX = sx X := by
  unfold bodyRun.sl.v141
  rw [v60_eq, v62_eq, v98_eq]
  exact scaleX X

/-- The exponent field of the inverse scales. -/
theorem v143_eq : bodyRun.sl.v143 c X fvX = k0_pay9 (F := Ideal) (k0_pay3 X) (k0_pay4 X) (k0_pay5 X) k0_pay6 := by
  unfold bodyRun.sl.v143
  rw [v60_eq, v62_eq, v98_eq]

/-- The input's codes. -/
theorem v152_eq : (bodyRun.sl.v152 c X fvX : S8x8192.Idx → EReal) = qx X := by
  funext i
  unfold bodyRun.sl.v152
  rw [v57_eq, v143_eq]
  exact codesX X i

/-- The chunks of codes. -/
theorem xq_read (f : MBuf (F := Ideal) c vXq) (y : S32x32x256.Idx) :
    (View.read (Elt Ideal) vXq.view (vXq.view.writes (Elt Ideal) f (bodyRun.sl.HvXq_32 c X fvX)) y : EReal)
      = chunkX (bodyRun.sl.v152 c X fvX) (y 0) (ix3 0 (y 1) (y 2)) := by
  have g : ∀ (k : Fin 32) (w : EReal), w = chunkX (bodyRun.sl.v152 c X fvX) k (ix3 0 (y 1) (y 2)) → (y 0).val = k.val →
      w = chunkX (bodyRun.sl.v152 c X fvX) (y 0) (ix3 0 (y 1) (y 2)) :=
    fun k w e h => e.trans (congrArg (fun k => chunkX (bodyRun.sl.v152 c X fvX) k (ix3 0 (y 1) (y 2))) (show k = y 0 from Fin.ext h.symm))
  refine tile_cons vXq.view f 31 inb_S32x32x256_S1x32x256_31_0_0 _ _ y _ (g 31 _ (chX31 (bodyRun.sl.v152 c X fvX) _)) fun h31 => ?_
  refine tile_cons vXq.view f 30 inb_S32x32x256_S1x32x256_30_0_0 _ _ y _ (g 30 _ (chX30 (bodyRun.sl.v152 c X fvX) _)) fun h30 => ?_
  refine tile_cons vXq.view f 29 inb_S32x32x256_S1x32x256_29_0_0 _ _ y _ (g 29 _ (chX29 (bodyRun.sl.v152 c X fvX) _)) fun h29 => ?_
  refine tile_cons vXq.view f 28 inb_S32x32x256_S1x32x256_28_0_0 _ _ y _ (g 28 _ (chX28 (bodyRun.sl.v152 c X fvX) _)) fun h28 => ?_
  refine tile_cons vXq.view f 27 inb_S32x32x256_S1x32x256_27_0_0 _ _ y _ (g 27 _ (chX27 (bodyRun.sl.v152 c X fvX) _)) fun h27 => ?_
  refine tile_cons vXq.view f 26 inb_S32x32x256_S1x32x256_26_0_0 _ _ y _ (g 26 _ (chX26 (bodyRun.sl.v152 c X fvX) _)) fun h26 => ?_
  refine tile_cons vXq.view f 25 inb_S32x32x256_S1x32x256_25_0_0 _ _ y _ (g 25 _ (chX25 (bodyRun.sl.v152 c X fvX) _)) fun h25 => ?_
  refine tile_cons vXq.view f 24 inb_S32x32x256_S1x32x256_24_0_0 _ _ y _ (g 24 _ (chX24 (bodyRun.sl.v152 c X fvX) _)) fun h24 => ?_
  refine tile_cons vXq.view f 23 inb_S32x32x256_S1x32x256_23_0_0 _ _ y _ (g 23 _ (chX23 (bodyRun.sl.v152 c X fvX) _)) fun h23 => ?_
  refine tile_cons vXq.view f 22 inb_S32x32x256_S1x32x256_22_0_0 _ _ y _ (g 22 _ (chX22 (bodyRun.sl.v152 c X fvX) _)) fun h22 => ?_
  refine tile_cons vXq.view f 21 inb_S32x32x256_S1x32x256_21_0_0 _ _ y _ (g 21 _ (chX21 (bodyRun.sl.v152 c X fvX) _)) fun h21 => ?_
  refine tile_cons vXq.view f 20 inb_S32x32x256_S1x32x256_20_0_0 _ _ y _ (g 20 _ (chX20 (bodyRun.sl.v152 c X fvX) _)) fun h20 => ?_
  refine tile_cons vXq.view f 19 inb_S32x32x256_S1x32x256_19_0_0 _ _ y _ (g 19 _ (chX19 (bodyRun.sl.v152 c X fvX) _)) fun h19 => ?_
  refine tile_cons vXq.view f 18 inb_S32x32x256_S1x32x256_18_0_0 _ _ y _ (g 18 _ (chX18 (bodyRun.sl.v152 c X fvX) _)) fun h18 => ?_
  refine tile_cons vXq.view f 17 inb_S32x32x256_S1x32x256_17_0_0 _ _ y _ (g 17 _ (chX17 (bodyRun.sl.v152 c X fvX) _)) fun h17 => ?_
  refine tile_cons vXq.view f 16 inb_S32x32x256_S1x32x256_16_0_0 _ _ y _ (g 16 _ (chX16 (bodyRun.sl.v152 c X fvX) _)) fun h16 => ?_
  refine tile_cons vXq.view f 15 inb_S32x32x256_S1x32x256_15_0_0 _ _ y _ (g 15 _ (chX15 (bodyRun.sl.v152 c X fvX) _)) fun h15 => ?_
  refine tile_cons vXq.view f 14 inb_S32x32x256_S1x32x256_14_0_0 _ _ y _ (g 14 _ (chX14 (bodyRun.sl.v152 c X fvX) _)) fun h14 => ?_
  refine tile_cons vXq.view f 13 inb_S32x32x256_S1x32x256_13_0_0 _ _ y _ (g 13 _ (chX13 (bodyRun.sl.v152 c X fvX) _)) fun h13 => ?_
  refine tile_cons vXq.view f 12 inb_S32x32x256_S1x32x256_12_0_0 _ _ y _ (g 12 _ (chX12 (bodyRun.sl.v152 c X fvX) _)) fun h12 => ?_
  refine tile_cons vXq.view f 11 inb_S32x32x256_S1x32x256_11_0_0 _ _ y _ (g 11 _ (chX11 (bodyRun.sl.v152 c X fvX) _)) fun h11 => ?_
  refine tile_cons vXq.view f 10 inb_S32x32x256_S1x32x256_10_0_0 _ _ y _ (g 10 _ (chX10 (bodyRun.sl.v152 c X fvX) _)) fun h10 => ?_
  refine tile_cons vXq.view f 9 inb_S32x32x256_S1x32x256_9_0_0 _ _ y _ (g 9 _ (chX9 (bodyRun.sl.v152 c X fvX) _)) fun h9 => ?_
  refine tile_cons vXq.view f 8 inb_S32x32x256_S1x32x256_8_0_0 _ _ y _ (g 8 _ (chX8 (bodyRun.sl.v152 c X fvX) _)) fun h8 => ?_
  refine tile_cons vXq.view f 7 inb_S32x32x256_S1x32x256_7_0_0 _ _ y _ (g 7 _ (chX7 (bodyRun.sl.v152 c X fvX) _)) fun h7 => ?_
  refine tile_cons vXq.view f 6 inb_S32x32x256_S1x32x256_6_0_0 _ _ y _ (g 6 _ (chX6 (bodyRun.sl.v152 c X fvX) _)) fun h6 => ?_
  refine tile_cons vXq.view f 5 inb_S32x32x256_S1x32x256_5_0_0 _ _ y _ (g 5 _ (chX5 (bodyRun.sl.v152 c X fvX) _)) fun h5 => ?_
  refine tile_cons vXq.view f 4 inb_S32x32x256_S1x32x256_4_0_0 _ _ y _ (g 4 _ (chX4 (bodyRun.sl.v152 c X fvX) _)) fun h4 => ?_
  refine tile_cons vXq.view f 3 inb_S32x32x256_S1x32x256_3_0_0 _ _ y _ (g 3 _ (chX3 (bodyRun.sl.v57 c X fvX) (bodyRun.sl.v143 c X fvX) _)) fun h3 => ?_
  refine tile_cons vXq.view f 2 inb_S32x32x256_S1x32x256_2_0_0 _ _ y _ (g 2 _ (chX2 (bodyRun.sl.v57 c X fvX) (bodyRun.sl.v143 c X fvX) _)) fun h2 => ?_
  refine tile_cons vXq.view f 1 inb_S32x32x256_S1x32x256_1_0_0 _ _ y _ (g 1 _ (chX1 (bodyRun.sl.v57 c X fvX) (bodyRun.sl.v143 c X fvX) _)) fun h1 => ?_
  refine tile_cons vXq.view f 0 inb_S32x32x256_S1x32x256_0_0_0 _ _ y _ (g 0 _ (chX0 (bodyRun.sl.v57 c X fvX) (bodyRun.sl.v143 c X fvX) _)) fun h0 => ?_
  have h : (y 0).val < 32 := (y 0).isLt
  omega

/-- The first accumulator after its loop. -/
theorem acc1_eq (j : S8x7424.Idx) :
    (View.read (Elt Ideal) vA1.view (acc1 c WG (vXq.view.writes (Elt Ideal) vXq.view.junk (bodyRun.sl.HvXq_32 c X fvX))
      (vA1.view.writes (Elt Ideal) vA1.view.junk bodyRun.sl.HvA1_1) 32) j : EReal) = dot1 X WG j := by
  refine acc1_all c WG (qx X) _ _ (fun y => ?_) (fun j => ?_) j
  · rw [xq_read c X fvX, v152_eq]
  · refine (congrFun (View.read_writes_full vA1.view _ _ _ []) j).trans ?_
    pointwise [k0_pay51]

/-- The scaling of a block of the first product. -/
theorem mul3 (s : FVec Ideal S8x1 .f32) (A : FVec Ideal S8x128 .f32) (d : FVec Ideal S1x128 .f32) (r : Fin 8) (l : Fin 128) :
    (k0_pay54 (F := Ideal) s A d (ix2 r l) : EReal) = A (ix2 r l) * s (ix2 r 0) * d (ix2 0 l) := by
  pointwise [k0_pay54]

/-- A block of 128 columns of the scaled product, as the kernel computes it. -/
theorem block (b : ℕ) (hb : b < 58) {off : Fin 2 → ℕ} {off2 : Fin 2 → ℕ} (inb : ∀ a, off a + S8x128.size a ≤ S8x7424.size a) (inb2)
    (e : off = ![0, 128 * b]) (e2 : off2 = ![b, 0]) (r : Fin 8) (l : Fin 128) :
    (k0_pay54 (F := Ideal) (bodyRun.sl.v141 c X fvX)
      (View.readAt (Elt Ideal) vA1.view (Rect.unit (s := S8x7424) off S8x128.size inb).toLoadRect
        (acc1 c WG (vXq.view.writes (Elt Ideal) vXq.view.junk (bodyRun.sl.HvXq_32 c X fvX))
          (vA1.view.writes (Elt Ideal) vA1.view.junk bodyRun.sl.HvA1_1) 32))
      (sgRow c SG fvSg off2 inb2) (ix2 r l) : EReal)
      = scaled1 X WG SG (ix2 r ⟨128 * b + l.val, by omega⟩) := by
  subst e e2
  refine (mul3 _ _ _ r l).trans ?_
  refine congrArg₂ (· * ·) (congrArg₂ (· * ·) ?_ (congrFun (v141_eq c X fvX) (ix2 r 0))) ?_
  · refine Eq.trans ?_ (acc1_eq c X WG fvX (ix2 r ⟨128 * b + l.val, by omega⟩))
    refine congrArg (View.read (Elt Ideal) vA1.view _) (funext fun a => Fin.ext ?_)
    fin_cases a
    · show 0 + 1 * r.val = r.val; omega
    · show 128 * b + 1 * l.val = 128 * b + l.val; omega
  · show View.read (Elt Ideal) vSg.view (View.write (Elt Ideal) vSg.view fvSg (bodyRun.sl.dma0_9 c SG) Finset.univ) _ = _
    rw [View.read_write_univ]
    refine congrArg SG (funext fun a => Fin.ext ?_)
    fin_cases a
    · show b + 1 * 0 = (128 * b + l.val) / 128; omega
    · show 0 + 1 * l.val = (128 * b + l.val) % 128; omega

/-- The gated product's buffer. -/
theorem vH_read (f : MBuf (F := Ideal) c vH) (y : S8x3712.Idx) :
    (View.read (Elt Ideal) vH.view (vH.view.writes (Elt Ideal) f (bodyRun.sl.HvH_29 c X WG SG fvX fvSg)) y : EReal) = hx X WG SG y := by
  rw [piece28]
  refine col_cons vH.view f 3584 inb_S8x3712_S8x128_0_3584 _ _ y _ (grp_hit (scaled1 X WG SG) 28 (by omega) _ _ (block c X WG SG fvX fvSg 56 (by omega) _ _ rfl rfl) (block c X WG SG fvX fvSg 57 (by omega) _ _ rfl rfl) y) fun h28 => ?_
  rw [piece27]
  refine col_cons vH.view f 3456 inb_S8x3712_S8x128_0_3456 _ _ y _ (grp_hit (scaled1 X WG SG) 27 (by omega) _ _ (block c X WG SG fvX fvSg 54 (by omega) _ _ rfl rfl) (block c X WG SG fvX fvSg 55 (by omega) _ _ rfl rfl) y) fun h27 => ?_
  rw [piece26]
  refine col_cons vH.view f 3328 inb_S8x3712_S8x128_0_3328 _ _ y _ (grp_hit (scaled1 X WG SG) 26 (by omega) _ _ (block c X WG SG fvX fvSg 52 (by omega) _ _ rfl rfl) (block c X WG SG fvX fvSg 53 (by omega) _ _ rfl rfl) y) fun h26 => ?_
  rw [piece25]
  refine col_cons vH.view f 3200 inb_S8x3712_S8x128_0_3200 _ _ y _ (grp_hit (scaled1 X WG SG) 25 (by omega) _ _ (block c X WG SG fvX fvSg 50 (by omega) _ _ rfl rfl) (block c X WG SG fvX fvSg 51 (by omega) _ _ rfl rfl) y) fun h25 => ?_
  rw [piece24]
  refine col_cons vH.view f 3072 inb_S8x3712_S8x128_0_3072 _ _ y _ (grp_hit (scaled1 X WG SG) 24 (by omega) _ _ (block c X WG SG fvX fvSg 48 (by omega) _ _ rfl rfl) (block c X WG SG fvX fvSg 49 (by omega) _ _ rfl rfl) y) fun h24 => ?_
  rw [piece23]
  refine col_cons vH.view f 2944 inb_S8x3712_S8x128_0_2944 _ _ y _ (grp_hit (scaled1 X WG SG) 23 (by omega) _ _ (block c X WG SG fvX fvSg 46 (by omega) _ _ rfl rfl) (block c X WG SG fvX fvSg 47 (by omega) _ _ rfl rfl) y) fun h23 => ?_
  rw [piece22]
  refine col_cons vH.view f 2816 inb_S8x3712_S8x128_0_2816 _ _ y _ (grp_hit (scaled1 X WG SG) 22 (by omega) _ _ (block c X WG SG fvX fvSg 44 (by omega) _ _ rfl rfl) (block c X WG SG fvX fvSg 45 (by omega) _ _ rfl rfl) y) fun h22 => ?_
  rw [piece21]
  refine col_cons vH.view f 2688 inb_S8x3712_S8x128_0_2688 _ _ y _ (grp_hit (scaled1 X WG SG) 21 (by omega) _ _ (block c X WG SG fvX fvSg 42 (by omega) _ _ rfl rfl) (block c X WG SG fvX fvSg 43 (by omega) _ _ rfl rfl) y) fun h21 => ?_
  rw [piece20]
  refine col_cons vH.view f 2560 inb_S8x3712_S8x128_0_2560 _ _ y _ (grp_hit (scaled1 X WG SG) 20 (by omega) _ _ (block c X WG SG fvX fvSg 40 (by omega) _ _ rfl rfl) (block c X WG SG fvX fvSg 41 (by omega) _ _ rfl rfl) y) fun h20 => ?_
  rw [piece19]
  refine col_cons vH.view f 2432 inb_S8x3712_S8x128_0_2432 _ _ y _ (grp_hit (scaled1 X WG SG) 19 (by omega) _ _ (block c X WG SG fvX fvSg 38 (by omega) _ _ rfl rfl) (block c X WG SG fvX fvSg 39 (by omega) _ _ rfl rfl) y) fun h19 => ?_
  rw [piece18]
  refine col_cons vH.view f 2304 inb_S8x3712_S8x128_0_2304 _ _ y _ (grp_hit (scaled1 X WG SG) 18 (by omega) _ _ (block c X WG SG fvX fvSg 36 (by omega) _ _ rfl rfl) (block c X WG SG fvX fvSg 37 (by omega) _ _ rfl rfl) y) fun h18 => ?_
  rw [piece17]
  refine col_cons vH.view f 2176 inb_S8x3712_S8x128_0_2176 _ _ y _ (grp_hit (scaled1 X WG SG) 17 (by omega) _ _ (block c X WG SG fvX fvSg 34 (by omega) _ _ rfl rfl) (block c X WG SG fvX fvSg 35 (by omega) _ _ rfl rfl) y) fun h17 => ?_
  rw [piece16]
  refine col_cons vH.view f 2048 inb_S8x3712_S8x128_0_2048 _ _ y _ (grp_hit (scaled1 X WG SG) 16 (by omega) _ _ (block c X WG SG fvX fvSg 32 (by omega) _ _ rfl rfl) (block c X WG SG fvX fvSg 33 (by omega) _ _ rfl rfl) y) fun h16 => ?_
  rw [piece15]
  refine col_cons vH.view f 1920 inb_S8x3712_S8x128_0_1920 _ _ y _ (grp_hit (scaled1 X WG SG) 15 (by omega) _ _ (block c X WG SG fvX fvSg 30 (by omega) _ _ rfl rfl) (block c X WG SG fvX fvSg 31 (by omega) _ _ rfl rfl) y) fun h15 => ?_
  rw [piece14]
  refine col_cons vH.view f 1792 inb_S8x3712_S8x128_0_1792 _ _ y _ (grp_hit (scaled1 X WG SG) 14 (by omega) _ _ (block c X WG SG fvX fvSg 28 (by omega) _ _ rfl rfl) (block c X WG SG fvX fvSg 29 (by omega) _ _ rfl rfl) y) fun h14 => ?_
  rw [piece13]
  refine col_cons vH.view f 1664 inb_S8x3712_S8x128_0_1664 _ _ y _ (grp_hit (scaled1 X WG SG) 13 (by omega) _ _ (block c X WG SG fvX fvSg 26 (by omega) _ _ rfl rfl) (block c X WG SG fvX fvSg 27 (by omega) _ _ rfl rfl) y) fun h13 => ?_
  rw [piece12]
  refine col_cons vH.view f 1536 inb_S8x3712_S8x128_0_1536 _ _ y _ (grp_hit (scaled1 X WG SG) 12 (by omega) _ _ (block c X WG SG fvX fvSg 24 (by omega) _ _ rfl rfl) (block c X WG SG fvX fvSg 25 (by omega) _ _ rfl rfl) y) fun h12 => ?_
  rw [piece11]
  refine col_cons vH.view f 1408 inb_S8x3712_S8x128_0_1408 _ _ y _ (grp_hit (scaled1 X WG SG) 11 (by omega) _ _ (block c X WG SG fvX fvSg 22 (by omega) _ _ rfl rfl) (block c X WG SG fvX fvSg 23 (by omega) _ _ rfl rfl) y) fun h11 => ?_
  rw [piece10]
  refine col_cons vH.view f 1280 inb_S8x3712_S8x128_0_1280 _ _ y _ (grp_hit (scaled1 X WG SG) 10 (by omega) _ _ (block c X WG SG fvX fvSg 20 (by omega) _ _ rfl rfl) (block c X WG SG fvX fvSg 21 (by omega) _ _ rfl rfl) y) fun h10 => ?_
  rw [piece9]
  refine col_cons vH.view f 1152 inb_S8x3712_S8x128_0_1152 _ _ y _ (grp_hit (scaled1 X WG SG) 9 (by omega) _ _ (block c X WG SG fvX fvSg 18 (by omega) _ _ rfl rfl) (block c X WG SG fvX fvSg 19 (by omega) _ _ rfl rfl) y) fun h9 => ?_
  rw [piece8]
  refine col_cons vH.view f 1024 inb_S8x3712_S8x128_0_1024 _ _ y _ (grp_hit (scaled1 X WG SG) 8 (by omega) _ _ (block c X WG SG fvX fvSg 16 (by omega) _ _ rfl rfl) (block c X WG SG fvX fvSg 17 (by omega) _ _ rfl rfl) y) fun h8 => ?_
  rw [piece7]
  refine col_cons vH.view f 896 inb_S8x3712_S8x128_0_896 _ _ y _ (grp_hit (scaled1 X WG SG) 7 (by omega) _ _ (block c X WG SG fvX fvSg 14 (by omega) _ _ rfl rfl) (block c X WG SG fvX fvSg 15 (by omega) _ _ rfl rfl) y) fun h7 => ?_
  rw [piece6]
  refine col_cons vH.view f 768 inb_S8x3712_S8x128_0_768 _ _ y _ (grp_hit (scaled1 X WG SG) 6 (by omega) _ _ (block c X WG SG fvX fvSg 12 (by omega) _ _ rfl rfl) (block c X WG SG fvX fvSg 13 (by omega) _ _ rfl rfl) y) fun h6 => ?_
  rw [piece5]
  refine col_cons vH.view f 640 inb_S8x3712_S8x128_0_640 _ _ y _ (grp_hit (scaled1 X WG SG) 5 (by omega) _ _ (block c X WG SG fvX fvSg 10 (by omega) _ _ rfl rfl) (block c X WG SG fvX fvSg 11 (by omega) _ _ rfl rfl) y) fun h5 => ?_
  rw [piece4]
  refine col_cons vH.view f 512 inb_S8x3712_S8x128_0_512 _ _ y _ (grp_hit (scaled1 X WG SG) 4 (by omega) _ _ (block c X WG SG fvX fvSg 8 (by omega) _ _ rfl rfl) (block c X WG SG fvX fvSg 9 (by omega) _ _ rfl rfl) y) fun h4 => ?_
  rw [piece3]
  refine col_cons vH.view f 384 inb_S8x3712_S8x128_0_384 _ _ y _ (grp_hit (scaled1 X WG SG) 3 (by omega) _ _ (block c X WG SG fvX fvSg 6 (by omega) _ _ rfl rfl) (block c X WG SG fvX fvSg 7 (by omega) _ _ rfl rfl) y) fun h3 => ?_
  rw [piece2]
  refine col_cons vH.view f 256 inb_S8x3712_S8x128_0_256 _ _ y _ (grp_hit (scaled1 X WG SG) 2 (by omega) _ _ (block c X WG SG fvX fvSg 4 (by omega) _ _ rfl rfl) (block c X WG SG fvX fvSg 5 (by omega) _ _ rfl rfl) y) fun h2 => ?_
  rw [piece1]
  refine col_cons vH.view f 128 inb_S8x3712_S8x128_0_128 _ _ y _ (grp_hit (scaled1 X WG SG) 1 (by omega) _ _ (block c X WG SG fvX fvSg 2 (by omega) _ _ rfl rfl) (block c X WG SG fvX fvSg 3 (by omega) _ _ rfl rfl) y) fun h1 => ?_
  rw [piece0]
  refine col_cons vH.view f 0 inb_S8x3712_S8x128_0_0 _ _ y _ (grp_hit (scaled1 X WG SG) 0 (by omega) _ _ (block c X WG SG fvX fvSg 0 (by omega) _ _ rfl rfl) (block c X WG SG fvX fvSg 1 (by omega) _ _ rfl rfl) y) fun h0 => ?_
  have h : (y 1).val < 3712 := (y 1).isLt
  omega

/-- The gated product as the kernel reads it back. -/
theorem v2642_eq : bodyRun.sl.v2642 c X WG SG fvX fvSg = hx X WG SG := by
  unfold bodyRun.sl.v2642 View.readCov
  rw [View.readAt_full]
  exact funext fun y => vH_read c X WG SG fvX fvSg _ y

/-- Its scales. -/
theorem v2726_eq : bodyRun.sl.v2726 c X WG SG fvX fvSg = sh X WG SG := by
  unfold bodyRun.sl.v2726 bodyRun.sl.v2690 bodyRun.sl.v2692 bodyRun.sl.v2645 bodyRun.sl.v2647
  rw [v2642_eq]
  rfl

/-- Its codes. -/
theorem v2737_eq : (bodyRun.sl.v2737 c X WG SG fvX fvSg : S8x3712.Idx → EReal) = qh X WG SG := by
  unfold bodyRun.sl.v2737 bodyRun.sl.v2690 bodyRun.sl.v2692 bodyRun.sl.v2645 bodyRun.sl.v2647
  rw [v2642_eq]
  rfl

/-- The chunks of the gated product's codes, below the last, shorter one. -/
theorem hq_read (f : MBuf (F := Ideal) c vHq) (y : S15x32x256.Idx) (hy : (y 0).val < 14) :
    (View.read (Elt Ideal) vHq.view (vHq.view.writes (Elt Ideal) f
      (⟨Rect.unit ![14, 0, 0] S1x32x128.size inb_S15x32x256_S1x32x128_14_0_0, k0_pay295 (bodyRun.sl.v2843 c X WG SG fvX fvSg)⟩ :: bodyRun.sl.HvHq_14 c X WG SG fvX fvSg)) y : EReal)
      = chunkH (bodyRun.sl.v2737 c X WG SG fvX fvSg) ⟨(y 0).val, hy⟩ (ix3 0 (y 1) (y 2)) := by
  have g : ∀ (k : Fin 14) (w : EReal), w = chunkH (bodyRun.sl.v2737 c X WG SG fvX fvSg) k (ix3 0 (y 1) (y 2)) → (y 0).val = k.val →
      w = chunkH (bodyRun.sl.v2737 c X WG SG fvX fvSg) ⟨(y 0).val, hy⟩ (ix3 0 (y 1) (y 2)) :=
    fun k w e h => e.trans (congrArg (fun k => chunkH (bodyRun.sl.v2737 c X WG SG fvX fvSg) k (ix3 0 (y 1) (y 2))) (show k = ⟨(y 0).val, hy⟩ from Fin.ext h.symm))
  refine (View.read_writes_cons_unit_of_not_mem vHq.view f inb_S15x32x256_S1x32x128_14_0_0 _ _ y rfl 0 (Or.inl hy)).trans ?_
  refine tile_cons vHq.view f 13 inb_S15x32x256_S1x32x256_13_0_0 _ _ y _ (g 13 _ (chH13 (bodyRun.sl.v2737 c X WG SG fvX fvSg) _)) fun h13 => ?_
  refine tile_cons vHq.view f 12 inb_S15x32x256_S1x32x256_12_0_0 _ _ y _ (g 12 _ (chH12 (bodyRun.sl.v2737 c X WG SG fvX fvSg) _)) fun h12 => ?_
  refine tile_cons vHq.view f 11 inb_S15x32x256_S1x32x256_11_0_0 _ _ y _ (g 11 _ (chH11 (bodyRun.sl.v2737 c X WG SG fvX fvSg) _)) fun h11 => ?_
  refine tile_cons vHq.view f 10 inb_S15x32x256_S1x32x256_10_0_0 _ _ y _ (g 10 _ (chH10 (bodyRun.sl.v2737 c X WG SG fvX fvSg) _)) fun h10 => ?_
  refine tile_cons vHq.view f 9 inb_S15x32x256_S1x32x256_9_0_0 _ _ y _ (g 9 _ (chH9 (bodyRun.sl.v2737 c X WG SG fvX fvSg) _)) fun h9 => ?_
  refine tile_cons vHq.view f 8 inb_S15x32x256_S1x32x256_8_0_0 _ _ y _ (g 8 _ (chH8 (bodyRun.sl.v2737 c X WG SG fvX fvSg) _)) fun h8 => ?_
  refine tile_cons vHq.view f 7 inb_S15x32x256_S1x32x256_7_0_0 _ _ y _ (g 7 _ (chH7 (bodyRun.sl.v2737 c X WG SG fvX fvSg) _)) fun h7 => ?_
  refine tile_cons vHq.view f 6 inb_S15x32x256_S1x32x256_6_0_0 _ _ y _ (g 6 _ (chH6 (bodyRun.sl.v2737 c X WG SG fvX fvSg) _)) fun h6 => ?_
  refine tile_cons vHq.view f 5 inb_S15x32x256_S1x32x256_5_0_0 _ _ y _ (g 5 _ (chH5 (bodyRun.sl.v2737 c X WG SG fvX fvSg) _)) fun h5 => ?_
  refine tile_cons vHq.view f 4 inb_S15x32x256_S1x32x256_4_0_0 _ _ y _ (g 4 _ (chH4 (bodyRun.sl.v2737 c X WG SG fvX fvSg) _)) fun h4 => ?_
  refine tile_cons vHq.view f 3 inb_S15x32x256_S1x32x256_3_0_0 _ _ y _ (g 3 _ (chH3 (bodyRun.sl.v2737 c X WG SG fvX fvSg) _)) fun h3 => ?_
  refine tile_cons vHq.view f 2 inb_S15x32x256_S1x32x256_2_0_0 _ _ y _ (g 2 _ (chH2 (bodyRun.sl.v2737 c X WG SG fvX fvSg) _)) fun h2 => ?_
  refine tile_cons vHq.view f 1 inb_S15x32x256_S1x32x256_1_0_0 _ _ y _ (g 1 _ (chH1 (bodyRun.sl.v2737 c X WG SG fvX fvSg) _)) fun h1 => ?_
  refine tile_cons vHq.view f 0 inb_S15x32x256_S1x32x256_0_0_0 _ _ y _ (g 0 _ (chH0 (bodyRun.sl.v2737 c X WG SG fvX fvSg) _)) fun h0 => ?_
  omega

/-- The last chunk. -/
theorem v2872_eq (r : Fin 8) (l : Fin 128) :
    (bodyRun.sl.v2872 c X WG SG fvX fvSg (ix2 ⟨r.val, by omega⟩ l) : EReal) = qh X WG SG (ix2 r ⟨3584 + l.val, by omega⟩) := by
  have h298 : ∀ v : Vec Ideal S1x32x128 .fp8e4m3, (k0_pay298 (F := Ideal) v (ix2 ⟨r.val, by omega⟩ l) : EReal) = v (ix3 0 ⟨r.val, by omega⟩ l) := fun v => by
    pointwise [k0_pay298]
  have h295 : ∀ v : FVec Ideal S32x128 .fp8e4m3, (k0_pay295 (F := Ideal) v (ix3 0 ⟨r.val, by omega⟩ l) : EReal) = v (ix2 ⟨r.val, by omega⟩ l) := fun v => by
    pointwise [k0_pay295]
  refine (h298 _).trans ?_
  unfold bodyRun.sl.v2871 View.readCov
  rw [View.readAt_apply]
  refine (View.read_writes_cons_unit_of_mem vHq.view _ inb_S15x32x256_S1x32x128_14_0_0 _ _ _ (ix3 0 ⟨r.val, by omega⟩ l) rfl fun a => ?_).trans ?_
  · fin_cases a
    · show 14 + 1 * 0 = 14 + 0; omega
    · show 0 + 1 * r.val = 0 + r.val; omega
    · show 0 + 1 * l.val = 0 + l.val; omega
  · refine (h295 _).trans ((chT _ r l).trans ?_)
    exact congrFun (v2737_eq c X WG SG fvX fvSg) _

/-- The output. -/
theorem out_eq (fvHq : MBuf (F := Ideal) c vHq) (j : S8x8192.Idx) :
    (k0_pay1 (F := Ideal) (bodyRun.sl.v2726 c X WG SG fvX fvSg) (bodyRun.sl.v2872 c X WG SG fvX fvSg) (bodyRun.sl.v2873 c WD)
      (bodyRun.sl.v2876 c X WG SG WD fvX fvSg fvHq)
      (View.readAt (Elt Ideal) vSd.view (Rect.unit ![0, 0] S1x8192.size inb_S1x8192_S1x8192_0_0).toLoadRect
        (View.write (Elt Ideal) vSd.view fvSd (bodyRun.sl.dma0_10 c SD) Finset.univ)) j : EReal) = outx X WG SG WD SD j := by
  refine (mmT _ _ _ _ _ j).trans ?_
  unfold outx
  rw [v2726_eq, View.readAt_full, View.read_write_univ]
  refine congrArg₂ (· * ·) (congrArg (· * sh X WG SG (ix2 (j 0) 0)) ?_) rfl
  refine Eq.trans (congrArg₂ (· + ·) (congrFun (View.readAt_full vA2.view _ _) j) (Finset.sum_congr rfl fun l _ =>
    congrArg₂ (· * ·) (v2872_eq c X WG SG fvX fvSg (j 0) l) (wrdT_eq c WD l (j 1)))) ?_
  refine acc2_all c WD (qh X WG SG) _ _ (fun y h => ?_) (fun j => ?_) j
  · rw [hq_read c X WG SG fvX fvSg fvHq y h, v2737_eq]
  · refine (congrFun (View.read_writes_full vA2.view _ _ _ []) j).trans ?_
    pointwise [k0_pay52]

end Buffers

end Cert.Value

end
-- ==== Proof.V.Link.lean ====
/-
  The reference's body over the reals, as the same mathematics as the kernel's buffers (Buffers.lean): the gated product,
  its codes and scales, and the output. The reference reads the first weights' scales as one row of 7424, the kernel as 58
  rows of 128.
-/
module

public import proofs.«01_k».proof.Proof.V.Buffers

@[expose] public section

set_option maxRecDepth 16384

noncomputable section

namespace Cert.Value

open Idealize.ShloMosaic Idealize.SL.Sem Idealize.ShloMosaic.Pointwise

section Link
variable (X : KernelIdeal.S8x8192.Idx → EReal) (WG : KernelIdeal.S8192x7424.Idx → EReal) (SG : KernelIdeal.S58x128.Idx → EReal)
  (WD : KernelIdeal.S3712x8192.Idx → EReal) (SD : KernelIdeal.S1x8192.Idx → EReal) (SR : ReferenceIdeal.S1x7424.Idx → EReal)

/-- The two layouts of the first weights' scales hold the same 7424 numbers. -/
def SameScales : Prop := ∀ j : Fin 7424, SR (ix2 0 j) = SG (ix2 ⟨j.val / 128, by omega⟩ ⟨j.val % 128, by omega⟩)

/-- The reference's scaled first product, laid out as pairs of neighbouring columns. -/
theorem pay7_eq (h : SameScales SG SR) (r : Fin 8) (j : Fin 3712) (b : Fin 2) :
    (ReferenceIdeal.Gen.k0_pay7 (F := Ideal) X WG SR (ix3 r j b) : EReal) = scaled1 X WG SG (ix2 r ⟨2 * j.val + b.val, by omega⟩) := by
  pointwise [ReferenceIdeal.Gen.k0_pay7]
  have e : (⟨2 * j.val + b.val, by omega⟩ : Fin 7424) = ⟨j.val * 2 + b.val, by omega⟩ := Fin.ext (by show 2 * j.val + b.val = j.val * 2 + b.val; omega)
  rw [e, h]
  rfl

/-- The reference's gated product. -/
theorem pay9_eq (h : SameScales SG SR) :
    ReferenceIdeal.Gen.k0_pay9 (F := Ideal) (ReferenceIdeal.Gen.k0_pay7 X WG SR) (ReferenceIdeal.Gen.k0_pay8 X WG SR) = hx X WG SG := by
  funext y
  have e : ∀ (g2 : FVec Ideal ReferenceIdeal.S8x3712x2 .f32),
      (ReferenceIdeal.Gen.k0_pay9 (F := Ideal) g2 (extractStridedSlice ReferenceIdeal.S8x3712x1 ![0, 0, 0] g2 ReferenceIdeal.Gen.slices_S8x3712x2_o0_0_0_S8x3712x1) y : EReal)
        = g2 (ix3 (y 0) (y 1) 0) * Ideal.logistic (g2 (ix3 (y 0) (y 1) 0)) * g2 (ix3 (y 0) (y 1) 1) := fun g2 => by
    pointwise [ReferenceIdeal.Gen.k0_pay9]
  refine (e (ReferenceIdeal.Gen.k0_pay7 X WG SR)).trans ?_
  have p := pay7_eq X WG SG SR h (y 0) (y 1) 0
  have q := pay7_eq X WG SG SR h (y 0) (y 1) 1
  exact congrArg₂ (· * ·) (congrArg₂ (fun a b => a * Ideal.logistic b) p p) q

/-- The reference's codes of it. -/
theorem pay11_eq (h : SameScales SG SR) (y : KernelIdeal.S8x3712.Idx) :
    (ReferenceIdeal.Gen.k0_pay11 (F := Ideal) (ReferenceIdeal.Gen.k0_pay7 X WG SR) (ReferenceIdeal.Gen.k0_pay8 X WG SR) y : EReal) = qh X WG SG y :=
  (codesH (hx X WG SG) _ _ (pay9_eq X WG SG SR h) y).symm

/-- The reference's scales of it. -/
theorem pay12_eq (h : SameScales SG SR) :
    ReferenceIdeal.Gen.k0_pay12 (F := Ideal) (ReferenceIdeal.Gen.k0_pay7 X WG SR) (ReferenceIdeal.Gen.k0_pay8 X WG SR) = sh X WG SG :=
  (scaleH (hx X WG SG) _ _ (pay9_eq X WG SG SR h)).symm

/-- The reference's output. -/
theorem pay13_eq (h : SameScales SG SR) (j : KernelIdeal.S8x8192.Idx) :
    (ReferenceIdeal.Gen.k0_pay13 (F := Ideal) (ReferenceIdeal.Gen.k0_pay7 X WG SR) (ReferenceIdeal.Gen.k0_pay8 X WG SR) WD SD j : EReal) = outx X WG SG WD SD j := by
  have e : ∀ (g2 : FVec Ideal ReferenceIdeal.S8x3712x2 .f32) (g1 : FVec Ideal ReferenceIdeal.S8x3712x1 .f32),
      (ReferenceIdeal.Gen.k0_pay13 (F := Ideal) g2 g1 WD SD j : EReal)
        = (∑ k : Fin 3712, (ReferenceIdeal.Gen.k0_pay11 (F := Ideal) g2 g1 (ix2 (j 0) k) : EReal) * WD (ix2 k (j 1)))
          * ReferenceIdeal.Gen.k0_pay12 (F := Ideal) g2 g1 (ix2 (j 0) 0) * SD (ix2 0 (j 1)) := fun g2 g1 => by
    pointwise [ReferenceIdeal.Gen.k0_pay13]
  refine (e _ _).trans ?_
  unfold outx
  rw [pay12_eq X WG SG SR h]
  exact congrArg (· * SD (ix2 0 (j 1))) (congrArg (· * sh X WG SG (ix2 (j 0) 0)) (Finset.sum_congr rfl fun k _ =>
    congrArg (· * WD (ix2 k (j 1))) (pay11_eq X WG SG SR h _)))

end Link

end Cert.Value

end
-- ==== Proof.V.Result.lean ====
/-
  The five results of the kernel's run, over the reals: at whatever contents the overwritten buffers had, they are the
  mathematics of Buffers.lean.
-/
module

public import proofs.«01_k».proof.Proof.V.Buffers

@[expose] public section

set_option maxRecDepth 16384

noncomputable section

namespace Cert.Value

open Idealize.ShloMosaic Idealize.SL.Sem Idealize.ShloMosaic.Pointwise Cert.KernelIdeal Cert.KernelIdeal.Gen Cert.KernelIdeal.Hand

section Result
variable (c : Dev nD) (X : MBuf (F := Ideal) c mX) (WG : MBuf (F := Ideal) c mWg) (SG : MBuf (F := Ideal) c mSg) (WD : MBuf (F := Ideal) c mWd) (SD : MBuf (F := Ideal) c mSd)
variable (fvX : MBuf (F := Ideal) c vX) (fvSg : MBuf (F := Ideal) c vSg) (fvSd : MBuf (F := Ideal) c vSd)

/-- A column of eight scales as a row: the column's entries. -/
def rowx (v : S8x1.Idx → EReal) (j : S1x8.Idx) : EReal := v (ix2 (j 1) 0)

/-- The output. -/
theorem res0 (fvHq : MBuf (F := Ideal) c vHq) (fvO : MBuf (F := Ideal) c vO) (o : MBuf (F := Ideal) c mO) :
    ((bodyRun (F := Ideal) c X WG SG WD SD).1.1 fvX fvSg fvSd fvHq fvO o : S8x8192.Idx → EReal) = outx X WG SG WD SD := by
  refine Eq.trans (show (bodyRun (F := Ideal) c X WG SG WD SD).1.1 fvX fvSg fvSd fvHq fvO o
    = View.write (Elt Ideal) mO.view o (bodyRun.sl.dma6 c X WG SG WD SD fvX fvSg fvSd fvHq fvO) Finset.univ from rfl) ?_
  refine (View.write_whole_univ _ _ _).trans ?_
  unfold bodyRun.sl.dma6 bodyRun.sl.HvO_1
  refine (View.read_writes_full vO.view _ _ _ []).trans ?_
  exact funext fun j => out_eq c X WG SG WD SD fvX fvSg fvSd fvHq j

/-- The input's codes. -/
theorem res1 (fvXc : MBuf (F := Ideal) c vXc) (o : MBuf (F := Ideal) c mXc) :
    ((bodyRun (F := Ideal) c X WG SG WD SD).1.2.1 fvX fvXc o : S8x8192.Idx → EReal) = qx X := by
  refine Eq.trans (show (bodyRun (F := Ideal) c X WG SG WD SD).1.2.1 fvX fvXc o
    = View.write (Elt Ideal) mXc.view o (bodyRun.sl.dma69 c X fvX fvXc) Finset.univ from rfl) ?_
  refine (View.write_whole_univ _ _ _).trans ?_
  unfold bodyRun.sl.dma69 bodyRun.sl.HvXc_1
  refine (View.read_writes_full vXc.view _ _ _ []).trans ?_
  rw [v57_eq, v143_eq]
  funext j
  have e : ∀ a b, (k0_pay11 (F := Ideal) a b j : EReal) = k0_pay10 (F := Ideal) a b j := fun a b => by pointwise [k0_pay11]
  exact (e _ _).trans (codesX X j)

/-- The input's scales. -/
theorem res2 (fvXs : MBuf (F := Ideal) c vXs) (o : MBuf (F := Ideal) c mXs) :
    ((bodyRun (F := Ideal) c X WG SG WD SD).1.2.2.1 fvX fvXs o : S1x8.Idx → EReal) = rowx (sx X) := by
  refine Eq.trans (show (bodyRun (F := Ideal) c X WG SG WD SD).1.2.2.1 fvX fvXs o
    = View.write (Elt Ideal) mXs.view o (bodyRun.sl.dma69_1 c X fvX fvXs) Finset.univ from rfl) ?_
  refine (View.write_whole_univ _ _ _).trans ?_
  unfold bodyRun.sl.dma69_1 bodyRun.sl.HvXs_1
  refine (View.read_writes_full vXs.view _ _ _ []).trans ?_
  unfold bodyRun.sl.v393
  rw [v141_eq]
  exact funext fun j => rowOf (sx X) j

/-- The codes of the gated product. -/
theorem res3 (fvHc : MBuf (F := Ideal) c vHc) (o : MBuf (F := Ideal) c mHc) :
    ((bodyRun (F := Ideal) c X WG SG WD SD).1.2.2.2.1 fvX fvSg fvHc o : S8x3712.Idx → EReal) = qh X WG SG := by
  refine Eq.trans (show (bodyRun (F := Ideal) c X WG SG WD SD).1.2.2.2.1 fvX fvSg fvHc o
    = View.write (Elt Ideal) mHc.view o (bodyRun.sl.dma209 c X WG SG fvX fvSg fvHc) Finset.univ from rfl) ?_
  refine (View.write_whole_univ _ _ _).trans ?_
  unfold bodyRun.sl.dma209 bodyRun.sl.HvHc_1
  refine (View.read_writes_full vHc.view _ _ _ []).trans ?_
  funext j
  have e : ∀ a, (k0_pay277 (F := Ideal) a j : EReal) = a j := fun a => by pointwise [k0_pay277]
  exact (e _).trans (congrFun (v2737_eq c X WG SG fvX fvSg) j)

/-- The scales of the gated product. -/
theorem res4 (fvHs : MBuf (F := Ideal) c vHs) (o : MBuf (F := Ideal) c mHs) :
    ((bodyRun (F := Ideal) c X WG SG WD SD).1.2.2.2.2 fvX fvSg fvHs o : S1x8.Idx → EReal) = rowx (sh X WG SG) := by
  refine Eq.trans (show (bodyRun (F := Ideal) c X WG SG WD SD).1.2.2.2.2 fvX fvSg fvHs o
    = View.write (Elt Ideal) mHs.view o (bodyRun.sl.dma209_1 c X WG SG fvX fvSg fvHs) Finset.univ from rfl) ?_
  refine (View.write_whole_univ _ _ _).trans ?_
  unfold bodyRun.sl.dma209_1 bodyRun.sl.HvHs_1
  refine (View.read_writes_full vHs.view _ _ _ []).trans ?_
  rw [v2726_eq]
  exact funext fun j => rowOfH (sh X WG SG) j

end Result

end Cert.Value

end
-- ==== Proof.V.Reference.lean ====
/-
  The reference's run with its values, at any floats: each of its five results is the body's own expression of the region's
  operands, and its arguments end unchanged. The operands are the arguments, three of them reshaped.
-/
module

public import proofs.«01_k».proof.Defs
public import proofs.«01_k».proof.Proof.Gen.ReferenceIdeal.Frame
public import Idealize.ShloMosaic.Lib.Pipeline.Value
public import Idealize.ShloMosaic.Lib.Affine

@[expose] public section

set_option maxRecDepth 16384

noncomputable section

namespace Cert.Reference

open Idealize.ShloMosaic Idealize.SL.Sem Cert.ReferenceIdeal
open Cert.ReferenceIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The one grid point. -/
def t₀ : Fin cfg0.N := ⟨0, by decide⟩

/-! ## The body's stores -/

/-- Offsets zero. -/
theorem z_S8x8192 : (![0, 0] : Fin S8x8192.rank → Nat) = fun _ => 0 := funext fun a => by fin_cases a <;> rfl
/-- Offsets zero. -/
theorem z_S8192x7424 : (![0, 0] : Fin S8192x7424.rank → Nat) = fun _ => 0 := funext fun a => by fin_cases a <;> rfl
/-- Offsets zero. -/
theorem z_S1x7424 : (![0, 0] : Fin S1x7424.rank → Nat) = fun _ => 0 := funext fun a => by fin_cases a <;> rfl
/-- Offsets zero. -/
theorem z_S3712x8192 : (![0, 0] : Fin S3712x8192.rank → Nat) = fun _ => 0 := funext fun a => by fin_cases a <;> rfl
/-- Offsets zero. -/
theorem z_S1x8192 : (![0, 0] : Fin S1x8192.rank → Nat) = fun _ => 0 := funext fun a => by fin_cases a <;> rfl
/-- Offsets zero. -/
theorem z_S1x8 : (![0, 0] : Fin S1x8.rank → Nat) = fun _ => 0 := funext fun a => by fin_cases a <;> rfl
/-- Offsets zero. -/
theorem z_S8x3712 : (![0, 0] : Fin S8x3712.rank → Nat) = fun _ => 0 := funext fun a => by fin_cases a <;> rfl
/-- A load of the whole input is the input. -/
theorem ld0 (x : Vec F S8x8192 .bf16) : View.ld x r0_0 = x := by rw [View.ld_unit_zero z_S8x8192]
/-- The same of the first weights. -/
theorem ld1 (x : Vec F S8192x7424 .fp8e4m3) : View.ld x r0_1 = x := by rw [View.ld_unit_zero z_S8192x7424]
/-- The same of their scales. -/
theorem ld2 (x : Vec F S1x7424 .f32) : View.ld x r0_2 = x := by rw [View.ld_unit_zero z_S1x7424]
/-- The same of the second weights. -/
theorem ld3 (x : Vec F S3712x8192 .fp8e4m3) : View.ld x r0_3 = x := by rw [View.ld_unit_zero z_S3712x8192]
/-- The same of their scales. -/
theorem ld4 (x : Vec F S1x8192 .f32) : View.ld x r0_4 = x := by rw [View.ld_unit_zero z_S1x8192]

/-- What the body leaves for the output: its payload of the whole operands. -/
theorem out5 (x0 : Vec F S8x8192 .bf16) (x1 : Vec F S8192x7424 .fp8e4m3) (x2 : Vec F S1x7424 .f32) (x3 : Vec F S3712x8192 .fp8e4m3) (x4 : Vec F S1x8192 .f32) :
    out0_5 (F := F) x0 x1 x2 x3 x4 = k0_pay13 (k0_pay7 x0 x1 x2) (k0_pay8 x0 x1 x2) x3 x4 := by
  unfold out0_5
  rw [View.canon_unit_zero z_S8x8192]
  try unfold Cert.ReferenceIdeal.Gen.k0_pay14
  try unfold Cert.ReferenceIdeal.Gen.k0_pay15
  simp only [ld0, ld1, ld2, ld3, ld4]

/-- What the body leaves for the input's codes: its payload of the whole operands. -/
theorem out6 (x0 : Vec F S8x8192 .bf16) (x1 : Vec F S8192x7424 .fp8e4m3) (x2 : Vec F S1x7424 .f32) (x3 : Vec F S3712x8192 .fp8e4m3) (x4 : Vec F S1x8192 .f32) :
    out0_6 (F := F) x0 x1 x2 x3 x4 = k0_pay5 x0 := by
  unfold out0_6
  rw [View.canon_unit_zero z_S8x8192]
  try unfold Cert.ReferenceIdeal.Gen.k0_pay14
  try unfold Cert.ReferenceIdeal.Gen.k0_pay15
  simp only [ld0, ld1, ld2, ld3, ld4]

/-- What the body leaves for the input's scales: its payload of the whole operands. -/
theorem out7 (x0 : Vec F S8x8192 .bf16) (x1 : Vec F S8192x7424 .fp8e4m3) (x2 : Vec F S1x7424 .f32) (x3 : Vec F S3712x8192 .fp8e4m3) (x4 : Vec F S1x8192 .f32) :
    out0_7 (F := F) x0 x1 x2 x3 x4 = k0_pay1 (k0_pay6 x0) := by
  unfold out0_7
  rw [View.canon_unit_zero z_S1x8]
  try unfold Cert.ReferenceIdeal.Gen.k0_pay14
  try unfold Cert.ReferenceIdeal.Gen.k0_pay15
  simp only [ld0, ld1, ld2, ld3, ld4]

/-- What the body leaves for the codes of the gated product: its payload of the whole operands. -/
theorem out8 (x0 : Vec F S8x8192 .bf16) (x1 : Vec F S8192x7424 .fp8e4m3) (x2 : Vec F S1x7424 .f32) (x3 : Vec F S3712x8192 .fp8e4m3) (x4 : Vec F S1x8192 .f32) :
    out0_8 (F := F) x0 x1 x2 x3 x4 = k0_pay11 (k0_pay7 x0 x1 x2) (k0_pay8 x0 x1 x2) := by
  unfold out0_8
  rw [View.canon_unit_zero z_S8x3712]
  try unfold Cert.ReferenceIdeal.Gen.k0_pay14
  try unfold Cert.ReferenceIdeal.Gen.k0_pay15
  simp only [ld0, ld1, ld2, ld3, ld4]

/-- What the body leaves for the scales of the gated product: its payload of the whole operands. -/
theorem out9 (x0 : Vec F S8x8192 .bf16) (x1 : Vec F S8192x7424 .fp8e4m3) (x2 : Vec F S1x7424 .f32) (x3 : Vec F S3712x8192 .fp8e4m3) (x4 : Vec F S1x8192 .f32) :
    out0_9 (F := F) x0 x1 x2 x3 x4 = k0_pay2 (k0_pay12 (k0_pay7 x0 x1 x2) (k0_pay8 x0 x1 x2)) := by
  unfold out0_9
  rw [View.canon_unit_zero z_S1x8]
  try unfold Cert.ReferenceIdeal.Gen.k0_pay14
  try unfold Cert.ReferenceIdeal.Gen.k0_pay15
  simp only [ld0, ld1, ld2, ld3, ld4]

/-! ## The operands' blocks and the results' arrays -/

/-- The first operand's block is the whole operand. -/
theorem blk0 (c : Dev nD) : iblk m c 0 t₀ = V m c main_v0 := by
  have hz : (fun a => (win0_0.index t₀) a * main_v0.ty.shape.size a) = fun _ => 0 :=
    funext fun a => by fin_cases a <;> decide
  unfold iblk
  exact Memref.read_access_unit_zero (Elt F) main_v0 hz (fun a => by fin_cases a <;> decide) _

/-- The same of the second. -/
theorem blk1 (c : Dev nD) : iblk m c 1 t₀ = V m c main_arg1 := by
  have hz : (fun a => (win0_1.index t₀) a * main_arg1.ty.shape.size a) = fun _ => 0 :=
    funext fun a => by fin_cases a <;> decide
  unfold iblk
  exact Memref.read_access_unit_zero (Elt F) main_arg1 hz (fun a => by fin_cases a <;> decide) _

/-- The same of the third. -/
theorem blk2 (c : Dev nD) : iblk m c 2 t₀ = V m c main_v1 := by
  have hz : (fun a => (win0_2.index t₀) a * main_v1.ty.shape.size a) = fun _ => 0 :=
    funext fun a => by fin_cases a <;> decide
  unfold iblk
  exact Memref.read_access_unit_zero (Elt F) main_v1 hz (fun a => by fin_cases a <;> decide) _

/-- The same of the fourth. -/
theorem blk3 (c : Dev nD) : iblk m c 3 t₀ = V m c main_arg3 := by
  have hz : (fun a => (win0_3.index t₀) a * main_arg3.ty.shape.size a) = fun _ => 0 :=
    funext fun a => by fin_cases a <;> decide
  unfold iblk
  exact Memref.read_access_unit_zero (Elt F) main_arg3 hz (fun a => by fin_cases a <;> decide) _

/-- The same of the fifth. -/
theorem blk4 (c : Dev nD) : iblk m c 4 t₀ = V m c main_v2 := by
  have hz : (fun a => (win0_4.index t₀) a * main_v2.ty.shape.size a) = fun _ => 0 :=
    funext fun a => by fin_cases a <;> decide
  unfold iblk
  exact Memref.read_access_unit_zero (Elt F) main_v2 hz (fun a => by fin_cases a <;> decide) _

/-- The array of the output after the run. -/
theorem final5 (c : Dev nD) : (dats (F := F) m 0 c).arrAt (5 : Fin 10) cfg0.N = k0_pay13 (k0_pay7 (V m c main_v0) (V m c main_arg1) (V m c main_v1)) (k0_pay8 (V m c main_v0) (V m c main_arg1) (V m c main_v1)) (V m c main_arg3) (V m c main_v2) := by
  have ho : ((cfg0.win (5 : Fin 10)).blk t₀).view.read (Elt F) ((dats (F := F) m 0 c).arrAt (5 : Fin 10) cfg0.N)
      = (dats (F := F) m 0 c).flushed (5 : Fin 10) t₀ := by
    rw [show cfg0.N = (t₀ : Fin cfg0.N).val + 1 from rfl, (dats (F := F) m 0 c).arrAt_succ (5 : Fin 10) t₀]
    rw [flush0_5 t₀, if_pos rfl]
    exact View.read_write_univ _ _
  have hz : (fun a => (win0_5.index t₀) a * main_v3_0.ty.shape.size a) = fun _ => 0 :=
    funext fun a => by fin_cases a <;> decide
  have hr := fun f => Memref.read_access_unit_zero (Elt F) main_v3_0 hz (fun a => by fin_cases a <;> decide) f
  rw [hr] at ho
  rw [ho]
  show (cfg0.win (5 : Fin 10)).cut _ ((dats (F := F) m 0 c).after 5 t₀) = _
  rw [after0_5, blk0, blk1, blk2, blk3, blk4, out5]
  rfl

/-- The array of the input's codes after the run. -/
theorem final6 (c : Dev nD) : (dats (F := F) m 0 c).arrAt (6 : Fin 10) cfg0.N = k0_pay5 (V m c main_v0) := by
  have ho : ((cfg0.win (6 : Fin 10)).blk t₀).view.read (Elt F) ((dats (F := F) m 0 c).arrAt (6 : Fin 10) cfg0.N)
      = (dats (F := F) m 0 c).flushed (6 : Fin 10) t₀ := by
    rw [show cfg0.N = (t₀ : Fin cfg0.N).val + 1 from rfl, (dats (F := F) m 0 c).arrAt_succ (6 : Fin 10) t₀]
    rw [flush0_6 t₀, if_pos rfl]
    exact View.read_write_univ _ _
  have hz : (fun a => (win0_6.index t₀) a * main_v3_1.ty.shape.size a) = fun _ => 0 :=
    funext fun a => by fin_cases a <;> decide
  have hr := fun f => Memref.read_access_unit_zero (Elt F) main_v3_1 hz (fun a => by fin_cases a <;> decide) f
  rw [hr] at ho
  rw [ho]
  show (cfg0.win (6 : Fin 10)).cut _ ((dats (F := F) m 0 c).after 6 t₀) = _
  rw [after0_6, blk0, blk1, blk2, blk3, blk4, out6]
  rfl

/-- The array of the input's scales after the run. -/
theorem final7 (c : Dev nD) : (dats (F := F) m 0 c).arrAt (7 : Fin 10) cfg0.N = k0_pay1 (k0_pay6 (V m c main_v0)) := by
  have ho : ((cfg0.win (7 : Fin 10)).blk t₀).view.read (Elt F) ((dats (F := F) m 0 c).arrAt (7 : Fin 10) cfg0.N)
      = (dats (F := F) m 0 c).flushed (7 : Fin 10) t₀ := by
    rw [show cfg0.N = (t₀ : Fin cfg0.N).val + 1 from rfl, (dats (F := F) m 0 c).arrAt_succ (7 : Fin 10) t₀]
    rw [flush0_7 t₀, if_pos rfl]
    exact View.read_write_univ _ _
  have hz : (fun a => (win0_7.index t₀) a * main_v3_2.ty.shape.size a) = fun _ => 0 :=
    funext fun a => by fin_cases a <;> decide
  have hr := fun f => Memref.read_access_unit_zero (Elt F) main_v3_2 hz (fun a => by fin_cases a <;> decide) f
  rw [hr] at ho
  rw [ho]
  show (cfg0.win (7 : Fin 10)).cut _ ((dats (F := F) m 0 c).after 7 t₀) = _
  rw [after0_7, blk0, blk1, blk2, blk3, blk4, out7]
  rfl

/-- The array of the codes of the gated product after the run. -/
theorem final8 (c : Dev nD) : (dats (F := F) m 0 c).arrAt (8 : Fin 10) cfg0.N = k0_pay11 (k0_pay7 (V m c main_v0) (V m c main_arg1) (V m c main_v1)) (k0_pay8 (V m c main_v0) (V m c main_arg1) (V m c main_v1)) := by
  have ho : ((cfg0.win (8 : Fin 10)).blk t₀).view.read (Elt F) ((dats (F := F) m 0 c).arrAt (8 : Fin 10) cfg0.N)
      = (dats (F := F) m 0 c).flushed (8 : Fin 10) t₀ := by
    rw [show cfg0.N = (t₀ : Fin cfg0.N).val + 1 from rfl, (dats (F := F) m 0 c).arrAt_succ (8 : Fin 10) t₀]
    rw [flush0_8 t₀, if_pos rfl]
    exact View.read_write_univ _ _
  have hz : (fun a => (win0_8.index t₀) a * main_v3_3.ty.shape.size a) = fun _ => 0 :=
    funext fun a => by fin_cases a <;> decide
  have hr := fun f => Memref.read_access_unit_zero (Elt F) main_v3_3 hz (fun a => by fin_cases a <;> decide) f
  rw [hr] at ho
  rw [ho]
  show (cfg0.win (8 : Fin 10)).cut _ ((dats (F := F) m 0 c).after 8 t₀) = _
  rw [after0_8, blk0, blk1, blk2, blk3, blk4, out8]
  rfl

/-- The array of the scales of the gated product after the run. -/
theorem final9 (c : Dev nD) : (dats (F := F) m 0 c).arrAt (9 : Fin 10) cfg0.N = k0_pay2 (k0_pay12 (k0_pay7 (V m c main_v0) (V m c main_arg1) (V m c main_v1)) (k0_pay8 (V m c main_v0) (V m c main_arg1) (V m c main_v1))) := by
  have ho : ((cfg0.win (9 : Fin 10)).blk t₀).view.read (Elt F) ((dats (F := F) m 0 c).arrAt (9 : Fin 10) cfg0.N)
      = (dats (F := F) m 0 c).flushed (9 : Fin 10) t₀ := by
    rw [show cfg0.N = (t₀ : Fin cfg0.N).val + 1 from rfl, (dats (F := F) m 0 c).arrAt_succ (9 : Fin 10) t₀]
    rw [flush0_9 t₀, if_pos rfl]
    exact View.read_write_univ _ _
  have hz : (fun a => (win0_9.index t₀) a * main_v3_4.ty.shape.size a) = fun _ => 0 :=
    funext fun a => by fin_cases a <;> decide
  have hr := fun f => Memref.read_access_unit_zero (Elt F) main_v3_4 hz (fun a => by fin_cases a <;> decide) f
  rw [hr] at ho
  rw [ho]
  show (cfg0.win (9 : Fin 10)).cut _ ((dats (F := F) m 0 c).after 9 t₀) = _
  rw [after0_9, blk0, blk1, blk2, blk3, blk4, out9]
  rfl

/-! ## The operands -/

/-- The first operand is the input as 8 rows. -/
theorem V_main_v0 (c : Dev nD) : V m c main_v0 = fun i => shapeCast S8x8192 (m ((c : Thread nD τ).loc main_arg0)) shapeCasts_S8x1x8192_S8x8192 i := by
  unfold_abbrev_sides
  after_results
  rfl

/-- The third is the first weights' scales as one row. -/
theorem V_main_v1 (c : Dev nD) : V m c main_v1 = fun i => shapeCast S1x7424 (m ((c : Thread nD τ).loc main_arg2)) shapeCasts_S7424_S1x7424 i := by
  unfold_abbrev_sides
  after_results
  rfl

/-- The fifth is the second weights' scales as one row. -/
theorem V_main_v2 (c : Dev nD) : V m c main_v2 = fun i => shapeCast S1x8192 (m ((c : Thread nD τ).loc main_arg4)) shapeCasts_S8192_S1x8192 i := by
  unfold_abbrev_sides
  after_results
  rfl

/-! ## The run -/

/-- The run: each result is its payload of the operands, and the arguments end unchanged. -/
theorem run : θ_run (defs (F := F)) (onTc (τ := τ) (main (F := F))) ⟨m, fun _ => 0, ρ⟩ (fun r =>
    (∀ c : Dev nD, r.2.mem ((c.tc : Thread nD τ).loc main_v3_0) = k0_pay13 (k0_pay7 (V m c main_v0) (V m c main_arg1) (V m c main_v1)) (k0_pay8 (V m c main_v0) (V m c main_arg1) (V m c main_v1)) (V m c main_arg3) (V m c main_v2)
    ∧ r.2.mem ((c.tc : Thread nD τ).loc main_v3_1) = k0_pay5 (V m c main_v0)
    ∧ r.2.mem ((c.tc : Thread nD τ).loc main_v3_2) = k0_pay1 (k0_pay6 (V m c main_v0))
    ∧ r.2.mem ((c.tc : Thread nD τ).loc main_v3_3) = k0_pay11 (k0_pay7 (V m c main_v0) (V m c main_arg1) (V m c main_v1)) (k0_pay8 (V m c main_v0) (V m c main_arg1) (V m c main_v1))
    ∧ r.2.mem ((c.tc : Thread nD τ).loc main_v3_4) = k0_pay2 (k0_pay12 (k0_pay7 (V m c main_v0) (V m c main_arg1) (V m c main_v1)) (k0_pay8 (V m c main_v0) (V m c main_arg1) (V m c main_v1))))
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_and ((θ_run defs _ _).mono (fun r h c => ?_) (run_main (F := F) m ρ)) (unchanged m ρ)
  exact ⟨((h c).1 5).trans (final5 m c), ((h c).1 6).trans (final6 m c), ((h c).1 7).trans (final7 m c),
    ((h c).1 8).trans (final8 m c), ((h c).1 9).trans (final9 m c)⟩

end Cert.Reference

end
-- ==== Proof.V.Algebra.lean ====
/-
  The value claim: over the reals, from the same arguments, the kernel and the reference both run and end with the same five
  results, their arguments unchanged.
-/
module

public import proofs.«01_k».proof.Defs
public import proofs.«01_k».proof.Proof.KI.Launch
public import proofs.«01_k».proof.Proof.V.Link
public import proofs.«01_k».proof.Proof.V.Result
public import proofs.«01_k».proof.Proof.V.Reference

@[expose] public section

set_option maxRecDepth 16384

noncomputable section

namespace Cert.Value

open Idealize.ShloMosaic Idealize.SL.Sem Idealize.ShloMosaic.TcCoe Idealize.ShloMosaic.Pointwise

/-! ## The kernel's operands -/

section Kernel
open Cert.KernelIdeal Cert.KernelIdeal.Gen Cert.KernelIdeal.Hand
variable (m : (ℓ : Loc nD τ sig) → Buf (Elt Ideal) ℓ) (ρ : Dev nD → PrngReg) (c : Dev nD)

/-- The kernel's first operand is the input as 8 rows. -/
theorem vh0 : Vh m c main_v0 = fun i => shapeCast S8x8192 (m ((c : Thread nD τ).loc main_arg0)) shapeCasts_S8x1x8192_S8x8192 i := by
  unfold_abbrev_sides
  after_results
  rfl
/-- Its third is the first weights' scales as 58 rows of 128. -/
theorem vh1 : Vh m c main_v1 = fun i => shapeCast S58x128 (m ((c : Thread nD τ).loc main_arg2)) shapeCasts_S7424_S58x128 i := by
  unfold_abbrev_sides
  after_results
  rfl
/-- Its fifth is the second weights' scales as one row. -/
theorem vh2 : Vh m c main_v2 = fun i => shapeCast S1x8192 (m ((c : Thread nD τ).loc main_arg4)) shapeCasts_S8192_S1x8192 i := by
  unfold_abbrev_sides
  after_results
  rfl
/-- Its second is the first weights. -/
theorem vhG : Vh m c main_arg1 = m ((c : Thread nD τ).loc main_arg1) := by
  unfold_abbrev_sides
  after_results
/-- Its fourth is the second weights. -/
theorem vhD : Vh m c main_arg3 = m ((c : Thread nD τ).loc main_arg3) := by
  unfold_abbrev_sides
  after_results

/-- The kernel's run: its five results are the mathematics of its operands, and its arguments end unchanged. -/
theorem run_kernel : θ_run (defs (F := Ideal)) (onTc (τ := τ) (main (F := Ideal))) ⟨m, fun _ => 0, ρ⟩ (fun r =>
    (∀ c : Dev nD,
      r.2.mem ((c.tc : Thread nD τ).loc main_v3_0) = outx (Vh m c main_v0) (Vh m c main_arg1) (Vh m c main_v1) (Vh m c main_arg3) (Vh m c main_v2)
      ∧ r.2.mem ((c.tc : Thread nD τ).loc main_v3_1) = qx (Vh m c main_v0)
      ∧ r.2.mem ((c.tc : Thread nD τ).loc main_v3_2) = rowx (sx (Vh m c main_v0))
      ∧ r.2.mem ((c.tc : Thread nD τ).loc main_v3_3) = qh (Vh m c main_v0) (Vh m c main_arg1) (Vh m c main_v1)
      ∧ r.2.mem ((c.tc : Thread nD τ).loc main_v3_4) = rowx (sh (Vh m c main_v0) (Vh m c main_arg1) (Vh m c main_v1)))
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) := by
  refine θ_run_and ((θ_run defs _ _).mono (fun r h c => ?_) (run_main m ρ)) ((θ_run defs _ _).mono (fun r h => h.1) (Cert.KernelIdeal.Hand.frame m ρ))
  obtain ⟨W, ⟨fvX, fvSg, fvSd, fvHq, fvO, fvXc, fvXs, fvHc, fvHs, o0, o1, o2, o3, o4, e0, e1, e2, e3, e4⟩, hW⟩ := h.2.1 c
  exact ⟨(hW main_v3_0 (by decide)).trans (e0.trans (res0 c _ _ _ _ _ fvX fvSg fvSd fvHq fvO o0)),
    (hW main_v3_1 (by decide)).trans (e1.trans (res1 c _ _ _ _ _ fvX fvXc o1)),
    (hW main_v3_2 (by decide)).trans (e2.trans (res2 c _ _ _ _ _ fvX fvXs o2)),
    (hW main_v3_3 (by decide)).trans (e3.trans (res3 c _ _ _ _ _ fvX fvSg fvHc o3)),
    (hW main_v3_4 (by decide)).trans (e4.trans (res4 c _ _ _ _ _ fvX fvSg fvHs o4))⟩

end Kernel

/-! ## The two layouts of the first weights' scales -/

/-- One vector laid out as 58 rows of 128 and as one row. -/
theorem same_scales (S : KernelIdeal.S7424.Idx → EReal) :
    SameScales (fun i => shapeCast KernelIdeal.S58x128 S KernelIdeal.Gen.shapeCasts_S7424_S58x128 i)
      (fun i => shapeCast ReferenceIdeal.S1x7424 S ReferenceIdeal.Gen.shapeCasts_S7424_S1x7424 i) := by
  intro j
  pointwise

/-! ## The claim -/

/-- The value claim. -/
theorem algebraic : Cert.algebraic_KernelIdeal_ReferenceIdeal := by
  intro m g m' g' _ hm
  refine ⟨fun c => outx (KernelIdeal.Hand.Vh m c KernelIdeal.main_v0) (KernelIdeal.Hand.Vh m c KernelIdeal.main_arg1) (KernelIdeal.Hand.Vh m c KernelIdeal.main_v1) (KernelIdeal.Hand.Vh m c KernelIdeal.main_arg3) (KernelIdeal.Hand.Vh m c KernelIdeal.main_v2),
    fun c => qx (KernelIdeal.Hand.Vh m c KernelIdeal.main_v0),
    fun c => rowx (sx (KernelIdeal.Hand.Vh m c KernelIdeal.main_v0)),
    fun c => qh (KernelIdeal.Hand.Vh m c KernelIdeal.main_v0) (KernelIdeal.Hand.Vh m c KernelIdeal.main_arg1) (KernelIdeal.Hand.Vh m c KernelIdeal.main_v1),
    fun c => rowx (sh (KernelIdeal.Hand.Vh m c KernelIdeal.main_v0) (KernelIdeal.Hand.Vh m c KernelIdeal.main_arg1) (KernelIdeal.Hand.Vh m c KernelIdeal.main_v1)), ?_, ?_⟩
  · refine (θ_run _ _ _).mono (fun r h c => ?_) (run_kernel m g)
    obtain ⟨a0, a1, a2, a3, a4⟩ := h.1 c
    exact ⟨a0, a1, a2, a3, a4, h.2 c⟩
  · refine (θ_run _ _ _).mono (fun r h c => ?_) (Cert.Reference.run m' g')
    obtain ⟨a0, a1, a2, a3, a4⟩ := h.1 c
    obtain ⟨b0, b1, b2, b3, b4⟩ := hm c
    have h0 : ReferenceIdeal.Gen.V m' c ReferenceIdeal.main_v0 = KernelIdeal.Hand.Vh m c KernelIdeal.main_v0 := by
      rw [Cert.Reference.V_main_v0, vh0, b0]
    have h1 : ReferenceIdeal.Gen.V m' c ReferenceIdeal.main_arg1 = KernelIdeal.Hand.Vh m c KernelIdeal.main_arg1 := by
      rw [ReferenceIdeal.Gen.V_main_arg1, vhG]; exact b1
    have h2 : SameScales (KernelIdeal.Hand.Vh m c KernelIdeal.main_v1) (ReferenceIdeal.Gen.V m' c ReferenceIdeal.main_v1) := by
      rw [Cert.Reference.V_main_v1, vh1, b2]; exact same_scales _
    have h3 : ReferenceIdeal.Gen.V m' c ReferenceIdeal.main_arg3 = KernelIdeal.Hand.Vh m c KernelIdeal.main_arg3 := by
      rw [ReferenceIdeal.Gen.V_main_arg3, vhD]; exact b3
    have h4 : ReferenceIdeal.Gen.V m' c ReferenceIdeal.main_v2 = KernelIdeal.Hand.Vh m c KernelIdeal.main_v2 := by
      rw [Cert.Reference.V_main_v2, vh2, b4]
    rw [h0] at a1 a2
    rw [h0, h1] at a3 a4
    rw [h0, h1, h3, h4] at a0
    refine ⟨a0.trans (funext fun j => pay13_eq _ _ _ _ _ _ h2 j), a1.trans (funext fun j => rfl),
      a2.trans (funext fun j => rowRef _ j), a3.trans (funext fun j => pay11_eq _ _ _ _ h2 j),
      a4.trans (funext fun j => ?_), h.2 c⟩
    rw [pay12_eq _ _ _ _ h2]
    exact rowRefH _ j

end Cert.Value

end
-- ==== Proof.lean ====
module

public import proofs.«01_k».proof.Defs
public import proofs.«01_k».proof.Proof.K.Launch
public import proofs.«01_k».proof.Proof.KI.Launch
public import proofs.«01_k».proof.Proof.Gen.ReferenceIdeal.Frame
public import proofs.«01_k».proof.Proof.V.Algebra

@[expose] public section

noncomputable section

namespace Cert.Proof

open Idealize.ShloMosaic Idealize.SL.Sem Cert.Kernel

/-- The certificate: both frames of the kernel, the frame of the reference, that the idealization rewrote
    nothing, and that over the reals the two programs end with the same five results. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  Cert.Value.algebraic⟩

end Cert.Proof

end
